-- ==== Defs.lean ====
def Pre_Kernel [hPre_ragged : Cert.Pre_ragged.Facts] (m : (ℓ : Loc Cert.Kernel.nD Cert.Kernel.τ Cert.Kernel.sig) → Buf (Elt Bits) ℓ) : Prop :=
  ∀ c : Dev Cert.Kernel.nD,
    (Cert.Pre_ragged.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ragged [hPre_ragged : Cert.Pre_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ragged : Cert.Pre_ragged.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ragged [hReferenceIdeal : Cert.ReferenceIdeal.Facts] [hPre_ragged : Cert.Pre_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ragged : Cert.Pre_ragged.Facts),
    quiescent_Kernel (hKernel := hKernel) (hPre_ragged := hPre_ragged)
    ∧ quiescent_KernelIdeal (hKernelIdeal := hKernelIdeal) (hPre_ragged := hPre_ragged)
    ∧ quiescent_ReferenceIdeal (hReferenceIdeal := hReferenceIdeal)
    ∧ quiescent_ReferenceIdeal_pre_ragged (hReferenceIdeal := hReferenceIdeal) (hPre_ragged := hPre_ragged)
    ∧ preserves_Kernel_KernelIdeal
    ∧ algebraic_KernelIdeal_ReferenceIdeal (hKernelIdeal := hKernelIdeal) (hReferenceIdeal := hReferenceIdeal) (hPre_ragged := hPre_ragged)
-- ==== Pre_ragged.lean ====
abbrev S16384x256 : Shape := ⟨2, ![16384, 256]⟩
abbrev S17 : Shape := ⟨1, ![17]⟩
abbrev S1 : Shape := ⟨1, ![1]⟩
abbrev S_ : Shape := ⟨0, ![]⟩
abbrev S16 : Shape := ⟨1, ![16]⟩

class Facts : Prop where
  slices_S17_S1_0 : S17.Slices ![0] S1
  shapeCasts_S1_S_ : S1.ShapeCasts S_
  slices_S17_S1_16 : S17.Slices ![16] S1
  slices_S17_S16_1 : S17.Slices ![1] S16
  slices_S17_S16_0 : S17.Slices ![0] S16
  reducesTo_S16_S_d0 : S16.ReducesTo [0] S_
  h_S_ : 0 < S_.numel

variable [Facts]

def fn {F : FTy → Type} [FloatOps F] (main_arg0 : FVec F S16384x256 .f32) (main_arg1 : IVec S17 32) : IVec S_ 1 :=
  let main_v0 : IVec S1 32 := (extractStridedSlice S1 ![0] · slices_S17_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![16] · slices_S17_S1_16) main_arg1
  let main_v4 : IVec S_ 32 := shapeCast S_ main_v3 shapeCasts_S1_S_
  let main_c_0 : IVec S_ 32 := constantI S_ 32 16384#32
  let main_v5 : IVec S_ 1 := cmpi .eq main_v4 main_c_0
  let main_v6 : IVec S_ 1 := andi main_v2 main_v5
  let main_v7 : IVec S16 32 := (extractStridedSlice S16 ![1] · slices_S17_S16_1) main_arg1
  let main_v8 : IVec S16 32 := (extractStridedSlice S16 ![0] · slices_S17_S16_0) main_arg1
  let main_v9 : IVec S16 1 := cmpi .sge main_v7 main_v8
  let main_c_1 : IVec S_ 1 := constantI S_ 1 1#1
  let main_v10 : IVec S_ 1 := (fun x v => Host.reduce IntOp.andi x v reducesTo_S16_S_d0 h_S_) main_v9 main_c_1
  let main_v11 : IVec S_ 1 := andi main_v6 main_v10
  main_v11
-- ==== Kernel.lean ====
abbrev S16384x256 : Shape := ⟨2, ![16384, 256]⟩
abbrev S17 : Shape := ⟨1, ![17]⟩
abbrev S16 : Shape := ⟨1, ![16]⟩
abbrev S_ : Shape := ⟨0, ![]⟩
abbrev S128x256 : Shape := ⟨2, ![128, 256]⟩
abbrev S32768x256 : Shape := ⟨2, ![32768, 256]⟩
abbrev S64x256 : Shape := ⟨2, ![64, 256]⟩
abbrev S32x256 : Shape := ⟨2, ![32, 256]⟩
abbrev S16x256 : Shape := ⟨2, ![16, 256]⟩
abbrev S8x256 : Shape := ⟨2, ![8, 256]⟩
abbrev S4x256 : Shape := ⟨2, ![4, 256]⟩
abbrev S2x256 : Shape := ⟨2, ![2, 256]⟩
abbrev S1x256 : Shape := ⟨2, ![1, 256]⟩
abbrev S16x2048x256 : Shape := ⟨3, ![16, 2048, 256]⟩

abbrev nBuf : Table → Nat
  | .hbm => 10
  | .local .scVector .vmem => 5
  | _ => 0

abbrev bufTy : (tb : Table) → Fin (nBuf tb) → BufTy
  | .hbm, ⟨0, _⟩ => ⟨S16384x256, .f32⟩
  | .hbm, ⟨1, _⟩ => ⟨S17, .i32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S16, .i32⟩
  | .hbm, ⟨6, _⟩ => ⟨S_, .f32⟩
  | .hbm, ⟨7, _⟩ => ⟨S128x256, .f32⟩
  | .hbm, ⟨8, _⟩ => ⟨S32768x256, .f32⟩
  | .hbm, ⟨9, _⟩ => ⟨S16x2048x256, .f32⟩
  | .local .scVector .vmem, ⟨0, _⟩ => ⟨S128x256, .f32⟩
  | .local .scVector .vmem, ⟨1, _⟩ => ⟨S128x256, .f32⟩
  | .local .scVector .vmem, ⟨2, _⟩ => ⟨S128x256, .f32⟩
  | .local .scVector .vmem, ⟨3, _⟩ => ⟨S16, .i32⟩
  | .local .scVector .vmem, ⟨4, _⟩ => ⟨S16, .i32⟩
  | _, _ => ⟨S16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 48 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | _ => false

abbrev sig : RefSig :=
  ofTables nBuf rfl bufTy 4 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_arg0_scv : Ref sig .scVector := ⟨.hbm, 0, rfl⟩
abbrev main_v0_scv : Ref sig .scVector := ⟨.hbm, 2, rfl⟩
abbrev main_v3_scv : Ref sig .scVector := ⟨.hbm, 5, rfl⟩
abbrev main_v4_scv : Ref sig .scVector := ⟨.hbm, 7, rfl⟩
abbrev main_v5_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (v38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c0_i32_293 : BitVec 32 := 0#32
  let v605 : BitVec 32 := Scalar.addi v50 c0_i32_293
  let c0_i32_295_r3 : BitVec 32 := 0#32
  ![v605.toNat, 0]
def k0_cond1 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c0_i32_25 : BitVec 32 := 0#32
  let v68 : BitVec 1 := Scalar.cmpi .sgt v67 c0_i32_25
  let v69 : BitVec 32 := Scalar.extui v68
  let c0_i32_26 : BitVec 32 := 0#32
  let v70 : BitVec 1 := Scalar.cmpi .ne v69 c0_i32_26
  v70

def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c0_i32_294 : BitVec 32 := 0#32
  let v606 : BitVec 32 := Scalar.addi v49 c0_i32_294
  let c0_i32_295_r4 : BitVec 32 := 0#32
  ![v606.toNat, 0]
def k0_off3 (i : grid0.Coords) (v38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c128_i32_293 : BitVec 32 := 128#32
  let v605 : BitVec 32 := Scalar.addi v50 c128_i32_293
  let c0_i32_295_r5 : BitVec 32 := 0#32
  ![v605.toNat, 0]
def k0_cond2 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c1_i32_27 : BitVec 32 := 1#32
  let v71 : BitVec 1 := Scalar.cmpi .sgt v67 c1_i32_27
  let v72 : BitVec 32 := Scalar.extui v71
  let c0_i32_28 : BitVec 32 := 0#32
  let v73 : BitVec 1 := Scalar.cmpi .ne v72 c0_i32_28
  v73

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c128_i32_294 : BitVec 32 := 128#32
  let v606 : BitVec 32 := Scalar.addi v49 c128_i32_294
  let c0_i32_295_r6 : BitVec 32 := 0#32
  ![v606.toNat, 0]
def k0_off5 (i : grid0.Coords) (v38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c256_i32 : BitVec 32 := 256#32
  let v605 : BitVec 32 := Scalar.addi v50 c256_i32
  let c0_i32_294_r7 : BitVec 32 := 0#32
  ![v605.toNat, 0]
def k0_cond3 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c2_i32_29 : BitVec 32 := 2#32
  let v74 : BitVec 1 := Scalar.cmpi .sgt v67 c2_i32_29
  let v75 : BitVec 32 := Scalar.extui v74
  let c0_i32_30 : BitVec 32 := 0#32
  let v76 : BitVec 1 := Scalar.cmpi .ne v75 c0_i32_30
  v76

def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c256_i32_293 : BitVec 32 := 256#32
  let v606 : BitVec 32 := Scalar.addi v49 c256_i32_293
  let c0_i32_294_r8 : BitVec 32 := 0#32
  ![v606.toNat, 0]
def k0_off7 (i : grid0.Coords) (v38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c384_i32 : BitVec 32 := 384#32
  let v605 : BitVec 32 := Scalar.addi v50 c384_i32
  let c0_i32_294_r9 : BitVec 32 := 0#32
  ![v605.toNat, 0]
def k0_cond4 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c3_i32 : BitVec 32 := 3#32
  let v77 : BitVec 1 := Scalar.cmpi .sgt v67 c3_i32
  let v78 : BitVec 32 := Scalar.extui v77
  let c0_i32_31 : BitVec 32 := 0#32
  let v79 : BitVec 1 := Scalar.cmpi .ne v78 c0_i32_31
  v79

def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c384_i32_293 : BitVec 32 := 384#32
  let v606 : BitVec 32 := Scalar.addi v49 c384_i32_293
  let c0_i32_294_r10 : BitVec 32 := 0#32
  ![v606.toNat, 0]
def k0_off9 (i : grid0.Coords) (v38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c512_i32 : BitVec 32 := 512#32
  let v605 : BitVec 32 := Scalar.addi v50 c512_i32
  let c0_i32_294_r11 : BitVec 32 := 0#32
  ![v605.toNat, 0]
def k0_cond5 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c4_i32 : BitVec 32 := 4#32
  let v80 : BitVec 1 := Scalar.cmpi .sgt v67 c4_i32
  let v81 : BitVec 32 := Scalar.extui v80
  let c0_i32_32 : BitVec 32 := 0#32
  let v82 : BitVec 1 := Scalar.cmpi .ne v81 c0_i32_32
  v82

def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c512_i32_293 : BitVec 32 := 512#32
  let v606 : BitVec 32 := Scalar.addi v49 c512_i32_293
  let c0_i32_294_r12 : BitVec 32 := 0#32
  ![v606.toNat, 0]
def k0_off11 (i : grid0.Coords) (v38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c640_i32 : BitVec 32 := 640#32
  let v605 : BitVec 32 := Scalar.addi v50 c640_i32
  let c0_i32_294_r13 : BitVec 32 := 0#32
  ![v605.toNat, 0]
def k0_cond6 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c5_i32 : BitVec 32 := 5#32
  let v83 : BitVec 1 := Scalar.cmpi .sgt v67 c5_i32
  let v84 : BitVec 32 := Scalar.extui v83
  let c0_i32_33 : BitVec 32 := 0#32
  let v85 : BitVec 1 := Scalar.cmpi .ne v84 c0_i32_33
  v85

def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c640_i32_293 : BitVec 32 := 640#32
  let v606 : BitVec 32 := Scalar.addi v49 c640_i32_293
  let c0_i32_294_r14 : BitVec 32 := 0#32
  ![v606.toNat, 0]
def k0_off13 (i : grid0.Coords) (v38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c768_i32 : BitVec 32 := 768#32
  let v605 : BitVec 32 := Scalar.addi v50 c768_i32
  let c0_i32_294_r15 : BitVec 32 := 0#32
  ![v605.toNat, 0]
def k0_cond7 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c6_i32 : BitVec 32 := 6#32
  let v86 : BitVec 1 := Scalar.cmpi .sgt v67 c6_i32
  let v87 : BitVec 32 := Scalar.extui v86
  let c0_i32_34 : BitVec 32 := 0#32
  let v88 : BitVec 1 := Scalar.cmpi .ne v87 c0_i32_34
  v88

def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c768_i32_293 : BitVec 32 := 768#32
  let v606 : BitVec 32 := Scalar.addi v49 c768_i32_293
  let c0_i32_294_r16 : BitVec 32 := 0#32
  ![v606.toNat, 0]
def k0_off15 (i : grid0.Coords) (v38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c896_i32 : BitVec 32 := 896#32
  let v605 : BitVec 32 := Scalar.addi v50 c896_i32
  let c0_i32_294_r17 : BitVec 32 := 0#32
  ![v605.toNat, 0]
def k0_cond8 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c7_i32 : BitVec 32 := 7#32
  let v89 : BitVec 1 := Scalar.cmpi .sgt v67 c7_i32
  let v90 : BitVec 32 := Scalar.extui v89
  let c0_i32_35 : BitVec 32 := 0#32
  let v91 : BitVec 1 := Scalar.cmpi .ne v90 c0_i32_35
  v91

def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c896_i32_293 : BitVec 32 := 896#32
  let v606 : BitVec 32 := Scalar.addi v49 c896_i32_293
  let c0_i32_294_r18 : BitVec 32 := 0#32
  ![v606.toNat, 0]
def k0_off17 (i : grid0.Coords) (v38 : BitVec 32) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c1024_i32_16 : BitVec 32 := 1024#32
  let c0_i32_15 : BitVec 32 := 0#32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let v605 : BitVec 32 := Scalar.addi v50 v102
  let c0_i32_295_r19 : BitVec 32 := 0#32
  ![v605.toNat, 0]
def k0_cond9 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c1_i32_55 : BitVec 32 := 1#32
  let v130 : BitVec 1 := Scalar.cmpi .eq v129 c1_i32_55
  let v131 : BitVec 32 := Scalar.extui v130
  let c0_i32_56 : BitVec 32 := 0#32
  let v132 : BitVec 1 := Scalar.cmpi .ne v131 c0_i32_56
  v132

def k0_off18 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let v606 : BitVec 32 := Scalar.addi v49 v102
  let c0_i32_295_r20 : BitVec 32 := 0#32
  ![v606.toNat, 0]
def k0_off19 (i : grid0.Coords) (v38 : BitVec 32) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c1024_i32_16 : BitVec 32 := 1024#32
  let c0_i32_15 : BitVec 32 := 0#32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let v605 : BitVec 32 := Scalar.addi v50 v134
  let c0_i32_295_r21 : BitVec 32 := 0#32
  ![v605.toNat, 0]
def k0_cond10 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c1_i32_70 : BitVec 32 := 1#32
  let v162 : BitVec 1 := Scalar.cmpi .eq v161 c1_i32_70
  let v163 : BitVec 32 := Scalar.extui v162
  let c0_i32_71 : BitVec 32 := 0#32
  let v164 : BitVec 1 := Scalar.cmpi .ne v163 c0_i32_71
  v164

def k0_off20 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let v606 : BitVec 32 := Scalar.addi v49 v134
  let c0_i32_295_r22 : BitVec 32 := 0#32
  ![v606.toNat, 0]
def k0_off21 (i : grid0.Coords) (v38 : BitVec 32) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c1024_i32_16 : BitVec 32 := 1024#32
  let c0_i32_15 : BitVec 32 := 0#32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c32_i32_72 : BitVec 32 := 32#32
  let v165 : BitVec 32 := Scalar.muli v161 c32_i32_72
  let v166 : BitVec 32 := Scalar.addi v134 v165
  let v605 : BitVec 32 := Scalar.addi v50 v166
  let c0_i32_295_r23 : BitVec 32 := 0#32
  ![v605.toNat, 0]
def k0_cond11 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_73 : BitVec 32 := 0#32
  let v168 : BitVec 1 := Scalar.cmpi .sgt v101 c0_i32_73
  let v169 : BitVec 32 := Scalar.extui v168
  let c0_i32_74 : BitVec 32 := 0#32
  let v170 : BitVec 1 := Scalar.cmpi .slt v101 c0_i32_74
  let v171 : BitVec 32 := Scalar.extui v170
  let v172 : BitVec 32 := Scalar.subi v169 v171
  let c16_i32 : BitVec 32 := 16#32
  let c0_i32_75 : BitVec 32 := 0#32
  let v173 : BitVec 1 := Scalar.cmpi .sgt c16_i32 c0_i32_75
  let v174 : BitVec 32 := Scalar.extui v173
  let c0_i32_76 : BitVec 32 := 0#32
  let v175 : BitVec 1 := Scalar.cmpi .slt c16_i32 c0_i32_76
  let v176 : BitVec 32 := Scalar.extui v175
  let v177 : BitVec 32 := Scalar.subi v174 v176
  let v178 : BitVec 1 := Scalar.cmpi .ne v172 v177
  let v179 : BitVec 32 := Scalar.remsi v101 c16_i32
  let c0_i32_77 : BitVec 32 := 0#32
  let v180 : BitVec 1 := Scalar.cmpi .ne v179 c0_i32_77
  let v181 : BitVec 1 := Scalar.andi v178 v180
  let v167 : BitVec 32 := Scalar.divsi v101 c16_i32
  let c1_i32_78 : BitVec 32 := 1#32
  let v182 : BitVec 32 := Scalar.subi v167 c1_i32_78
  let v183 : BitVec 32 := Scalar.select v181 v182 v167
  let c2_i32_79 : BitVec 32 := 2#32
  let c0_i32_80 : BitVec 32 := 0#32
  let v184 : BitVec 1 := Scalar.cmpi .eq c2_i32_79 c0_i32_80
  let c1_i32_81 : BitVec 32 := 1#32
  let v185 : BitVec 32 := Scalar.select v184 c1_i32_81 c2_i32_79
  let v186 : BitVec 32 := Scalar.remsi v183 v185
  let c0_i32_83 : BitVec 32 := 0#32
  let v188 : BitVec 1 := Scalar.cmpi .slt v186 c0_i32_83
  let c0_i32_84 : BitVec 32 := 0#32
  let v189 : BitVec 1 := Scalar.cmpi .slt v185 c0_i32_84
  let v190 : BitVec 1 := Scalar.xori v188 v189
  let c0_i32_82 : BitVec 32 := 0#32
  let v187 : BitVec 1 := Scalar.cmpi .ne v186 c0_i32_82
  let v191 : BitVec 1 := Scalar.andi v190 v187
  let v192 : BitVec 32 := Scalar.addi v186 v185
  let v193 : BitVec 32 := Scalar.select v191 v192 v186
  let c1_i32_85 : BitVec 32 := 1#32
  let v194 : BitVec 1 := Scalar.cmpi .eq v193 c1_i32_85
  let v195 : BitVec 32 := Scalar.extui v194
  let c0_i32_86 : BitVec 32 := 0#32
  let v196 : BitVec 1 := Scalar.cmpi .ne v195 c0_i32_86
  v196

def k0_off22 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c32_i32_72 : BitVec 32 := 32#32
  let v165 : BitVec 32 := Scalar.muli v161 c32_i32_72
  let v166 : BitVec 32 := Scalar.addi v134 v165
  let v606 : BitVec 32 := Scalar.addi v49 v166
  let c0_i32_295_r24 : BitVec 32 := 0#32
  ![v606.toNat, 0]
def k0_off23 (i : grid0.Coords) (v38 : BitVec 32) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c1024_i32_16 : BitVec 32 := 1024#32
  let c0_i32_15 : BitVec 32 := 0#32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c32_i32_72 : BitVec 32 := 32#32
  let v165 : BitVec 32 := Scalar.muli v161 c32_i32_72
  let v166 : BitVec 32 := Scalar.addi v134 v165
  let c0_i32_73 : BitVec 32 := 0#32
  let v168 : BitVec 1 := Scalar.cmpi .sgt v101 c0_i32_73
  let v169 : BitVec 32 := Scalar.extui v168
  let c0_i32_74 : BitVec 32 := 0#32
  let v170 : BitVec 1 := Scalar.cmpi .slt v101 c0_i32_74
  let v171 : BitVec 32 := Scalar.extui v170
  let v172 : BitVec 32 := Scalar.subi v169 v171
  let c16_i32 : BitVec 32 := 16#32
  let c0_i32_75 : BitVec 32 := 0#32
  let v173 : BitVec 1 := Scalar.cmpi .sgt c16_i32 c0_i32_75
  let v174 : BitVec 32 := Scalar.extui v173
  let c0_i32_76 : BitVec 32 := 0#32
  let v175 : BitVec 1 := Scalar.cmpi .slt c16_i32 c0_i32_76
  let v176 : BitVec 32 := Scalar.extui v175
  let v177 : BitVec 32 := Scalar.subi v174 v176
  let v178 : BitVec 1 := Scalar.cmpi .ne v172 v177
  let v179 : BitVec 32 := Scalar.remsi v101 c16_i32
  let c0_i32_77 : BitVec 32 := 0#32
  let v180 : BitVec 1 := Scalar.cmpi .ne v179 c0_i32_77
  let v181 : BitVec 1 := Scalar.andi v178 v180
  let v167 : BitVec 32 := Scalar.divsi v101 c16_i32
  let c1_i32_78 : BitVec 32 := 1#32
  let v182 : BitVec 32 := Scalar.subi v167 c1_i32_78
  let v183 : BitVec 32 := Scalar.select v181 v182 v167
  let c2_i32_79 : BitVec 32 := 2#32
  let c0_i32_80 : BitVec 32 := 0#32
  let v184 : BitVec 1 := Scalar.cmpi .eq c2_i32_79 c0_i32_80
  let c1_i32_81 : BitVec 32 := 1#32
  let v185 : BitVec 32 := Scalar.select v184 c1_i32_81 c2_i32_79
  let v186 : BitVec 32 := Scalar.remsi v183 v185
  let c0_i32_83 : BitVec 32 := 0#32
  let v188 : BitVec 1 := Scalar.cmpi .slt v186 c0_i32_83
  let c0_i32_84 : BitVec 32 := 0#32
  let v189 : BitVec 1 := Scalar.cmpi .slt v185 c0_i32_84
  let v190 : BitVec 1 := Scalar.xori v188 v189
  let c0_i32_82 : BitVec 32 := 0#32
  let v187 : BitVec 1 := Scalar.cmpi .ne v186 c0_i32_82
  let v191 : BitVec 1 := Scalar.andi v190 v187
  let v192 : BitVec 32 := Scalar.addi v186 v185
  let v193 : BitVec 32 := Scalar.select v191 v192 v186
  let c16_i32_87 : BitVec 32 := 16#32
  let v197 : BitVec 32 := Scalar.muli v193 c16_i32_87
  let v198 : BitVec 32 := Scalar.addi v166 v197
  let v605 : BitVec 32 := Scalar.addi v50 v198
  let c0_i32_295_r25 : BitVec 32 := 0#32
  ![v605.toNat, 0]
def k0_cond12 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_88 : BitVec 32 := 0#32
  let v200 : BitVec 1 := Scalar.cmpi .sgt v101 c0_i32_88
  let v201 : BitVec 32 := Scalar.extui v200
  let c0_i32_89 : BitVec 32 := 0#32
  let v202 : BitVec 1 := Scalar.cmpi .slt v101 c0_i32_89
  let v203 : BitVec 32 := Scalar.extui v202
  let v204 : BitVec 32 := Scalar.subi v201 v203
  let c8_i32 : BitVec 32 := 8#32
  let c0_i32_90 : BitVec 32 := 0#32
  let v205 : BitVec 1 := Scalar.cmpi .sgt c8_i32 c0_i32_90
  let v206 : BitVec 32 := Scalar.extui v205
  let c0_i32_91 : BitVec 32 := 0#32
  let v207 : BitVec 1 := Scalar.cmpi .slt c8_i32 c0_i32_91
  let v208 : BitVec 32 := Scalar.extui v207
  let v209 : BitVec 32 := Scalar.subi v206 v208
  let v210 : BitVec 1 := Scalar.cmpi .ne v204 v209
  let v211 : BitVec 32 := Scalar.remsi v101 c8_i32
  let c0_i32_92 : BitVec 32 := 0#32
  let v212 : BitVec 1 := Scalar.cmpi .ne v211 c0_i32_92
  let v213 : BitVec 1 := Scalar.andi v210 v212
  let v199 : BitVec 32 := Scalar.divsi v101 c8_i32
  let c1_i32_93 : BitVec 32 := 1#32
  let v214 : BitVec 32 := Scalar.subi v199 c1_i32_93
  let v215 : BitVec 32 := Scalar.select v213 v214 v199
  let c2_i32_94 : BitVec 32 := 2#32
  let c0_i32_95 : BitVec 32 := 0#32
  let v216 : BitVec 1 := Scalar.cmpi .eq c2_i32_94 c0_i32_95
  let c1_i32_96 : BitVec 32 := 1#32
  let v217 : BitVec 32 := Scalar.select v216 c1_i32_96 c2_i32_94
  let v218 : BitVec 32 := Scalar.remsi v215 v217
  let c0_i32_98 : BitVec 32 := 0#32
  let v220 : BitVec 1 := Scalar.cmpi .slt v218 c0_i32_98
  let c0_i32_99 : BitVec 32 := 0#32
  let v221 : BitVec 1 := Scalar.cmpi .slt v217 c0_i32_99
  let v222 : BitVec 1 := Scalar.xori v220 v221
  let c0_i32_97 : BitVec 32 := 0#32
  let v219 : BitVec 1 := Scalar.cmpi .ne v218 c0_i32_97
  let v223 : BitVec 1 := Scalar.andi v222 v219
  let v224 : BitVec 32 := Scalar.addi v218 v217
  let v225 : BitVec 32 := Scalar.select v223 v224 v218
  let c1_i32_100 : BitVec 32 := 1#32
  let v226 : BitVec 1 := Scalar.cmpi .eq v225 c1_i32_100
  let v227 : BitVec 32 := Scalar.extui v226
  let c0_i32_101 : BitVec 32 := 0#32
  let v228 : BitVec 1 := Scalar.cmpi .ne v227 c0_i32_101
  v228

def k0_off24 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c32_i32_72 : BitVec 32 := 32#32
  let v165 : BitVec 32 := Scalar.muli v161 c32_i32_72
  let v166 : BitVec 32 := Scalar.addi v134 v165
  let c0_i32_73 : BitVec 32 := 0#32
  let v168 : BitVec 1 := Scalar.cmpi .sgt v101 c0_i32_73
  let v169 : BitVec 32 := Scalar.extui v168
  let c0_i32_74 : BitVec 32 := 0#32
  let v170 : BitVec 1 := Scalar.cmpi .slt v101 c0_i32_74
  let v171 : BitVec 32 := Scalar.extui v170
  let v172 : BitVec 32 := Scalar.subi v169 v171
  let c16_i32 : BitVec 32 := 16#32
  let c0_i32_75 : BitVec 32 := 0#32
  let v173 : BitVec 1 := Scalar.cmpi .sgt c16_i32 c0_i32_75
  let v174 : BitVec 32 := Scalar.extui v173
  let c0_i32_76 : BitVec 32 := 0#32
  let v175 : BitVec 1 := Scalar.cmpi .slt c16_i32 c0_i32_76
  let v176 : BitVec 32 := Scalar.extui v175
  let v177 : BitVec 32 := Scalar.subi v174 v176
  let v178 : BitVec 1 := Scalar.cmpi .ne v172 v177
  let v179 : BitVec 32 := Scalar.remsi v101 c16_i32
  let c0_i32_77 : BitVec 32 := 0#32
  let v180 : BitVec 1 := Scalar.cmpi .ne v179 c0_i32_77
  let v181 : BitVec 1 := Scalar.andi v178 v180
  let v167 : BitVec 32 := Scalar.divsi v101 c16_i32
  let c1_i32_78 : BitVec 32 := 1#32
  let v182 : BitVec 32 := Scalar.subi v167 c1_i32_78
  let v183 : BitVec 32 := Scalar.select v181 v182 v167
  let c2_i32_79 : BitVec 32 := 2#32
  let c0_i32_80 : BitVec 32 := 0#32
  let v184 : BitVec 1 := Scalar.cmpi .eq c2_i32_79 c0_i32_80
  let c1_i32_81 : BitVec 32 := 1#32
  let v185 : BitVec 32 := Scalar.select v184 c1_i32_81 c2_i32_79
  let v186 : BitVec 32 := Scalar.remsi v183 v185
  let c0_i32_83 : BitVec 32 := 0#32
  let v188 : BitVec 1 := Scalar.cmpi .slt v186 c0_i32_83
  let c0_i32_84 : BitVec 32 := 0#32
  let v189 : BitVec 1 := Scalar.cmpi .slt v185 c0_i32_84
  let v190 : BitVec 1 := Scalar.xori v188 v189
  let c0_i32_82 : BitVec 32 := 0#32
  let v187 : BitVec 1 := Scalar.cmpi .ne v186 c0_i32_82
  let v191 : BitVec 1 := Scalar.andi v190 v187
  let v192 : BitVec 32 := Scalar.addi v186 v185
  let v193 : BitVec 32 := Scalar.select v191 v192 v186
  let c16_i32_87 : BitVec 32 := 16#32
  let v197 : BitVec 32 := Scalar.muli v193 c16_i32_87
  let v198 : BitVec 32 := Scalar.addi v166 v197
  let v606 : BitVec 32 := Scalar.addi v49 v198
  let c0_i32_295_r26 : BitVec 32 := 0#32
  ![v606.toNat, 0]
def k0_off25 (i : grid0.Coords) (v38 : BitVec 32) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c1024_i32_16 : BitVec 32 := 1024#32
  let c0_i32_15 : BitVec 32 := 0#32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c32_i32_72 : BitVec 32 := 32#32
  let v165 : BitVec 32 := Scalar.muli v161 c32_i32_72
  let v166 : BitVec 32 := Scalar.addi v134 v165
  let c0_i32_73 : BitVec 32 := 0#32
  let v168 : BitVec 1 := Scalar.cmpi .sgt v101 c0_i32_73
  let v169 : BitVec 32 := Scalar.extui v168
  let c0_i32_74 : BitVec 32 := 0#32
  let v170 : BitVec 1 := Scalar.cmpi .slt v101 c0_i32_74
  let v171 : BitVec 32 := Scalar.extui v170
  let v172 : BitVec 32 := Scalar.subi v169 v171
  let c16_i32 : BitVec 32 := 16#32
  let c0_i32_75 : BitVec 32 := 0#32
  let v173 : BitVec 1 := Scalar.cmpi .sgt c16_i32 c0_i32_75
  let v174 : BitVec 32 := Scalar.extui v173
  let c0_i32_76 : BitVec 32 := 0#32
  let v175 : BitVec 1 := Scalar.cmpi .slt c16_i32 c0_i32_76
  let v176 : BitVec 32 := Scalar.extui v175
  let v177 : BitVec 32 := Scalar.subi v174 v176
  let v178 : BitVec 1 := Scalar.cmpi .ne v172 v177
  let v179 : BitVec 32 := Scalar.remsi v101 c16_i32
  let c0_i32_77 : BitVec 32 := 0#32
  let v180 : BitVec 1 := Scalar.cmpi .ne v179 c0_i32_77
  let v181 : BitVec 1 := Scalar.andi v178 v180
  let v167 : BitVec 32 := Scalar.divsi v101 c16_i32
  let c1_i32_78 : BitVec 32 := 1#32
  let v182 : BitVec 32 := Scalar.subi v167 c1_i32_78
  let v183 : BitVec 32 := Scalar.select v181 v182 v167
  let c2_i32_79 : BitVec 32 := 2#32
  let c0_i32_80 : BitVec 32 := 0#32
  let v184 : BitVec 1 := Scalar.cmpi .eq c2_i32_79 c0_i32_80
  let c1_i32_81 : BitVec 32 := 1#32
  let v185 : BitVec 32 := Scalar.select v184 c1_i32_81 c2_i32_79
  let v186 : BitVec 32 := Scalar.remsi v183 v185
  let c0_i32_83 : BitVec 32 := 0#32
  let v188 : BitVec 1 := Scalar.cmpi .slt v186 c0_i32_83
  let c0_i32_84 : BitVec 32 := 0#32
  let v189 : BitVec 1 := Scalar.cmpi .slt v185 c0_i32_84
  let v190 : BitVec 1 := Scalar.xori v188 v189
  let c0_i32_82 : BitVec 32 := 0#32
  let v187 : BitVec 1 := Scalar.cmpi .ne v186 c0_i32_82
  let v191 : BitVec 1 := Scalar.andi v190 v187
  let v192 : BitVec 32 := Scalar.addi v186 v185
  let v193 : BitVec 32 := Scalar.select v191 v192 v186
  let c16_i32_87 : BitVec 32 := 16#32
  let v197 : BitVec 32 := Scalar.muli v193 c16_i32_87
  let v198 : BitVec 32 := Scalar.addi v166 v197
  let c0_i32_88 : BitVec 32 := 0#32
  let v200 : BitVec 1 := Scalar.cmpi .sgt v101 c0_i32_88
  let v201 : BitVec 32 := Scalar.extui v200
  let c0_i32_89 : BitVec 32 := 0#32
  let v202 : BitVec 1 := Scalar.cmpi .slt v101 c0_i32_89
  let v203 : BitVec 32 := Scalar.extui v202
  let v204 : BitVec 32 := Scalar.subi v201 v203
  let c8_i32 : BitVec 32 := 8#32
  let c0_i32_90 : BitVec 32 := 0#32
  let v205 : BitVec 1 := Scalar.cmpi .sgt c8_i32 c0_i32_90
  let v206 : BitVec 32 := Scalar.extui v205
  let c0_i32_91 : BitVec 32 := 0#32
  let v207 : BitVec 1 := Scalar.cmpi .slt c8_i32 c0_i32_91
  let v208 : BitVec 32 := Scalar.extui v207
  let v209 : BitVec 32 := Scalar.subi v206 v208
  let v210 : BitVec 1 := Scalar.cmpi .ne v204 v209
  let v211 : BitVec 32 := Scalar.remsi v101 c8_i32
  let c0_i32_92 : BitVec 32 := 0#32
  let v212 : BitVec 1 := Scalar.cmpi .ne v211 c0_i32_92
  let v213 : BitVec 1 := Scalar.andi v210 v212
  let v199 : BitVec 32 := Scalar.divsi v101 c8_i32
  let c1_i32_93 : BitVec 32 := 1#32
  let v214 : BitVec 32 := Scalar.subi v199 c1_i32_93
  let v215 : BitVec 32 := Scalar.select v213 v214 v199
  let c2_i32_94 : BitVec 32 := 2#32
  let c0_i32_95 : BitVec 32 := 0#32
  let v216 : BitVec 1 := Scalar.cmpi .eq c2_i32_94 c0_i32_95
  let c1_i32_96 : BitVec 32 := 1#32
  let v217 : BitVec 32 := Scalar.select v216 c1_i32_96 c2_i32_94
  let v218 : BitVec 32 := Scalar.remsi v215 v217
  let c0_i32_98 : BitVec 32 := 0#32
  let v220 : BitVec 1 := Scalar.cmpi .slt v218 c0_i32_98
  let c0_i32_99 : BitVec 32 := 0#32
  let v221 : BitVec 1 := Scalar.cmpi .slt v217 c0_i32_99
  let v222 : BitVec 1 := Scalar.xori v220 v221
  let c0_i32_97 : BitVec 32 := 0#32
  let v219 : BitVec 1 := Scalar.cmpi .ne v218 c0_i32_97
  let v223 : BitVec 1 := Scalar.andi v222 v219
  let v224 : BitVec 32 := Scalar.addi v218 v217
  let v225 : BitVec 32 := Scalar.select v223 v224 v218
  let c8_i32_102 : BitVec 32 := 8#32
  let v229 : BitVec 32 := Scalar.muli v225 c8_i32_102
  let v230 : BitVec 32 := Scalar.addi v198 v229
  let v605 : BitVec 32 := Scalar.addi v50 v230
  let c0_i32_295_r27 : BitVec 32 := 0#32
  ![v605.toNat, 0]
def k0_cond13 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_104 : BitVec 32 := 0#32
  let v232 : BitVec 1 := Scalar.cmpi .sgt v101 c0_i32_104
  let v233 : BitVec 32 := Scalar.extui v232
  let c0_i32_105 : BitVec 32 := 0#32
  let v234 : BitVec 1 := Scalar.cmpi .slt v101 c0_i32_105
  let v235 : BitVec 32 := Scalar.extui v234
  let v236 : BitVec 32 := Scalar.subi v233 v235
  let c4_i32_103 : BitVec 32 := 4#32
  let c0_i32_106 : BitVec 32 := 0#32
  let v237 : BitVec 1 := Scalar.cmpi .sgt c4_i32_103 c0_i32_106
  let v238 : BitVec 32 := Scalar.extui v237
  let c0_i32_107 : BitVec 32 := 0#32
  let v239 : BitVec 1 := Scalar.cmpi .slt c4_i32_103 c0_i32_107
  let v240 : BitVec 32 := Scalar.extui v239
  let v241 : BitVec 32 := Scalar.subi v238 v240
  let v242 : BitVec 1 := Scalar.cmpi .ne v236 v241
  let v243 : BitVec 32 := Scalar.remsi v101 c4_i32_103
  let c0_i32_108 : BitVec 32 := 0#32
  let v244 : BitVec 1 := Scalar.cmpi .ne v243 c0_i32_108
  let v245 : BitVec 1 := Scalar.andi v242 v244
  let v231 : BitVec 32 := Scalar.divsi v101 c4_i32_103
  let c1_i32_109 : BitVec 32 := 1#32
  let v246 : BitVec 32 := Scalar.subi v231 c1_i32_109
  let v247 : BitVec 32 := Scalar.select v245 v246 v231
  let c2_i32_110 : BitVec 32 := 2#32
  let c0_i32_111 : BitVec 32 := 0#32
  let v248 : BitVec 1 := Scalar.cmpi .eq c2_i32_110 c0_i32_111
  let c1_i32_112 : BitVec 32 := 1#32
  let v249 : BitVec 32 := Scalar.select v248 c1_i32_112 c2_i32_110
  let v250 : BitVec 32 := Scalar.remsi v247 v249
  let c0_i32_114 : BitVec 32 := 0#32
  let v252 : BitVec 1 := Scalar.cmpi .slt v250 c0_i32_114
  let c0_i32_115 : BitVec 32 := 0#32
  let v253 : BitVec 1 := Scalar.cmpi .slt v249 c0_i32_115
  let v254 : BitVec 1 := Scalar.xori v252 v253
  let c0_i32_113 : BitVec 32 := 0#32
  let v251 : BitVec 1 := Scalar.cmpi .ne v250 c0_i32_113
  let v255 : BitVec 1 := Scalar.andi v254 v251
  let v256 : BitVec 32 := Scalar.addi v250 v249
  let v257 : BitVec 32 := Scalar.select v255 v256 v250
  let c1_i32_116 : BitVec 32 := 1#32
  let v258 : BitVec 1 := Scalar.cmpi .eq v257 c1_i32_116
  let v259 : BitVec 32 := Scalar.extui v258
  let c0_i32_117 : BitVec 32 := 0#32
  let v260 : BitVec 1 := Scalar.cmpi .ne v259 c0_i32_117
  v260

def k0_off26 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c32_i32_72 : BitVec 32 := 32#32
  let v165 : BitVec 32 := Scalar.muli v161 c32_i32_72
  let v166 : BitVec 32 := Scalar.addi v134 v165
  let c0_i32_73 : BitVec 32 := 0#32
  let v168 : BitVec 1 := Scalar.cmpi .sgt v101 c0_i32_73
  let v169 : BitVec 32 := Scalar.extui v168
  let c0_i32_74 : BitVec 32 := 0#32
  let v170 : BitVec 1 := Scalar.cmpi .slt v101 c0_i32_74
  let v171 : BitVec 32 := Scalar.extui v170
  let v172 : BitVec 32 := Scalar.subi v169 v171
  let c16_i32 : BitVec 32 := 16#32
  let c0_i32_75 : BitVec 32 := 0#32
  let v173 : BitVec 1 := Scalar.cmpi .sgt c16_i32 c0_i32_75
  let v174 : BitVec 32 := Scalar.extui v173
  let c0_i32_76 : BitVec 32 := 0#32
  let v175 : BitVec 1 := Scalar.cmpi .slt c16_i32 c0_i32_76
  let v176 : BitVec 32 := Scalar.extui v175
  let v177 : BitVec 32 := Scalar.subi v174 v176
  let v178 : BitVec 1 := Scalar.cmpi .ne v172 v177
  let v179 : BitVec 32 := Scalar.remsi v101 c16_i32
  let c0_i32_77 : BitVec 32 := 0#32
  let v180 : BitVec 1 := Scalar.cmpi .ne v179 c0_i32_77
  let v181 : BitVec 1 := Scalar.andi v178 v180
  let v167 : BitVec 32 := Scalar.divsi v101 c16_i32
  let c1_i32_78 : BitVec 32 := 1#32
  let v182 : BitVec 32 := Scalar.subi v167 c1_i32_78
  let v183 : BitVec 32 := Scalar.select v181 v182 v167
  let c2_i32_79 : BitVec 32 := 2#32
  let c0_i32_80 : BitVec 32 := 0#32
  let v184 : BitVec 1 := Scalar.cmpi .eq c2_i32_79 c0_i32_80
  let c1_i32_81 : BitVec 32 := 1#32
  let v185 : BitVec 32 := Scalar.select v184 c1_i32_81 c2_i32_79
  let v186 : BitVec 32 := Scalar.remsi v183 v185
  let c0_i32_83 : BitVec 32 := 0#32
  let v188 : BitVec 1 := Scalar.cmpi .slt v186 c0_i32_83
  let c0_i32_84 : BitVec 32 := 0#32
  let v189 : BitVec 1 := Scalar.cmpi .slt v185 c0_i32_84
  let v190 : BitVec 1 := Scalar.xori v188 v189
  let c0_i32_82 : BitVec 32 := 0#32
  let v187 : BitVec 1 := Scalar.cmpi .ne v186 c0_i32_82
  let v191 : BitVec 1 := Scalar.andi v190 v187
  let v192 : BitVec 32 := Scalar.addi v186 v185
  let v193 : BitVec 32 := Scalar.select v191 v192 v186
  let c16_i32_87 : BitVec 32 := 16#32
  let v197 : BitVec 32 := Scalar.muli v193 c16_i32_87
  let v198 : BitVec 32 := Scalar.addi v166 v197
  let c0_i32_88 : BitVec 32 := 0#32
  let v200 : BitVec 1 := Scalar.cmpi .sgt v101 c0_i32_88
  let v201 : BitVec 32 := Scalar.extui v200
  let c0_i32_89 : BitVec 32 := 0#32
  let v202 : BitVec 1 := Scalar.cmpi .slt v101 c0_i32_89
  let v203 : BitVec 32 := Scalar.extui v202
  let v204 : BitVec 32 := Scalar.subi v201 v203
  let c8_i32 : BitVec 32 := 8#32
  let c0_i32_90 : BitVec 32 := 0#32
  let v205 : BitVec 1 := Scalar.cmpi .sgt c8_i32 c0_i32_90
  let v206 : BitVec 32 := Scalar.extui v205
  let c0_i32_91 : BitVec 32 := 0#32
  let v207 : BitVec 1 := Scalar.cmpi .slt c8_i32 c0_i32_91
  let v208 : BitVec 32 := Scalar.extui v207
  let v209 : BitVec 32 := Scalar.subi v206 v208
  let v210 : BitVec 1 := Scalar.cmpi .ne v204 v209
  let v211 : BitVec 32 := Scalar.remsi v101 c8_i32
  let c0_i32_92 : BitVec 32 := 0#32
  let v212 : BitVec 1 := Scalar.cmpi .ne v211 c0_i32_92
  let v213 : BitVec 1 := Scalar.andi v210 v212
  let v199 : BitVec 32 := Scalar.divsi v101 c8_i32
  let c1_i32_93 : BitVec 32 := 1#32
  let v214 : BitVec 32 := Scalar.subi v199 c1_i32_93
  let v215 : BitVec 32 := Scalar.select v213 v214 v199
  let c2_i32_94 : BitVec 32 := 2#32
  let c0_i32_95 : BitVec 32 := 0#32
  let v216 : BitVec 1 := Scalar.cmpi .eq c2_i32_94 c0_i32_95
  let c1_i32_96 : BitVec 32 := 1#32
  let v217 : BitVec 32 := Scalar.select v216 c1_i32_96 c2_i32_94
  let v218 : BitVec 32 := Scalar.remsi v215 v217
  let c0_i32_98 : BitVec 32 := 0#32
  let v220 : BitVec 1 := Scalar.cmpi .slt v218 c0_i32_98
  let c0_i32_99 : BitVec 32 := 0#32
  let v221 : BitVec 1 := Scalar.cmpi .slt v217 c0_i32_99
  let v222 : BitVec 1 := Scalar.xori v220 v221
  let c0_i32_97 : BitVec 32 := 0#32
  let v219 : BitVec 1 := Scalar.cmpi .ne v218 c0_i32_97
  let v223 : BitVec 1 := Scalar.andi v222 v219
  let v224 : BitVec 32 := Scalar.addi v218 v217
  let v225 : BitVec 32 := Scalar.select v223 v224 v218
  let c8_i32_102 : BitVec 32 := 8#32
  let v229 : BitVec 32 := Scalar.muli v225 c8_i32_102
  let v230 : BitVec 32 := Scalar.addi v198 v229
  let v606 : BitVec 32 := Scalar.addi v49 v230
  let c0_i32_295_r28 : BitVec 32 := 0#32
  ![v606.toNat, 0]
def k0_off27 (i : grid0.Coords) (v38 : BitVec 32) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c1024_i32_16 : BitVec 32 := 1024#32
  let c0_i32_15 : BitVec 32 := 0#32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c32_i32_72 : BitVec 32 := 32#32
  let v165 : BitVec 32 := Scalar.muli v161 c32_i32_72
  let v166 : BitVec 32 := Scalar.addi v134 v165
  let c0_i32_73 : BitVec 32 := 0#32
  let v168 : BitVec 1 := Scalar.cmpi .sgt v101 c0_i32_73
  let v169 : BitVec 32 := Scalar.extui v168
  let c0_i32_74 : BitVec 32 := 0#32
  let v170 : BitVec 1 := Scalar.cmpi .slt v101 c0_i32_74
  let v171 : BitVec 32 := Scalar.extui v170
  let v172 : BitVec 32 := Scalar.subi v169 v171
  let c16_i32 : BitVec 32 := 16#32
  let c0_i32_75 : BitVec 32 := 0#32
  let v173 : BitVec 1 := Scalar.cmpi .sgt c16_i32 c0_i32_75
  let v174 : BitVec 32 := Scalar.extui v173
  let c0_i32_76 : BitVec 32 := 0#32
  let v175 : BitVec 1 := Scalar.cmpi .slt c16_i32 c0_i32_76
  let v176 : BitVec 32 := Scalar.extui v175
  let v177 : BitVec 32 := Scalar.subi v174 v176
  let v178 : BitVec 1 := Scalar.cmpi .ne v172 v177
  let v179 : BitVec 32 := Scalar.remsi v101 c16_i32
  let c0_i32_77 : BitVec 32 := 0#32
  let v180 : BitVec 1 := Scalar.cmpi .ne v179 c0_i32_77
  let v181 : BitVec 1 := Scalar.andi v178 v180
  let v167 : BitVec 32 := Scalar.divsi v101 c16_i32
  let c1_i32_78 : BitVec 32 := 1#32
  let v182 : BitVec 32 := Scalar.subi v167 c1_i32_78
  let v183 : BitVec 32 := Scalar.select v181 v182 v167
  let c2_i32_79 : BitVec 32 := 2#32
  let c0_i32_80 : BitVec 32 := 0#32
  let v184 : BitVec 1 := Scalar.cmpi .eq c2_i32_79 c0_i32_80
  let c1_i32_81 : BitVec 32 := 1#32
  let v185 : BitVec 32 := Scalar.select v184 c1_i32_81 c2_i32_79
  let v186 : BitVec 32 := Scalar.remsi v183 v185
  let c0_i32_83 : BitVec 32 := 0#32
  let v188 : BitVec 1 := Scalar.cmpi .slt v186 c0_i32_83
  let c0_i32_84 : BitVec 32 := 0#32
  let v189 : BitVec 1 := Scalar.cmpi .slt v185 c0_i32_84
  let v190 : BitVec 1 := Scalar.xori v188 v189
  let c0_i32_82 : BitVec 32 := 0#32
  let v187 : BitVec 1 := Scalar.cmpi .ne v186 c0_i32_82
  let v191 : BitVec 1 := Scalar.andi v190 v187
  let v192 : BitVec 32 := Scalar.addi v186 v185
  let v193 : BitVec 32 := Scalar.select v191 v192 v186
  let c16_i32_87 : BitVec 32 := 16#32
  let v197 : BitVec 32 := Scalar.muli v193 c16_i32_87
  let v198 : BitVec 32 := Scalar.addi v166 v197
  let c0_i32_88 : BitVec 32 := 0#32
  let v200 : BitVec 1 := Scalar.cmpi .sgt v101 c0_i32_88
  let v201 : BitVec 32 := Scalar.extui v200
  let c0_i32_89 : BitVec 32 := 0#32
  let v202 : BitVec 1 := Scalar.cmpi .slt v101 c0_i32_89
  let v203 : BitVec 32 := Scalar.extui v202
  let v204 : BitVec 32 := Scalar.subi v201 v203
  let c8_i32 : BitVec 32 := 8#32
  let c0_i32_90 : BitVec 32 := 0#32
  let v205 : BitVec 1 := Scalar.cmpi .sgt c8_i32 c0_i32_90
  let v206 : BitVec 32 := Scalar.extui v205
  let c0_i32_91 : BitVec 32 := 0#32
  let v207 : BitVec 1 := Scalar.cmpi .slt c8_i32 c0_i32_91
  let v208 : BitVec 32 := Scalar.extui v207
  let v209 : BitVec 32 := Scalar.subi v206 v208
  let v210 : BitVec 1 := Scalar.cmpi .ne v204 v209
  let v211 : BitVec 32 := Scalar.remsi v101 c8_i32
  let c0_i32_92 : BitVec 32 := 0#32
  let v212 : BitVec 1 := Scalar.cmpi .ne v211 c0_i32_92
  let v213 : BitVec 1 := Scalar.andi v210 v212
  let v199 : BitVec 32 := Scalar.divsi v101 c8_i32
  let c1_i32_93 : BitVec 32 := 1#32
  let v214 : BitVec 32 := Scalar.subi v199 c1_i32_93
  let v215 : BitVec 32 := Scalar.select v213 v214 v199
  let c2_i32_94 : BitVec 32 := 2#32
  let c0_i32_95 : BitVec 32 := 0#32
  let v216 : BitVec 1 := Scalar.cmpi .eq c2_i32_94 c0_i32_95
  let c1_i32_96 : BitVec 32 := 1#32
  let v217 : BitVec 32 := Scalar.select v216 c1_i32_96 c2_i32_94
  let v218 : BitVec 32 := Scalar.remsi v215 v217
  let c0_i32_98 : BitVec 32 := 0#32
  let v220 : BitVec 1 := Scalar.cmpi .slt v218 c0_i32_98
  let c0_i32_99 : BitVec 32 := 0#32
  let v221 : BitVec 1 := Scalar.cmpi .slt v217 c0_i32_99
  let v222 : BitVec 1 := Scalar.xori v220 v221
  let c0_i32_97 : BitVec 32 := 0#32
  let v219 : BitVec 1 := Scalar.cmpi .ne v218 c0_i32_97
  let v223 : BitVec 1 := Scalar.andi v222 v219
  let v224 : BitVec 32 := Scalar.addi v218 v217
  let v225 : BitVec 32 := Scalar.select v223 v224 v218
  let c8_i32_102 : BitVec 32 := 8#32
  let v229 : BitVec 32 := Scalar.muli v225 c8_i32_102
  let v230 : BitVec 32 := Scalar.addi v198 v229
  let c0_i32_104 : BitVec 32 := 0#32
  let v232 : BitVec 1 := Scalar.cmpi .sgt v101 c0_i32_104
  let v233 : BitVec 32 := Scalar.extui v232
  let c0_i32_105 : BitVec 32 := 0#32
  let v234 : BitVec 1 := Scalar.cmpi .slt v101 c0_i32_105
  let v235 : BitVec 32 := Scalar.extui v234
  let v236 : BitVec 32 := Scalar.subi v233 v235
  let c4_i32_103 : BitVec 32 := 4#32
  let c0_i32_106 : BitVec 32 := 0#32
  let v237 : BitVec 1 := Scalar.cmpi .sgt c4_i32_103 c0_i32_106
  let v238 : BitVec 32 := Scalar.extui v237
  let c0_i32_107 : BitVec 32 := 0#32
  let v239 : BitVec 1 := Scalar.cmpi .slt c4_i32_103 c0_i32_107
  let v240 : BitVec 32 := Scalar.extui v239
  let v241 : BitVec 32 := Scalar.subi v238 v240
  let v242 : BitVec 1 := Scalar.cmpi .ne v236 v241
  let v243 : BitVec 32 := Scalar.remsi v101 c4_i32_103
  let c0_i32_108 : BitVec 32 := 0#32
  let v244 : BitVec 1 := Scalar.cmpi .ne v243 c0_i32_108
  let v245 : BitVec 1 := Scalar.andi v242 v244
  let v231 : BitVec 32 := Scalar.divsi v101 c4_i32_103
  let c1_i32_109 : BitVec 32 := 1#32
  let v246 : BitVec 32 := Scalar.subi v231 c1_i32_109
  let v247 : BitVec 32 := Scalar.select v245 v246 v231
  let c2_i32_110 : BitVec 32 := 2#32
  let c0_i32_111 : BitVec 32 := 0#32
  let v248 : BitVec 1 := Scalar.cmpi .eq c2_i32_110 c0_i32_111
  let c1_i32_112 : BitVec 32 := 1#32
  let v249 : BitVec 32 := Scalar.select v248 c1_i32_112 c2_i32_110
  let v250 : BitVec 32 := Scalar.remsi v247 v249
  let c0_i32_114 : BitVec 32 := 0#32
  let v252 : BitVec 1 := Scalar.cmpi .slt v250 c0_i32_114
  let c0_i32_115 : BitVec 32 := 0#32
  let v253 : BitVec 1 := Scalar.cmpi .slt v249 c0_i32_115
  let v254 : BitVec 1 := Scalar.xori v252 v253
  let c0_i32_113 : BitVec 32 := 0#32
  let v251 : BitVec 1 := Scalar.cmpi .ne v250 c0_i32_113
  let v255 : BitVec 1 := Scalar.andi v254 v251
  let v256 : BitVec 32 := Scalar.addi v250 v249
  let v257 : BitVec 32 := Scalar.select v255 v256 v250
  let c4_i32_118 : BitVec 32 := 4#32
  let v261 : BitVec 32 := Scalar.muli v257 c4_i32_118
  let v262 : BitVec 32 := Scalar.addi v230 v261
  let v605 : BitVec 32 := Scalar.addi v50 v262
  let c0_i32_295_r29 : BitVec 32 := 0#32
  ![v605.toNat, 0]
def k0_cond14 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_120 : BitVec 32 := 0#32
  let v264 : BitVec 1 := Scalar.cmpi .sgt v101 c0_i32_120
  let v265 : BitVec 32 := Scalar.extui v264
  let c0_i32_121 : BitVec 32 := 0#32
  let v266 : BitVec 1 := Scalar.cmpi .slt v101 c0_i32_121
  let v267 : BitVec 32 := Scalar.extui v266
  let v268 : BitVec 32 := Scalar.subi v265 v267
  let c2_i32_119 : BitVec 32 := 2#32
  let c0_i32_122 : BitVec 32 := 0#32
  let v269 : BitVec 1 := Scalar.cmpi .sgt c2_i32_119 c0_i32_122
  let v270 : BitVec 32 := Scalar.extui v269
  let c0_i32_123 : BitVec 32 := 0#32
  let v271 : BitVec 1 := Scalar.cmpi .slt c2_i32_119 c0_i32_123
  let v272 : BitVec 32 := Scalar.extui v271
  let v273 : BitVec 32 := Scalar.subi v270 v272
  let v274 : BitVec 1 := Scalar.cmpi .ne v268 v273
  let v275 : BitVec 32 := Scalar.remsi v101 c2_i32_119
  let c0_i32_124 : BitVec 32 := 0#32
  let v276 : BitVec 1 := Scalar.cmpi .ne v275 c0_i32_124
  let v277 : BitVec 1 := Scalar.andi v274 v276
  let v263 : BitVec 32 := Scalar.divsi v101 c2_i32_119
  let c1_i32_125 : BitVec 32 := 1#32
  let v278 : BitVec 32 := Scalar.subi v263 c1_i32_125
  let v279 : BitVec 32 := Scalar.select v277 v278 v263
  let c2_i32_126 : BitVec 32 := 2#32
  let c0_i32_127 : BitVec 32 := 0#32
  let v280 : BitVec 1 := Scalar.cmpi .eq c2_i32_126 c0_i32_127
  let c1_i32_128 : BitVec 32 := 1#32
  let v281 : BitVec 32 := Scalar.select v280 c1_i32_128 c2_i32_126
  let v282 : BitVec 32 := Scalar.remsi v279 v281
  let c0_i32_130 : BitVec 32 := 0#32
  let v284 : BitVec 1 := Scalar.cmpi .slt v282 c0_i32_130
  let c0_i32_131 : BitVec 32 := 0#32
  let v285 : BitVec 1 := Scalar.cmpi .slt v281 c0_i32_131
  let v286 : BitVec 1 := Scalar.xori v284 v285
  let c0_i32_129 : BitVec 32 := 0#32
  let v283 : BitVec 1 := Scalar.cmpi .ne v282 c0_i32_129
  let v287 : BitVec 1 := Scalar.andi v286 v283
  let v288 : BitVec 32 := Scalar.addi v282 v281
  let v289 : BitVec 32 := Scalar.select v287 v288 v282
  let c1_i32_132 : BitVec 32 := 1#32
  let v290 : BitVec 1 := Scalar.cmpi .eq v289 c1_i32_132
  let v291 : BitVec 32 := Scalar.extui v290
  let c0_i32_133 : BitVec 32 := 0#32
  let v292 : BitVec 1 := Scalar.cmpi .ne v291 c0_i32_133
  v292

def k0_off28 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c32_i32_72 : BitVec 32 := 32#32
  let v165 : BitVec 32 := Scalar.muli v161 c32_i32_72
  let v166 : BitVec 32 := Scalar.addi v134 v165
  let c0_i32_73 : BitVec 32 := 0#32
  let v168 : BitVec 1 := Scalar.cmpi .sgt v101 c0_i32_73
  let v169 : BitVec 32 := Scalar.extui v168
  let c0_i32_74 : BitVec 32 := 0#32
  let v170 : BitVec 1 := Scalar.cmpi .slt v101 c0_i32_74
  let v171 : BitVec 32 := Scalar.extui v170
  let v172 : BitVec 32 := Scalar.subi v169 v171
  let c16_i32 : BitVec 32 := 16#32
  let c0_i32_75 : BitVec 32 := 0#32
  let v173 : BitVec 1 := Scalar.cmpi .sgt c16_i32 c0_i32_75
  let v174 : BitVec 32 := Scalar.extui v173
  let c0_i32_76 : BitVec 32 := 0#32
  let v175 : BitVec 1 := Scalar.cmpi .slt c16_i32 c0_i32_76
  let v176 : BitVec 32 := Scalar.extui v175
  let v177 : BitVec 32 := Scalar.subi v174 v176
  let v178 : BitVec 1 := Scalar.cmpi .ne v172 v177
  let v179 : BitVec 32 := Scalar.remsi v101 c16_i32
  let c0_i32_77 : BitVec 32 := 0#32
  let v180 : BitVec 1 := Scalar.cmpi .ne v179 c0_i32_77
  let v181 : BitVec 1 := Scalar.andi v178 v180
  let v167 : BitVec 32 := Scalar.divsi v101 c16_i32
  let c1_i32_78 : BitVec 32 := 1#32
  let v182 : BitVec 32 := Scalar.subi v167 c1_i32_78
  let v183 : BitVec 32 := Scalar.select v181 v182 v167
  let c2_i32_79 : BitVec 32 := 2#32
  let c0_i32_80 : BitVec 32 := 0#32
  let v184 : BitVec 1 := Scalar.cmpi .eq c2_i32_79 c0_i32_80
  let c1_i32_81 : BitVec 32 := 1#32
  let v185 : BitVec 32 := Scalar.select v184 c1_i32_81 c2_i32_79
  let v186 : BitVec 32 := Scalar.remsi v183 v185
  let c0_i32_83 : BitVec 32 := 0#32
  let v188 : BitVec 1 := Scalar.cmpi .slt v186 c0_i32_83
  let c0_i32_84 : BitVec 32 := 0#32
  let v189 : BitVec 1 := Scalar.cmpi .slt v185 c0_i32_84
  let v190 : BitVec 1 := Scalar.xori v188 v189
  let c0_i32_82 : BitVec 32 := 0#32
  let v187 : BitVec 1 := Scalar.cmpi .ne v186 c0_i32_82
  let v191 : BitVec 1 := Scalar.andi v190 v187
  let v192 : BitVec 32 := Scalar.addi v186 v185
  let v193 : BitVec 32 := Scalar.select v191 v192 v186
  let c16_i32_87 : BitVec 32 := 16#32
  let v197 : BitVec 32 := Scalar.muli v193 c16_i32_87
  let v198 : BitVec 32 := Scalar.addi v166 v197
  let c0_i32_88 : BitVec 32 := 0#32
  let v200 : BitVec 1 := Scalar.cmpi .sgt v101 c0_i32_88
  let v201 : BitVec 32 := Scalar.extui v200
  let c0_i32_89 : BitVec 32 := 0#32
  let v202 : BitVec 1 := Scalar.cmpi .slt v101 c0_i32_89
  let v203 : BitVec 32 := Scalar.extui v202
  let v204 : BitVec 32 := Scalar.subi v201 v203
  let c8_i32 : BitVec 32 := 8#32
  let c0_i32_90 : BitVec 32 := 0#32
  let v205 : BitVec 1 := Scalar.cmpi .sgt c8_i32 c0_i32_90
  let v206 : BitVec 32 := Scalar.extui v205
  let c0_i32_91 : BitVec 32 := 0#32
  let v207 : BitVec 1 := Scalar.cmpi .slt c8_i32 c0_i32_91
  let v208 : BitVec 32 := Scalar.extui v207
  let v209 : BitVec 32 := Scalar.subi v206 v208
  let v210 : BitVec 1 := Scalar.cmpi .ne v204 v209
  let v211 : BitVec 32 := Scalar.remsi v101 c8_i32
  let c0_i32_92 : BitVec 32 := 0#32
  let v212 : BitVec 1 := Scalar.cmpi .ne v211 c0_i32_92
  let v213 : BitVec 1 := Scalar.andi v210 v212
  let v199 : BitVec 32 := Scalar.divsi v101 c8_i32
  let c1_i32_93 : BitVec 32 := 1#32
  let v214 : BitVec 32 := Scalar.subi v199 c1_i32_93
  let v215 : BitVec 32 := Scalar.select v213 v214 v199
  let c2_i32_94 : BitVec 32 := 2#32
  let c0_i32_95 : BitVec 32 := 0#32
  let v216 : BitVec 1 := Scalar.cmpi .eq c2_i32_94 c0_i32_95
  let c1_i32_96 : BitVec 32 := 1#32
  let v217 : BitVec 32 := Scalar.select v216 c1_i32_96 c2_i32_94
  let v218 : BitVec 32 := Scalar.remsi v215 v217
  let c0_i32_98 : BitVec 32 := 0#32
  let v220 : BitVec 1 := Scalar.cmpi .slt v218 c0_i32_98
  let c0_i32_99 : BitVec 32 := 0#32
  let v221 : BitVec 1 := Scalar.cmpi .slt v217 c0_i32_99
  let v222 : BitVec 1 := Scalar.xori v220 v221
  let c0_i32_97 : BitVec 32 := 0#32
  let v219 : BitVec 1 := Scalar.cmpi .ne v218 c0_i32_97
  let v223 : BitVec 1 := Scalar.andi v222 v219
  let v224 : BitVec 32 := Scalar.addi v218 v217
  let v225 : BitVec 32 := Scalar.select v223 v224 v218
  let c8_i32_102 : BitVec 32 := 8#32
  let v229 : BitVec 32 := Scalar.muli v225 c8_i32_102
  let v230 : BitVec 32 := Scalar.addi v198 v229
  let c0_i32_104 : BitVec 32 := 0#32
  let v232 : BitVec 1 := Scalar.cmpi .sgt v101 c0_i32_104
  let v233 : BitVec 32 := Scalar.extui v232
  let c0_i32_105 : BitVec 32 := 0#32
  let v234 : BitVec 1 := Scalar.cmpi .slt v101 c0_i32_105
  let v235 : BitVec 32 := Scalar.extui v234
  let v236 : BitVec 32 := Scalar.subi v233 v235
  let c4_i32_103 : BitVec 32 := 4#32
  let c0_i32_106 : BitVec 32 := 0#32
  let v237 : BitVec 1 := Scalar.cmpi .sgt c4_i32_103 c0_i32_106
  let v238 : BitVec 32 := Scalar.extui v237
  let c0_i32_107 : BitVec 32 := 0#32
  let v239 : BitVec 1 := Scalar.cmpi .slt c4_i32_103 c0_i32_107
  let v240 : BitVec 32 := Scalar.extui v239
  let v241 : BitVec 32 := Scalar.subi v238 v240
  let v242 : BitVec 1 := Scalar.cmpi .ne v236 v241
  let v243 : BitVec 32 := Scalar.remsi v101 c4_i32_103
  let c0_i32_108 : BitVec 32 := 0#32
  let v244 : BitVec 1 := Scalar.cmpi .ne v243 c0_i32_108
  let v245 : BitVec 1 := Scalar.andi v242 v244
  let v231 : BitVec 32 := Scalar.divsi v101 c4_i32_103
  let c1_i32_109 : BitVec 32 := 1#32
  let v246 : BitVec 32 := Scalar.subi v231 c1_i32_109
  let v247 : BitVec 32 := Scalar.select v245 v246 v231
  let c2_i32_110 : BitVec 32 := 2#32
  let c0_i32_111 : BitVec 32 := 0#32
  let v248 : BitVec 1 := Scalar.cmpi .eq c2_i32_110 c0_i32_111
  let c1_i32_112 : BitVec 32 := 1#32
  let v249 : BitVec 32 := Scalar.select v248 c1_i32_112 c2_i32_110
  let v250 : BitVec 32 := Scalar.remsi v247 v249
  let c0_i32_114 : BitVec 32 := 0#32
  let v252 : BitVec 1 := Scalar.cmpi .slt v250 c0_i32_114
  let c0_i32_115 : BitVec 32 := 0#32
  let v253 : BitVec 1 := Scalar.cmpi .slt v249 c0_i32_115
  let v254 : BitVec 1 := Scalar.xori v252 v253
  let c0_i32_113 : BitVec 32 := 0#32
  let v251 : BitVec 1 := Scalar.cmpi .ne v250 c0_i32_113
  let v255 : BitVec 1 := Scalar.andi v254 v251
  let v256 : BitVec 32 := Scalar.addi v250 v249
  let v257 : BitVec 32 := Scalar.select v255 v256 v250
  let c4_i32_118 : BitVec 32 := 4#32
  let v261 : BitVec 32 := Scalar.muli v257 c4_i32_118
  let v262 : BitVec 32 := Scalar.addi v230 v261
  let v606 : BitVec 32 := Scalar.addi v49 v262
  let c0_i32_295_r30 : BitVec 32 := 0#32
  ![v606.toNat, 0]
def k0_off29 (i : grid0.Coords) (v38 : BitVec 32) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v38 v29
  let c1024_i32_16 : BitVec 32 := 1024#32
  let c0_i32_15 : BitVec 32 := 0#32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c32_i32_72 : BitVec 32 := 32#32
  let v165 : BitVec 32 := Scalar.muli v161 c32_i32_72
  let v166 : BitVec 32 := Scalar.addi v134 v165
  let c0_i32_73 : BitVec 32 := 0#32
  let v168 : BitVec 1 := Scalar.cmpi .sgt v101 c0_i32_73
  let v169 : BitVec 32 := Scalar.extui v168
  let c0_i32_74 : BitVec 32 := 0#32
  let v170 : BitVec 1 := Scalar.cmpi .slt v101 c0_i32_74
  let v171 : BitVec 32 := Scalar.extui v170
  let v172 : BitVec 32 := Scalar.subi v169 v171
  let c16_i32 : BitVec 32 := 16#32
  let c0_i32_75 : BitVec 32 := 0#32
  let v173 : BitVec 1 := Scalar.cmpi .sgt c16_i32 c0_i32_75
  let v174 : BitVec 32 := Scalar.extui v173
  let c0_i32_76 : BitVec 32 := 0#32
  let v175 : BitVec 1 := Scalar.cmpi .slt c16_i32 c0_i32_76
  let v176 : BitVec 32 := Scalar.extui v175
  let v177 : BitVec 32 := Scalar.subi v174 v176
  let v178 : BitVec 1 := Scalar.cmpi .ne v172 v177
  let v179 : BitVec 32 := Scalar.remsi v101 c16_i32
  let c0_i32_77 : BitVec 32 := 0#32
  let v180 : BitVec 1 := Scalar.cmpi .ne v179 c0_i32_77
  let v181 : BitVec 1 := Scalar.andi v178 v180
  let v167 : BitVec 32 := Scalar.divsi v101 c16_i32
  let c1_i32_78 : BitVec 32 := 1#32
  let v182 : BitVec 32 := Scalar.subi v167 c1_i32_78
  let v183 : BitVec 32 := Scalar.select v181 v182 v167
  let c2_i32_79 : BitVec 32 := 2#32
  let c0_i32_80 : BitVec 32 := 0#32
  let v184 : BitVec 1 := Scalar.cmpi .eq c2_i32_79 c0_i32_80
  let c1_i32_81 : BitVec 32 := 1#32
  let v185 : BitVec 32 := Scalar.select v184 c1_i32_81 c2_i32_79
  let v186 : BitVec 32 := Scalar.remsi v183 v185
  let c0_i32_83 : BitVec 32 := 0#32
  let v188 : BitVec 1 := Scalar.cmpi .slt v186 c0_i32_83
  let c0_i32_84 : BitVec 32 := 0#32
  let v189 : BitVec 1 := Scalar.cmpi .slt v185 c0_i32_84
  let v190 : BitVec 1 := Scalar.xori v188 v189
  let c0_i32_82 : BitVec 32 := 0#32
  let v187 : BitVec 1 := Scalar.cmpi .ne v186 c0_i32_82
  let v191 : BitVec 1 := Scalar.andi v190 v187
  let v192 : BitVec 32 := Scalar.addi v186 v185
  let v193 : BitVec 32 := Scalar.select v191 v192 v186
  let c16_i32_87 : BitVec 32 := 16#32
  let v197 : BitVec 32 := Scalar.muli v193 c16_i32_87
  let v198 : BitVec 32 := Scalar.addi v166 v197
  let c0_i32_88 : BitVec 32 := 0#32
  let v200 : BitVec 1 := Scalar.cmpi .sgt v101 c0_i32_88
  let v201 : BitVec 32 := Scalar.extui v200
  let c0_i32_89 : BitVec 32 := 0#32
  let v202 : BitVec 1 := Scalar.cmpi .slt v101 c0_i32_89
  let v203 : BitVec 32 := Scalar.extui v202
  let v204 : BitVec 32 := Scalar.subi v201 v203
  let c8_i32 : BitVec 32 := 8#32
  let c0_i32_90 : BitVec 32 := 0#32
  let v205 : BitVec 1 := Scalar.cmpi .sgt c8_i32 c0_i32_90
  let v206 : BitVec 32 := Scalar.extui v205
  let c0_i32_91 : BitVec 32 := 0#32
  let v207 : BitVec 1 := Scalar.cmpi .slt c8_i32 c0_i32_91
  let v208 : BitVec 32 := Scalar.extui v207
  let v209 : BitVec 32 := Scalar.subi v206 v208
  let v210 : BitVec 1 := Scalar.cmpi .ne v204 v209
  let v211 : BitVec 32 := Scalar.remsi v101 c8_i32
  let c0_i32_92 : BitVec 32 := 0#32
  let v212 : BitVec 1 := Scalar.cmpi .ne v211 c0_i32_92
  let v213 : BitVec 1 := Scalar.andi v210 v212
  let v199 : BitVec 32 := Scalar.divsi v101 c8_i32
  let c1_i32_93 : BitVec 32 := 1#32
  let v214 : BitVec 32 := Scalar.subi v199 c1_i32_93
  let v215 : BitVec 32 := Scalar.select v213 v214 v199
  let c2_i32_94 : BitVec 32 := 2#32
  let c0_i32_95 : BitVec 32 := 0#32
  let v216 : BitVec 1 := Scalar.cmpi .eq c2_i32_94 c0_i32_95
  let c1_i32_96 : BitVec 32 := 1#32
  let v217 : BitVec 32 := Scalar.select v216 c1_i32_96 c2_i32_94
  let v218 : BitVec 32 := Scalar.remsi v215 v217
  let c0_i32_98 : BitVec 32 := 0#32
  let v220 : BitVec 1 := Scalar.cmpi .slt v218 c0_i32_98
  let c0_i32_99 : BitVec 32 := 0#32
  let v221 : BitVec 1 := Scalar.cmpi .slt v217 c0_i32_99
  let v222 : BitVec 1 := Scalar.xori v220 v221
  let c0_i32_97 : BitVec 32 := 0#32
  let v219 : BitVec 1 := Scalar.cmpi .ne v218 c0_i32_97
  let v223 : BitVec 1 := Scalar.andi v222 v219
  let v224 : BitVec 32 := Scalar.addi v218 v217
  let v225 : BitVec 32 := Scalar.select v223 v224 v218
  let c8_i32_102 : BitVec 32 := 8#32
  let v229 : BitVec 32 := Scalar.muli v225 c8_i32_102
  let v230 : BitVec 32 := Scalar.addi v198 v229
  let c0_i32_104 : BitVec 32 := 0#32
  let v232 : BitVec 1 := Scalar.cmpi .sgt v101 c0_i32_104
  let v233 : BitVec 32 := Scalar.extui v232
  let c0_i32_105 : BitVec 32 := 0#32
  let v234 : BitVec 1 := Scalar.cmpi .slt v101 c0_i32_105
  let v235 : BitVec 32 := Scalar.extui v234
  let v236 : BitVec 32 := Scalar.subi v233 v235
  let c4_i32_103 : BitVec 32 := 4#32
  let c0_i32_106 : BitVec 32 := 0#32
  let v237 : BitVec 1 := Scalar.cmpi .sgt c4_i32_103 c0_i32_106
  let v238 : BitVec 32 := Scalar.extui v237
  let c0_i32_107 : BitVec 32 := 0#32
  let v239 : BitVec 1 := Scalar.cmpi .slt c4_i32_103 c0_i32_107
  let v240 : BitVec 32 := Scalar.extui v239
  let v241 : BitVec 32 := Scalar.subi v238 v240
  let v242 : BitVec 1 := Scalar.cmpi .ne v236 v241
  let v243 : BitVec 32 := Scalar.remsi v101 c4_i32_103
  let c0_i32_108 : BitVec 32 := 0#32
  let v244 : BitVec 1 := Scalar.cmpi .ne v243 c0_i32_108
  let v245 : BitVec 1 := Scalar.andi v242 v244
  let v231 : BitVec 32 := Scalar.divsi v101 c4_i32_103
  let c1_i32_109 : BitVec 32 := 1#32
  let v246 : BitVec 32 := Scalar.subi v231 c1_i32_109
  let v247 : BitVec 32 := Scalar.select v245 v246 v231
  let c2_i32_110 : BitVec 32 := 2#32
  let c0_i32_111 : BitVec 32 := 0#32
  let v248 : BitVec 1 := Scalar.cmpi .eq c2_i32_110 c0_i32_111
  let c1_i32_112 : BitVec 32 := 1#32
  let v249 : BitVec 32 := Scalar.select v248 c1_i32_112 c2_i32_110
  let v250 : BitVec 32 := Scalar.remsi v247 v249
  let c0_i32_114 : BitVec 32 := 0#32
  let v252 : BitVec 1 := Scalar.cmpi .slt v250 c0_i32_114
  let c0_i32_115 : BitVec 32 := 0#32
  let v253 : BitVec 1 := Scalar.cmpi .slt v249 c0_i32_115
  let v254 : BitVec 1 := Scalar.xori v252 v253
  let c0_i32_113 : BitVec 32 := 0#32
  let v251 : BitVec 1 := Scalar.cmpi .ne v250 c0_i32_113
  let v255 : BitVec 1 := Scalar.andi v254 v251
  let v256 : BitVec 32 := Scalar.addi v250 v249
  let v257 : BitVec 32 := Scalar.select v255 v256 v250
  let c4_i32_118 : BitVec 32 := 4#32
  let v261 : BitVec 32 := Scalar.muli v257 c4_i32_118
  let v262 : BitVec 32 := Scalar.addi v230 v261
  let c0_i32_120 : BitVec 32 := 0#32
  let v264 : BitVec 1 := Scalar.cmpi .sgt v101 c0_i32_120
  let v265 : BitVec 32 := Scalar.extui v264
  let c0_i32_121 : BitVec 32 := 0#32
  let v266 : BitVec 1 := Scalar.cmpi .slt v101 c0_i32_121
  let v267 : BitVec 32 := Scalar.extui v266
  let v268 : BitVec 32 := Scalar.subi v265 v267
  let c2_i32_119 : BitVec 32 := 2#32
  let c0_i32_122 : BitVec 32 := 0#32
  let v269 : BitVec 1 := Scalar.cmpi .sgt c2_i32_119 c0_i32_122
  let v270 : BitVec 32 := Scalar.extui v269
  let c0_i32_123 : BitVec 32 := 0#32
  let v271 : BitVec 1 := Scalar.cmpi .slt c2_i32_119 c0_i32_123
  let v272 : BitVec 32 := Scalar.extui v271
  let v273 : BitVec 32 := Scalar.subi v270 v272
  let v274 : BitVec 1 := Scalar.cmpi .ne v268 v273
  let v275 : BitVec 32 := Scalar.remsi v101 c2_i32_119
  let c0_i32_124 : BitVec 32 := 0#32
  let v276 : BitVec 1 := Scalar.cmpi .ne v275 c0_i32_124
  let v277 : BitVec 1 := Scalar.andi v274 v276
  let v263 : BitVec 32 := Scalar.divsi v101 c2_i32_119
  let c1_i32_125 : BitVec 32 := 1#32
  let v278 : BitVec 32 := Scalar.subi v263 c1_i32_125
  let v279 : BitVec 32 := Scalar.select v277 v278 v263
  let c2_i32_126 : BitVec 32 := 2#32
  let c0_i32_127 : BitVec 32 := 0#32
  let v280 : BitVec 1 := Scalar.cmpi .eq c2_i32_126 c0_i32_127
  let c1_i32_128 : BitVec 32 := 1#32
  let v281 : BitVec 32 := Scalar.select v280 c1_i32_128 c2_i32_126
  let v282 : BitVec 32 := Scalar.remsi v279 v281
  let c0_i32_130 : BitVec 32 := 0#32
  let v284 : BitVec 1 := Scalar.cmpi .slt v282 c0_i32_130
  let c0_i32_131 : BitVec 32 := 0#32
  let v285 : BitVec 1 := Scalar.cmpi .slt v281 c0_i32_131
  let v286 : BitVec 1 := Scalar.xori v284 v285
  let c0_i32_129 : BitVec 32 := 0#32
  let v283 : BitVec 1 := Scalar.cmpi .ne v282 c0_i32_129
  let v287 : BitVec 1 := Scalar.andi v286 v283
  let v288 : BitVec 32 := Scalar.addi v282 v281
  let v289 : BitVec 32 := Scalar.select v287 v288 v282
  let c2_i32_134 : BitVec 32 := 2#32
  let v293 : BitVec 32 := Scalar.muli v289 c2_i32_134
  let v294 : BitVec 32 := Scalar.addi v262 v293
  let v605 : BitVec 32 := Scalar.addi v50 v294
  let c0_i32_295_r31 : BitVec 32 := 0#32
  ![v605.toNat, 0]
def k0_cond15 (i : grid0.Coords) (v44 : BitVec 32) : BitVec 1 :=
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_136 : BitVec 32 := 0#32
  let v296 : BitVec 1 := Scalar.cmpi .sgt v101 c0_i32_136
  let v297 : BitVec 32 := Scalar.extui v296
  let c0_i32_137 : BitVec 32 := 0#32
  let v298 : BitVec 1 := Scalar.cmpi .slt v101 c0_i32_137
  let v299 : BitVec 32 := Scalar.extui v298
  let v300 : BitVec 32 := Scalar.subi v297 v299
  let c1_i32_135 : BitVec 32 := 1#32
  let c0_i32_138 : BitVec 32 := 0#32
  let v301 : BitVec 1 := Scalar.cmpi .sgt c1_i32_135 c0_i32_138
  let v302 : BitVec 32 := Scalar.extui v301
  let c0_i32_139 : BitVec 32 := 0#32
  let v303 : BitVec 1 := Scalar.cmpi .slt c1_i32_135 c0_i32_139
  let v304 : BitVec 32 := Scalar.extui v303
  let v305 : BitVec 32 := Scalar.subi v302 v304
  let v306 : BitVec 1 := Scalar.cmpi .ne v300 v305
  let v307 : BitVec 32 := Scalar.remsi v101 c1_i32_135
  let c0_i32_140 : BitVec 32 := 0#32
  let v308 : BitVec 1 := Scalar.cmpi .ne v307 c0_i32_140
  let v309 : BitVec 1 := Scalar.andi v306 v308
  let v295 : BitVec 32 := Scalar.divsi v101 c1_i32_135
  let c1_i32_141 : BitVec 32 := 1#32
  let v310 : BitVec 32 := Scalar.subi v295 c1_i32_141
  let v311 : BitVec 32 := Scalar.select v309 v310 v295
  let c2_i32_142 : BitVec 32 := 2#32
  let c0_i32_143 : BitVec 32 := 0#32
  let v312 : BitVec 1 := Scalar.cmpi .eq c2_i32_142 c0_i32_143
  let c1_i32_144 : BitVec 32 := 1#32
  let v313 : BitVec 32 := Scalar.select v312 c1_i32_144 c2_i32_142
  let v314 : BitVec 32 := Scalar.remsi v311 v313
  let c0_i32_146 : BitVec 32 := 0#32
  let v316 : BitVec 1 := Scalar.cmpi .slt v314 c0_i32_146
  let c0_i32_147 : BitVec 32 := 0#32
  let v317 : BitVec 1 := Scalar.cmpi .slt v313 c0_i32_147
  let v318 : BitVec 1 := Scalar.xori v316 v317
  let c0_i32_145 : BitVec 32 := 0#32
  let v315 : BitVec 1 := Scalar.cmpi .ne v314 c0_i32_145
  let v319 : BitVec 1 := Scalar.andi v318 v315
  let v320 : BitVec 32 := Scalar.addi v314 v313
  let v321 : BitVec 32 := Scalar.select v319 v320 v314
  let c1_i32_148 : BitVec 32 := 1#32
  let v322 : BitVec 1 := Scalar.cmpi .eq v321 c1_i32_148
  let v323 : BitVec 32 := Scalar.extui v322
  let c0_i32_149 : BitVec 32 := 0#32
  let v324 : BitVec 1 := Scalar.cmpi .ne v323 c0_i32_149
  v324

def k0_off30 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let c0_i32_19 : BitVec 32 := 0#32
  let v52 : BitVec 1 := Scalar.cmpi .sgt v47 c0_i32_19
  let v53 : BitVec 32 := Scalar.extui v52
  let c0_i32_20 : BitVec 32 := 0#32
  let v54 : BitVec 1 := Scalar.cmpi .slt v47 c0_i32_20
  let v55 : BitVec 32 := Scalar.extui v54
  let v56 : BitVec 32 := Scalar.subi v53 v55
  let c128_i32 : BitVec 32 := 128#32
  let c0_i32_21 : BitVec 32 := 0#32
  let v57 : BitVec 1 := Scalar.cmpi .sgt c128_i32 c0_i32_21
  let v58 : BitVec 32 := Scalar.extui v57
  let c0_i32_22 : BitVec 32 := 0#32
  let v59 : BitVec 1 := Scalar.cmpi .slt c128_i32 c0_i32_22
  let v60 : BitVec 32 := Scalar.extui v59
  let v61 : BitVec 32 := Scalar.subi v58 v60
  let v62 : BitVec 1 := Scalar.cmpi .ne v56 v61
  let v63 : BitVec 32 := Scalar.remsi v47 c128_i32
  let c0_i32_23 : BitVec 32 := 0#32
  let v64 : BitVec 1 := Scalar.cmpi .ne v63 c0_i32_23
  let v65 : BitVec 1 := Scalar.andi v62 v64
  let v51 : BitVec 32 := Scalar.divsi v47 c128_i32
  let c1_i32_24 : BitVec 32 := 1#32
  let v66 : BitVec 32 := Scalar.subi v51 c1_i32_24
  let v67 : BitVec 32 := Scalar.select v65 v66 v51
  let c128_i32_42 : BitVec 32 := 128#32
  let v102 : BitVec 32 := Scalar.muli v67 c128_i32_42
  let c128_i32_36 : BitVec 32 := 128#32
  let c0_i32_37 : BitVec 32 := 0#32
  let v92 : BitVec 1 := Scalar.cmpi .eq c128_i32_36 c0_i32_37
  let c1_i32_38 : BitVec 32 := 1#32
  let v93 : BitVec 32 := Scalar.select v92 c1_i32_38 c128_i32_36
  let v94 : BitVec 32 := Scalar.remsi v47 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v104 : BitVec 1 := Scalar.cmpi .sgt v101 c0_i32_43
  let v105 : BitVec 32 := Scalar.extui v104
  let c0_i32_44 : BitVec 32 := 0#32
  let v106 : BitVec 1 := Scalar.cmpi .slt v101 c0_i32_44
  let v107 : BitVec 32 := Scalar.extui v106
  let v108 : BitVec 32 := Scalar.subi v105 v107
  let c64_i32 : BitVec 32 := 64#32
  let c0_i32_45 : BitVec 32 := 0#32
  let v109 : BitVec 1 := Scalar.cmpi .sgt c64_i32 c0_i32_45
  let v110 : BitVec 32 := Scalar.extui v109
  let c0_i32_46 : BitVec 32 := 0#32
  let v111 : BitVec 1 := Scalar.cmpi .slt c64_i32 c0_i32_46
  let v112 : BitVec 32 := Scalar.extui v111
  let v113 : BitVec 32 := Scalar.subi v110 v112
  let v114 : BitVec 1 := Scalar.cmpi .ne v108 v113
  let v115 : BitVec 32 := Scalar.remsi v101 c64_i32
  let c0_i32_47 : BitVec 32 := 0#32
  let v116 : BitVec 1 := Scalar.cmpi .ne v115 c0_i32_47
  let v117 : BitVec 1 := Scalar.andi v114 v116
  let v103 : BitVec 32 := Scalar.divsi v101 c64_i32
  let c1_i32_48 : BitVec 32 := 1#32
  let v118 : BitVec 32 := Scalar.subi v103 c1_i32_48
  let v119 : BitVec 32 := Scalar.select v117 v118 v103
  let c2_i32_49 : BitVec 32 := 2#32
  let c0_i32_50 : BitVec 32 := 0#32
  let v120 : BitVec 1 := Scalar.cmpi .eq c2_i32_49 c0_i32_50
  let c1_i32_51 : BitVec 32 := 1#32
  let v121 : BitVec 32 := Scalar.select v120 c1_i32_51 c2_i32_49
  let v122 : BitVec 32 := Scalar.remsi v119 v121
  let c0_i32_53 : BitVec 32 := 0#32
  let v124 : BitVec 1 := Scalar.cmpi .slt v122 c0_i32_53
  let c0_i32_54 : BitVec 32 := 0#32
  let v125 : BitVec 1 := Scalar.cmpi .slt v121 c0_i32_54
  let v126 : BitVec 1 := Scalar.xori v124 v125
  let c0_i32_52 : BitVec 32 := 0#32
  let v123 : BitVec 1 := Scalar.cmpi .ne v122 c0_i32_52
  let v127 : BitVec 1 := Scalar.andi v126 v123
  let v128 : BitVec 32 := Scalar.addi v122 v121
  let v129 : BitVec 32 := Scalar.select v127 v128 v122
  let c64_i32_57 : BitVec 32 := 64#32
  let v133 : BitVec 32 := Scalar.muli v129 c64_i32_57
  let v134 : BitVec 32 := Scalar.addi v102 v133
  let c0_i32_58 : BitVec 32 := 0#32
  let v136 : BitVec 1 := Scalar.cmpi .sgt v101 c0_i32_58
  let v137 : BitVec 32 := Scalar.extui v136
  let c0_i32_59 : BitVec 32 := 0#32
  let v138 : BitVec 1 := Scalar.cmpi .slt v101 c0_i32_59
  let v139 : BitVec 32 := Scalar.extui v138
  let v140 : BitVec 32 := Scalar.subi v137 v139
  let c32_i32 : BitVec 32 := 32#32
  let c0_i32_60 : BitVec 32 := 0#32
  let v141 : BitVec 1 := Scalar.cmpi .sgt c32_i32 c0_i32_60
  let v142 : BitVec 32 := Scalar.extui v141
  let c0_i32_61 : BitVec 32 := 0#32
  let v143 : BitVec 1 := Scalar.cmpi .slt c32_i32 c0_i32_61
  let v144 : BitVec 32 := Scalar.extui v143
  let v145 : BitVec 32 := Scalar.subi v142 v144
  let v146 : BitVec 1 := Scalar.cmpi .ne v140 v145
  let v147 : BitVec 32 := Scalar.remsi v101 c32_i32
  let c0_i32_62 : BitVec 32 := 0#32
  let v148 : BitVec 1 := Scalar.cmpi .ne v147 c0_i32_62
  let v149 : BitVec 1 := Scalar.andi v146 v148
  let v135 : BitVec 32 := Scalar.divsi v101 c32_i32
  let c1_i32_63 : BitVec 32 := 1#32
  let v150 : BitVec 32 := Scalar.subi v135 c1_i32_63
  let v151 : BitVec 32 := Scalar.select v149 v150 v135
  let c2_i32_64 : BitVec 32 := 2#32
  let c0_i32_65 : BitVec 32 := 0#32
  let v152 : BitVec 1 := Scalar.cmpi .eq c2_i32_64 c0_i32_65
  let c1_i32_66 : BitVec 32 := 1#32
  let v153 : BitVec 32 := Scalar.select v152 c1_i32_66 c2_i32_64
  let v154 : BitVec 32 := Scalar.remsi v151 v153
  let c0_i32_68 : BitVec 32 := 0#32
  let v156 : BitVec 1 := Scalar.cmpi .slt v154 c0_i32_68
  let c0_i32_69 : BitVec 32 := 0#32
  let v157 : BitVec 1 := Scalar.cmpi .slt v153 c0_i32_69
  let v158 : BitVec 1 := Scalar.xori v156 v157
  let c0_i32_67 : BitVec 32 := 0#32
  let v155 : BitVec 1 := Scalar.cmpi .ne v154 c0_i32_67
  let v159 : BitVec 1 := Scalar.andi v158 v155
  let v160 : BitVec 32 := Scalar.addi v154 v153
  let v161 : BitVec 32 := Scalar.select v159 v160 v154
  let c32_i32_72 : BitVec 32 := 32#32
  let v165 : BitVec 32 := Scalar.muli v161 c32_i32_72
  let v166 : BitVec 32 := Scalar.addi v134 v165
  let c0_i32_73 : BitVec 32 := 0#32
  let v168 : BitVec 1 := Scalar.cmpi .sgt v101 c0_i32_73
  let v169 : BitVec 32 := Scalar.extui v168
  let c0_i32_74 : BitVec 32 := 0#32
  let v170 : BitVec 1 := Scalar.cmpi .slt v101 c0_i32_74
  let v171 : BitVec 32 := Scalar.extui v170
  let v172 : BitVec 32 := Scalar.subi v169 v171
  let c16_i32 : BitVec 32 := 16#32
  let c0_i32_75 : BitVec 32 := 0#32
  let v173 : BitVec 1 := Scalar.cmpi .sgt c16_i32 c0_i32_75
  let v174 : BitVec 32 := Scalar.extui v173
  let c0_i32_76 : BitVec 32 := 0#32
  let v175 : BitVec 1 := Scalar.cmpi .slt c16_i32 c0_i32_76
  let v176 : BitVec 32 := Scalar.extui v175
  let v177 : BitVec 32 := Scalar.subi v174 v176
  let v178 : BitVec 1 := Scalar.cmpi .ne v172 v177
  let v179 : BitVec 32 := Scalar.remsi v101 c16_i32
  let c0_i32_77 : BitVec 32 := 0#32
  let v180 : BitVec 1 := Scalar.cmpi .ne v179 c0_i32_77
  let v181 : BitVec 1 := Scalar.andi v178 v180
  let v167 : BitVec 32 := Scalar.divsi v101 c16_i32
  let c1_i32_78 : BitVec 32 := 1#32
  let v182 : BitVec 32 := Scalar.subi v167 c1_i32_78
  let v183 : BitVec 32 := Scalar.select v181 v182 v167
  let c2_i32_79 : BitVec 32 := 2#32
  let c0_i32_80 : BitVec 32 := 0#32
  let v184 : BitVec 1 := Scalar.cmpi .eq c2_i32_79 c0_i32_80
  let c1_i32_81 : BitVec 32 := 1#32
  let v185 : BitVec 32 := Scalar.select v184 c1_i32_81 c2_i32_79
  let v186 : BitVec 32 := Scalar.remsi v183 v185
  let c0_i32_83 : BitVec 32 := 0#32
  let v188 : BitVec 1 := Scalar.cmpi .slt v186 c0_i32_83
  let c0_i32_84 : BitVec 32 := 0#32
  let v189 : BitVec 1 := Scalar.cmpi .slt v185 c0_i32_84
  let v190 : BitVec 1 := Scalar.xori v188 v189
  let c0_i32_82 : BitVec 32 := 0#32
  let v187 : BitVec 1 := Scalar.cmpi .ne v186 c0_i32_82
  let v191 : BitVec 1 := Scalar.andi v190 v187
  let v192 : BitVec 32 := Scalar.addi v186 v185
  let v193 : BitVec 32 := Scalar.select v191 v192 v186
  let c16_i32_87 : BitVec 32 := 16#32
  let v197 : BitVec 32 := Scalar.muli v193 c16_i32_87
  let v198 : BitVec 32 := Scalar.addi v166 v197
  let c0_i32_88 : BitVec 32 := 0#32
  let v200 : BitVec 1 := Scalar.cmpi .sgt v101 c0_i32_88
  let v201 : BitVec 32 := Scalar.extui v200
  let c0_i32_89 : BitVec 32 := 0#32
  let v202 : BitVec 1 := Scalar.cmpi .slt v101 c0_i32_89
  let v203 : BitVec 32 := Scalar.extui v202
  let v204 : BitVec 32 := Scalar.subi v201 v203
  let c8_i32 : BitVec 32 := 8#32
  let c0_i32_90 : BitVec 32 := 0#32
  let v205 : BitVec 1 := Scalar.cmpi .sgt c8_i32 c0_i32_90
  let v206 : BitVec 32 := Scalar.extui v205
  let c0_i32_91 : BitVec 32 := 0#32
  let v207 : BitVec 1 := Scalar.cmpi .slt c8_i32 c0_i32_91
  let v208 : BitVec 32 := Scalar.extui v207
  let v209 : BitVec 32 := Scalar.subi v206 v208
  let v210 : BitVec 1 := Scalar.cmpi .ne v204 v209
  let v211 : BitVec 32 := Scalar.remsi v101 c8_i32
  let c0_i32_92 : BitVec 32 := 0#32
  let v212 : BitVec 1 := Scalar.cmpi .ne v211 c0_i32_92
  let v213 : BitVec 1 := Scalar.andi v210 v212
  let v199 : BitVec 32 := Scalar.divsi v101 c8_i32
  let c1_i32_93 : BitVec 32 := 1#32
  let v214 : BitVec 32 := Scalar.subi v199 c1_i32_93
  let v215 : BitVec 32 := Scalar.select v213 v214 v199
  let c2_i32_94 : BitVec 32 := 2#32
  let c0_i32_95 : BitVec 32 := 0#32
  let v216 : BitVec 1 := Scalar.cmpi .eq c2_i32_94 c0_i32_95
  let c1_i32_96 : BitVec 32 := 1#32
  let v217 : BitVec 32 := Scalar.select v216 c1_i32_96 c2_i32_94
  let v218 : BitVec 32 := Scalar.remsi v215 v217
  let c0_i32_98 : BitVec 32 := 0#32
  let v220 : BitVec 1 := Scalar.cmpi .slt v218 c0_i32_98
  let c0_i32_99 : BitVec 32 := 0#32
  let v221 : BitVec 1 := Scalar.cmpi .slt v217 c0_i32_99
  let v222 : BitVec 1 := Scalar.xori v220 v221
  let c0_i32_97 : BitVec 32 := 0#32
  let v219 : BitVec 1 := Scalar.cmpi .ne v218 c0_i32_97
  let v223 : BitVec 1 := Scalar.andi v222 v219
  let v224 : BitVec 32 := Scalar.addi v218 v217
  let v225 : BitVec 32 := Scalar.select v223 v224 v218
  let c8_i32_102 : BitVec 32 := 8#32
  let v229 : BitVec 32 := Scalar.muli v225 c8_i32_102
  let v230 : BitVec 32 := Scalar.addi v198 v229
  let c0_i32_104 : BitVec 32 := 0#32
  let v232 : BitVec 1 := Scalar.cmpi .sgt v101 c0_i32_104
  let v233 : BitVec 32 := Scalar.extui v232
  let c0_i32_105 : BitVec 32 := 0#32
  let v234 : BitVec 1 := Scalar.cmpi .slt v101 c0_i32_105
  let v235 : BitVec 32 := Scalar.extui v234
  let v236 : BitVec 32 := Scalar.subi v233 v235
  let c4_i32_103 : BitVec 32 := 4#32
  let c0_i32_106 : BitVec 32 := 0#32
  let v237 : BitVec 1 := Scalar.cmpi .sgt c4_i32_103 c0_i32_106
  let v238 : BitVec 32 := Scalar.extui v237
  let c0_i32_107 : BitVec 32 := 0#32
  let v239 : BitVec 1 := Scalar.cmpi .slt c4_i32_103 c0_i32_107
  let v240 : BitVec 32 := Scalar.extui v239
  let v241 : BitVec 32 := Scalar.subi v238 v240
  let v242 : BitVec 1 := Scalar.cmpi .ne v236 v241
  let v243 : BitVec 32 := Scalar.remsi v101 c4_i32_103
  let c0_i32_108 : BitVec 32 := 0#32
  let v244 : BitVec 1 := Scalar.cmpi .ne v243 c0_i32_108
  let v245 : BitVec 1 := Scalar.andi v242 v244
  let v231 : BitVec 32 := Scalar.divsi v101 c4_i32_103
  let c1_i32_109 : BitVec 32 := 1#32
  let v246 : BitVec 32 := Scalar.subi v231 c1_i32_109
  let v247 : BitVec 32 := Scalar.select v245 v246 v231
  let c2_i32_110 : BitVec 32 := 2#32
  let c0_i32_111 : BitVec 32 := 0#32
  let v248 : BitVec 1 := Scalar.cmpi .eq c2_i32_110 c0_i32_111
  let c1_i32_112 : BitVec 32 := 1#32
  let v249 : BitVec 32 := Scalar.select v248 c1_i32_112 c2_i32_110
  let v250 : BitVec 32 := Scalar.remsi v247 v249
  let c0_i32_114 : BitVec 32 := 0#32
  let v252 : BitVec 1 := Scalar.cmpi .slt v250 c0_i32_114
  let c0_i32_115 : BitVec 32 := 0#32
  let v253 : BitVec 1 := Scalar.cmpi .slt v249 c0_i32_115
  let v254 : BitVec 1 := Scalar.xori v252 v253
  let c0_i32_113 : BitVec 32 := 0#32
  let v251 : BitVec 1 := Scalar.cmpi .ne v250 c0_i32_113
  let v255 : BitVec 1 := Scalar.andi v254 v251
  let v256 : BitVec 32 := Scalar.addi v250 v249
  let v257 : BitVec 32 := Scalar.select v255 v256 v250
  let c4_i32_118 : BitVec 32 := 4#32
  let v261 : BitVec 32 := Scalar.muli v257 c4_i32_118
  let v262 : BitVec 32 := Scalar.addi v230 v261
  let c0_i32_120 : BitVec 32 := 0#32
  let v264 : BitVec 1 := Scalar.cmpi .sgt v101 c0_i32_120
  let v265 : BitVec 32 := Scalar.extui v264
  let c0_i32_121 : BitVec 32 := 0#32
  let v266 : BitVec 1 := Scalar.cmpi .slt v101 c0_i32_121
  let v267 : BitVec 32 := Scalar.extui v266
  let v268 : BitVec 32 := Scalar.subi v265 v267
  let c2_i32_119 : BitVec 32 := 2#32
  let c0_i32_122 : BitVec 32 := 0#32
  let v269 : BitVec 1 := Scalar.cmpi .sgt c2_i32_119 c0_i32_122
  let v270 : BitVec 32 := Scalar.extui v269
  let c0_i32_123 : BitVec 32 := 0#32
  let v271 : BitVec 1 := Scalar.cmpi .slt c2_i32_119 c0_i32_123
  let v272 : BitVec 32 := Scalar.extui v271
  let v273 : BitVec 32 := Scalar.subi v270 v272
  let v274 : BitVec 1 := Scalar.cmpi .ne v268 v273
  let v275 : BitVec 32 := Scalar.remsi v101 c2_i32_119
  let c0_i32_124 : BitVec 32 := 0#32
  let v276 : BitVec 1 := Scalar.cmpi .ne v275 c0_i32_124
  let v277 : BitVec 1 := Scalar.andi v274 v276
  let v263 : BitVec 32 := Scalar.divsi v101 c2_i32_119
  let c1_i32_125 : BitVec 32 := 1#32
  let v278 : BitVec 32 := Scalar.subi v263 c1_i32_125
  let v279 : BitVec 32 := Scalar.select v277 v278 v263
  let c2_i32_126 : BitVec 32 := 2#32
  let c0_i32_127 : BitVec 32 := 0#32
  let v280 : BitVec 1 := Scalar.cmpi .eq c2_i32_126 c0_i32_127
  let c1_i32_128 : BitVec 32 := 1#32
  let v281 : BitVec 32 := Scalar.select v280 c1_i32_128 c2_i32_126
  let v282 : BitVec 32 := Scalar.remsi v279 v281
  let c0_i32_130 : BitVec 32 := 0#32
  let v284 : BitVec 1 := Scalar.cmpi .slt v282 c0_i32_130
  let c0_i32_131 : BitVec 32 := 0#32
  let v285 : BitVec 1 := Scalar.cmpi .slt v281 c0_i32_131
  let v286 : BitVec 1 := Scalar.xori v284 v285
  let c0_i32_129 : BitVec 32 := 0#32
  let v283 : BitVec 1 := Scalar.cmpi .ne v282 c0_i32_129
  let v287 : BitVec 1 := Scalar.andi v286 v283
  let v288 : BitVec 32 := Scalar.addi v282 v281
  let v289 : BitVec 32 := Scalar.select v287 v288 v282
  let c2_i32_134 : BitVec 32 := 2#32
  let v293 : BitVec 32 := Scalar.muli v289 c2_i32_134
  let v294 : BitVec 32 := Scalar.addi v262 v293
  let v606 : BitVec 32 := Scalar.addi v49 v294
  let c0_i32_295_r32 : BitVec 32 := 0#32
  ![v606.toNat, 0]
def k0_off31 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c0_i32_293 : BitVec 32 := 0#32
  let v605 : BitVec 32 := Scalar.addi v344 c0_i32_293
  let c0_i32_294_r33 : BitVec 32 := 0#32
  ![v605.toNat, 0]
def k0_cond16 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c0_i32_158 : BitVec 32 := 0#32
  let v345 : BitVec 1 := Scalar.cmpi .sgt v343 c0_i32_158
  let v346 : BitVec 32 := Scalar.extui v345
  let c0_i32_159 : BitVec 32 := 0#32
  let v347 : BitVec 1 := Scalar.cmpi .ne v346 c0_i32_159
  v347

def k0_off32 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c128_i32_293 : BitVec 32 := 128#32
  let v605 : BitVec 32 := Scalar.addi v344 c128_i32_293
  let c0_i32_294_r34 : BitVec 32 := 0#32
  ![v605.toNat, 0]
def k0_cond17 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c1_i32_160 : BitVec 32 := 1#32
  let v348 : BitVec 1 := Scalar.cmpi .sgt v343 c1_i32_160
  let v349 : BitVec 32 := Scalar.extui v348
  let c0_i32_161 : BitVec 32 := 0#32
  let v350 : BitVec 1 := Scalar.cmpi .ne v349 c0_i32_161
  v350

def k0_off33 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c256_i32 : BitVec 32 := 256#32
  let v605 : BitVec 32 := Scalar.addi v344 c256_i32
  let c0_i32_293_r35 : BitVec 32 := 0#32
  ![v605.toNat, 0]
def k0_cond18 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c2_i32_162 : BitVec 32 := 2#32
  let v351 : BitVec 1 := Scalar.cmpi .sgt v343 c2_i32_162
  let v352 : BitVec 32 := Scalar.extui v351
  let c0_i32_163 : BitVec 32 := 0#32
  let v353 : BitVec 1 := Scalar.cmpi .ne v352 c0_i32_163
  v353

def k0_off34 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c384_i32 : BitVec 32 := 384#32
  let v605 : BitVec 32 := Scalar.addi v344 c384_i32
  let c0_i32_293_r36 : BitVec 32 := 0#32
  ![v605.toNat, 0]
def k0_cond19 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c3_i32_164 : BitVec 32 := 3#32
  let v354 : BitVec 1 := Scalar.cmpi .sgt v343 c3_i32_164
  let v355 : BitVec 32 := Scalar.extui v354
  let c0_i32_165 : BitVec 32 := 0#32
  let v356 : BitVec 1 := Scalar.cmpi .ne v355 c0_i32_165
  v356

def k0_off35 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c512_i32 : BitVec 32 := 512#32
  let v605 : BitVec 32 := Scalar.addi v344 c512_i32
  let c0_i32_293_r37 : BitVec 32 := 0#32
  ![v605.toNat, 0]
def k0_cond20 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c4_i32_166 : BitVec 32 := 4#32
  let v357 : BitVec 1 := Scalar.cmpi .sgt v343 c4_i32_166
  let v358 : BitVec 32 := Scalar.extui v357
  let c0_i32_167 : BitVec 32 := 0#32
  let v359 : BitVec 1 := Scalar.cmpi .ne v358 c0_i32_167
  v359

def k0_off36 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c640_i32 : BitVec 32 := 640#32
  let v605 : BitVec 32 := Scalar.addi v344 c640_i32
  let c0_i32_293_r38 : BitVec 32 := 0#32
  ![v605.toNat, 0]
def k0_cond21 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c5_i32_168 : BitVec 32 := 5#32
  let v360 : BitVec 1 := Scalar.cmpi .sgt v343 c5_i32_168
  let v361 : BitVec 32 := Scalar.extui v360
  let c0_i32_169 : BitVec 32 := 0#32
  let v362 : BitVec 1 := Scalar.cmpi .ne v361 c0_i32_169
  v362

def k0_off37 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c768_i32 : BitVec 32 := 768#32
  let v605 : BitVec 32 := Scalar.addi v344 c768_i32
  let c0_i32_293_r39 : BitVec 32 := 0#32
  ![v605.toNat, 0]
def k0_cond22 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c6_i32_170 : BitVec 32 := 6#32
  let v363 : BitVec 1 := Scalar.cmpi .sgt v343 c6_i32_170
  let v364 : BitVec 32 := Scalar.extui v363
  let c0_i32_171 : BitVec 32 := 0#32
  let v365 : BitVec 1 := Scalar.cmpi .ne v364 c0_i32_171
  v365

def k0_off38 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c896_i32 : BitVec 32 := 896#32
  let v605 : BitVec 32 := Scalar.addi v344 c896_i32
  let c0_i32_293_r40 : BitVec 32 := 0#32
  ![v605.toNat, 0]
def k0_cond23 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c7_i32_172 : BitVec 32 := 7#32
  let v366 : BitVec 1 := Scalar.cmpi .sgt v343 c7_i32_172
  let v367 : BitVec 32 := Scalar.extui v366
  let c0_i32_173 : BitVec 32 := 0#32
  let v368 : BitVec 1 := Scalar.cmpi .ne v367 c0_i32_173
  v368

def k0_off39 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c1024_i32_17 : BitVec 32 := 1024#32
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c128_i32_180 : BitVec 32 := 128#32
  let v379 : BitVec 32 := Scalar.muli v343 c128_i32_180
  let v380 : BitVec 32 := Scalar.addi v344 v379
  let c0_i32_295_r41 : BitVec 32 := 0#32
  ![v380.toNat, 0]
def k0_cond24 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_182 : BitVec 32 := 0#32
  let v382 : BitVec 1 := Scalar.cmpi .sgt v378 c0_i32_182
  let v383 : BitVec 32 := Scalar.extui v382
  let c0_i32_183 : BitVec 32 := 0#32
  let v384 : BitVec 1 := Scalar.cmpi .slt v378 c0_i32_183
  let v385 : BitVec 32 := Scalar.extui v384
  let v386 : BitVec 32 := Scalar.subi v383 v385
  let c64_i32_181 : BitVec 32 := 64#32
  let c0_i32_184 : BitVec 32 := 0#32
  let v387 : BitVec 1 := Scalar.cmpi .sgt c64_i32_181 c0_i32_184
  let v388 : BitVec 32 := Scalar.extui v387
  let c0_i32_185 : BitVec 32 := 0#32
  let v389 : BitVec 1 := Scalar.cmpi .slt c64_i32_181 c0_i32_185
  let v390 : BitVec 32 := Scalar.extui v389
  let v391 : BitVec 32 := Scalar.subi v388 v390
  let v392 : BitVec 1 := Scalar.cmpi .ne v386 v391
  let v393 : BitVec 32 := Scalar.remsi v378 c64_i32_181
  let c0_i32_186 : BitVec 32 := 0#32
  let v394 : BitVec 1 := Scalar.cmpi .ne v393 c0_i32_186
  let v395 : BitVec 1 := Scalar.andi v392 v394
  let v381 : BitVec 32 := Scalar.divsi v378 c64_i32_181
  let c1_i32_187 : BitVec 32 := 1#32
  let v396 : BitVec 32 := Scalar.subi v381 c1_i32_187
  let v397 : BitVec 32 := Scalar.select v395 v396 v381
  let c2_i32_188 : BitVec 32 := 2#32
  let c0_i32_189 : BitVec 32 := 0#32
  let v398 : BitVec 1 := Scalar.cmpi .eq c2_i32_188 c0_i32_189
  let c1_i32_190 : BitVec 32 := 1#32
  let v399 : BitVec 32 := Scalar.select v398 c1_i32_190 c2_i32_188
  let v400 : BitVec 32 := Scalar.remsi v397 v399
  let c0_i32_192 : BitVec 32 := 0#32
  let v402 : BitVec 1 := Scalar.cmpi .slt v400 c0_i32_192
  let c0_i32_193 : BitVec 32 := 0#32
  let v403 : BitVec 1 := Scalar.cmpi .slt v399 c0_i32_193
  let v404 : BitVec 1 := Scalar.xori v402 v403
  let c0_i32_191 : BitVec 32 := 0#32
  let v401 : BitVec 1 := Scalar.cmpi .ne v400 c0_i32_191
  let v405 : BitVec 1 := Scalar.andi v404 v401
  let v406 : BitVec 32 := Scalar.addi v400 v399
  let v407 : BitVec 32 := Scalar.select v405 v406 v400
  let c1_i32_194 : BitVec 32 := 1#32
  let v408 : BitVec 1 := Scalar.cmpi .eq v407 c1_i32_194
  let v409 : BitVec 32 := Scalar.extui v408
  let c0_i32_195 : BitVec 32 := 0#32
  let v410 : BitVec 1 := Scalar.cmpi .ne v409 c0_i32_195
  v410

def k0_off40 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c1024_i32_17 : BitVec 32 := 1024#32
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c128_i32_180 : BitVec 32 := 128#32
  let v379 : BitVec 32 := Scalar.muli v343 c128_i32_180
  let v380 : BitVec 32 := Scalar.addi v344 v379
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_182 : BitVec 32 := 0#32
  let v382 : BitVec 1 := Scalar.cmpi .sgt v378 c0_i32_182
  let v383 : BitVec 32 := Scalar.extui v382
  let c0_i32_183 : BitVec 32 := 0#32
  let v384 : BitVec 1 := Scalar.cmpi .slt v378 c0_i32_183
  let v385 : BitVec 32 := Scalar.extui v384
  let v386 : BitVec 32 := Scalar.subi v383 v385
  let c64_i32_181 : BitVec 32 := 64#32
  let c0_i32_184 : BitVec 32 := 0#32
  let v387 : BitVec 1 := Scalar.cmpi .sgt c64_i32_181 c0_i32_184
  let v388 : BitVec 32 := Scalar.extui v387
  let c0_i32_185 : BitVec 32 := 0#32
  let v389 : BitVec 1 := Scalar.cmpi .slt c64_i32_181 c0_i32_185
  let v390 : BitVec 32 := Scalar.extui v389
  let v391 : BitVec 32 := Scalar.subi v388 v390
  let v392 : BitVec 1 := Scalar.cmpi .ne v386 v391
  let v393 : BitVec 32 := Scalar.remsi v378 c64_i32_181
  let c0_i32_186 : BitVec 32 := 0#32
  let v394 : BitVec 1 := Scalar.cmpi .ne v393 c0_i32_186
  let v395 : BitVec 1 := Scalar.andi v392 v394
  let v381 : BitVec 32 := Scalar.divsi v378 c64_i32_181
  let c1_i32_187 : BitVec 32 := 1#32
  let v396 : BitVec 32 := Scalar.subi v381 c1_i32_187
  let v397 : BitVec 32 := Scalar.select v395 v396 v381
  let c2_i32_188 : BitVec 32 := 2#32
  let c0_i32_189 : BitVec 32 := 0#32
  let v398 : BitVec 1 := Scalar.cmpi .eq c2_i32_188 c0_i32_189
  let c1_i32_190 : BitVec 32 := 1#32
  let v399 : BitVec 32 := Scalar.select v398 c1_i32_190 c2_i32_188
  let v400 : BitVec 32 := Scalar.remsi v397 v399
  let c0_i32_192 : BitVec 32 := 0#32
  let v402 : BitVec 1 := Scalar.cmpi .slt v400 c0_i32_192
  let c0_i32_193 : BitVec 32 := 0#32
  let v403 : BitVec 1 := Scalar.cmpi .slt v399 c0_i32_193
  let v404 : BitVec 1 := Scalar.xori v402 v403
  let c0_i32_191 : BitVec 32 := 0#32
  let v401 : BitVec 1 := Scalar.cmpi .ne v400 c0_i32_191
  let v405 : BitVec 1 := Scalar.andi v404 v401
  let v406 : BitVec 32 := Scalar.addi v400 v399
  let v407 : BitVec 32 := Scalar.select v405 v406 v400
  let c64_i32_196 : BitVec 32 := 64#32
  let v411 : BitVec 32 := Scalar.muli v407 c64_i32_196
  let v412 : BitVec 32 := Scalar.addi v380 v411
  let c0_i32_295_r42 : BitVec 32 := 0#32
  ![v412.toNat, 0]
def k0_cond25 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_198 : BitVec 32 := 0#32
  let v414 : BitVec 1 := Scalar.cmpi .sgt v378 c0_i32_198
  let v415 : BitVec 32 := Scalar.extui v414
  let c0_i32_199 : BitVec 32 := 0#32
  let v416 : BitVec 1 := Scalar.cmpi .slt v378 c0_i32_199
  let v417 : BitVec 32 := Scalar.extui v416
  let v418 : BitVec 32 := Scalar.subi v415 v417
  let c32_i32_197 : BitVec 32 := 32#32
  let c0_i32_200 : BitVec 32 := 0#32
  let v419 : BitVec 1 := Scalar.cmpi .sgt c32_i32_197 c0_i32_200
  let v420 : BitVec 32 := Scalar.extui v419
  let c0_i32_201 : BitVec 32 := 0#32
  let v421 : BitVec 1 := Scalar.cmpi .slt c32_i32_197 c0_i32_201
  let v422 : BitVec 32 := Scalar.extui v421
  let v423 : BitVec 32 := Scalar.subi v420 v422
  let v424 : BitVec 1 := Scalar.cmpi .ne v418 v423
  let v425 : BitVec 32 := Scalar.remsi v378 c32_i32_197
  let c0_i32_202 : BitVec 32 := 0#32
  let v426 : BitVec 1 := Scalar.cmpi .ne v425 c0_i32_202
  let v427 : BitVec 1 := Scalar.andi v424 v426
  let v413 : BitVec 32 := Scalar.divsi v378 c32_i32_197
  let c1_i32_203 : BitVec 32 := 1#32
  let v428 : BitVec 32 := Scalar.subi v413 c1_i32_203
  let v429 : BitVec 32 := Scalar.select v427 v428 v413
  let c2_i32_204 : BitVec 32 := 2#32
  let c0_i32_205 : BitVec 32 := 0#32
  let v430 : BitVec 1 := Scalar.cmpi .eq c2_i32_204 c0_i32_205
  let c1_i32_206 : BitVec 32 := 1#32
  let v431 : BitVec 32 := Scalar.select v430 c1_i32_206 c2_i32_204
  let v432 : BitVec 32 := Scalar.remsi v429 v431
  let c0_i32_208 : BitVec 32 := 0#32
  let v434 : BitVec 1 := Scalar.cmpi .slt v432 c0_i32_208
  let c0_i32_209 : BitVec 32 := 0#32
  let v435 : BitVec 1 := Scalar.cmpi .slt v431 c0_i32_209
  let v436 : BitVec 1 := Scalar.xori v434 v435
  let c0_i32_207 : BitVec 32 := 0#32
  let v433 : BitVec 1 := Scalar.cmpi .ne v432 c0_i32_207
  let v437 : BitVec 1 := Scalar.andi v436 v433
  let v438 : BitVec 32 := Scalar.addi v432 v431
  let v439 : BitVec 32 := Scalar.select v437 v438 v432
  let c1_i32_210 : BitVec 32 := 1#32
  let v440 : BitVec 1 := Scalar.cmpi .eq v439 c1_i32_210
  let v441 : BitVec 32 := Scalar.extui v440
  let c0_i32_211 : BitVec 32 := 0#32
  let v442 : BitVec 1 := Scalar.cmpi .ne v441 c0_i32_211
  v442

def k0_off41 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c1024_i32_17 : BitVec 32 := 1024#32
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c128_i32_180 : BitVec 32 := 128#32
  let v379 : BitVec 32 := Scalar.muli v343 c128_i32_180
  let v380 : BitVec 32 := Scalar.addi v344 v379
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_182 : BitVec 32 := 0#32
  let v382 : BitVec 1 := Scalar.cmpi .sgt v378 c0_i32_182
  let v383 : BitVec 32 := Scalar.extui v382
  let c0_i32_183 : BitVec 32 := 0#32
  let v384 : BitVec 1 := Scalar.cmpi .slt v378 c0_i32_183
  let v385 : BitVec 32 := Scalar.extui v384
  let v386 : BitVec 32 := Scalar.subi v383 v385
  let c64_i32_181 : BitVec 32 := 64#32
  let c0_i32_184 : BitVec 32 := 0#32
  let v387 : BitVec 1 := Scalar.cmpi .sgt c64_i32_181 c0_i32_184
  let v388 : BitVec 32 := Scalar.extui v387
  let c0_i32_185 : BitVec 32 := 0#32
  let v389 : BitVec 1 := Scalar.cmpi .slt c64_i32_181 c0_i32_185
  let v390 : BitVec 32 := Scalar.extui v389
  let v391 : BitVec 32 := Scalar.subi v388 v390
  let v392 : BitVec 1 := Scalar.cmpi .ne v386 v391
  let v393 : BitVec 32 := Scalar.remsi v378 c64_i32_181
  let c0_i32_186 : BitVec 32 := 0#32
  let v394 : BitVec 1 := Scalar.cmpi .ne v393 c0_i32_186
  let v395 : BitVec 1 := Scalar.andi v392 v394
  let v381 : BitVec 32 := Scalar.divsi v378 c64_i32_181
  let c1_i32_187 : BitVec 32 := 1#32
  let v396 : BitVec 32 := Scalar.subi v381 c1_i32_187
  let v397 : BitVec 32 := Scalar.select v395 v396 v381
  let c2_i32_188 : BitVec 32 := 2#32
  let c0_i32_189 : BitVec 32 := 0#32
  let v398 : BitVec 1 := Scalar.cmpi .eq c2_i32_188 c0_i32_189
  let c1_i32_190 : BitVec 32 := 1#32
  let v399 : BitVec 32 := Scalar.select v398 c1_i32_190 c2_i32_188
  let v400 : BitVec 32 := Scalar.remsi v397 v399
  let c0_i32_192 : BitVec 32 := 0#32
  let v402 : BitVec 1 := Scalar.cmpi .slt v400 c0_i32_192
  let c0_i32_193 : BitVec 32 := 0#32
  let v403 : BitVec 1 := Scalar.cmpi .slt v399 c0_i32_193
  let v404 : BitVec 1 := Scalar.xori v402 v403
  let c0_i32_191 : BitVec 32 := 0#32
  let v401 : BitVec 1 := Scalar.cmpi .ne v400 c0_i32_191
  let v405 : BitVec 1 := Scalar.andi v404 v401
  let v406 : BitVec 32 := Scalar.addi v400 v399
  let v407 : BitVec 32 := Scalar.select v405 v406 v400
  let c64_i32_196 : BitVec 32 := 64#32
  let v411 : BitVec 32 := Scalar.muli v407 c64_i32_196
  let v412 : BitVec 32 := Scalar.addi v380 v411
  let c0_i32_198 : BitVec 32 := 0#32
  let v414 : BitVec 1 := Scalar.cmpi .sgt v378 c0_i32_198
  let v415 : BitVec 32 := Scalar.extui v414
  let c0_i32_199 : BitVec 32 := 0#32
  let v416 : BitVec 1 := Scalar.cmpi .slt v378 c0_i32_199
  let v417 : BitVec 32 := Scalar.extui v416
  let v418 : BitVec 32 := Scalar.subi v415 v417
  let c32_i32_197 : BitVec 32 := 32#32
  let c0_i32_200 : BitVec 32 := 0#32
  let v419 : BitVec 1 := Scalar.cmpi .sgt c32_i32_197 c0_i32_200
  let v420 : BitVec 32 := Scalar.extui v419
  let c0_i32_201 : BitVec 32 := 0#32
  let v421 : BitVec 1 := Scalar.cmpi .slt c32_i32_197 c0_i32_201
  let v422 : BitVec 32 := Scalar.extui v421
  let v423 : BitVec 32 := Scalar.subi v420 v422
  let v424 : BitVec 1 := Scalar.cmpi .ne v418 v423
  let v425 : BitVec 32 := Scalar.remsi v378 c32_i32_197
  let c0_i32_202 : BitVec 32 := 0#32
  let v426 : BitVec 1 := Scalar.cmpi .ne v425 c0_i32_202
  let v427 : BitVec 1 := Scalar.andi v424 v426
  let v413 : BitVec 32 := Scalar.divsi v378 c32_i32_197
  let c1_i32_203 : BitVec 32 := 1#32
  let v428 : BitVec 32 := Scalar.subi v413 c1_i32_203
  let v429 : BitVec 32 := Scalar.select v427 v428 v413
  let c2_i32_204 : BitVec 32 := 2#32
  let c0_i32_205 : BitVec 32 := 0#32
  let v430 : BitVec 1 := Scalar.cmpi .eq c2_i32_204 c0_i32_205
  let c1_i32_206 : BitVec 32 := 1#32
  let v431 : BitVec 32 := Scalar.select v430 c1_i32_206 c2_i32_204
  let v432 : BitVec 32 := Scalar.remsi v429 v431
  let c0_i32_208 : BitVec 32 := 0#32
  let v434 : BitVec 1 := Scalar.cmpi .slt v432 c0_i32_208
  let c0_i32_209 : BitVec 32 := 0#32
  let v435 : BitVec 1 := Scalar.cmpi .slt v431 c0_i32_209
  let v436 : BitVec 1 := Scalar.xori v434 v435
  let c0_i32_207 : BitVec 32 := 0#32
  let v433 : BitVec 1 := Scalar.cmpi .ne v432 c0_i32_207
  let v437 : BitVec 1 := Scalar.andi v436 v433
  let v438 : BitVec 32 := Scalar.addi v432 v431
  let v439 : BitVec 32 := Scalar.select v437 v438 v432
  let c32_i32_212 : BitVec 32 := 32#32
  let v443 : BitVec 32 := Scalar.muli v439 c32_i32_212
  let v444 : BitVec 32 := Scalar.addi v412 v443
  let c0_i32_295_r43 : BitVec 32 := 0#32
  ![v444.toNat, 0]
def k0_cond26 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_214 : BitVec 32 := 0#32
  let v446 : BitVec 1 := Scalar.cmpi .sgt v378 c0_i32_214
  let v447 : BitVec 32 := Scalar.extui v446
  let c0_i32_215 : BitVec 32 := 0#32
  let v448 : BitVec 1 := Scalar.cmpi .slt v378 c0_i32_215
  let v449 : BitVec 32 := Scalar.extui v448
  let v450 : BitVec 32 := Scalar.subi v447 v449
  let c16_i32_213 : BitVec 32 := 16#32
  let c0_i32_216 : BitVec 32 := 0#32
  let v451 : BitVec 1 := Scalar.cmpi .sgt c16_i32_213 c0_i32_216
  let v452 : BitVec 32 := Scalar.extui v451
  let c0_i32_217 : BitVec 32 := 0#32
  let v453 : BitVec 1 := Scalar.cmpi .slt c16_i32_213 c0_i32_217
  let v454 : BitVec 32 := Scalar.extui v453
  let v455 : BitVec 32 := Scalar.subi v452 v454
  let v456 : BitVec 1 := Scalar.cmpi .ne v450 v455
  let v457 : BitVec 32 := Scalar.remsi v378 c16_i32_213
  let c0_i32_218 : BitVec 32 := 0#32
  let v458 : BitVec 1 := Scalar.cmpi .ne v457 c0_i32_218
  let v459 : BitVec 1 := Scalar.andi v456 v458
  let v445 : BitVec 32 := Scalar.divsi v378 c16_i32_213
  let c1_i32_219 : BitVec 32 := 1#32
  let v460 : BitVec 32 := Scalar.subi v445 c1_i32_219
  let v461 : BitVec 32 := Scalar.select v459 v460 v445
  let c2_i32_220 : BitVec 32 := 2#32
  let c0_i32_221 : BitVec 32 := 0#32
  let v462 : BitVec 1 := Scalar.cmpi .eq c2_i32_220 c0_i32_221
  let c1_i32_222 : BitVec 32 := 1#32
  let v463 : BitVec 32 := Scalar.select v462 c1_i32_222 c2_i32_220
  let v464 : BitVec 32 := Scalar.remsi v461 v463
  let c0_i32_224 : BitVec 32 := 0#32
  let v466 : BitVec 1 := Scalar.cmpi .slt v464 c0_i32_224
  let c0_i32_225 : BitVec 32 := 0#32
  let v467 : BitVec 1 := Scalar.cmpi .slt v463 c0_i32_225
  let v468 : BitVec 1 := Scalar.xori v466 v467
  let c0_i32_223 : BitVec 32 := 0#32
  let v465 : BitVec 1 := Scalar.cmpi .ne v464 c0_i32_223
  let v469 : BitVec 1 := Scalar.andi v468 v465
  let v470 : BitVec 32 := Scalar.addi v464 v463
  let v471 : BitVec 32 := Scalar.select v469 v470 v464
  let c1_i32_226 : BitVec 32 := 1#32
  let v472 : BitVec 1 := Scalar.cmpi .eq v471 c1_i32_226
  let v473 : BitVec 32 := Scalar.extui v472
  let c0_i32_227 : BitVec 32 := 0#32
  let v474 : BitVec 1 := Scalar.cmpi .ne v473 c0_i32_227
  v474

def k0_off42 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c1024_i32_17 : BitVec 32 := 1024#32
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c128_i32_180 : BitVec 32 := 128#32
  let v379 : BitVec 32 := Scalar.muli v343 c128_i32_180
  let v380 : BitVec 32 := Scalar.addi v344 v379
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_182 : BitVec 32 := 0#32
  let v382 : BitVec 1 := Scalar.cmpi .sgt v378 c0_i32_182
  let v383 : BitVec 32 := Scalar.extui v382
  let c0_i32_183 : BitVec 32 := 0#32
  let v384 : BitVec 1 := Scalar.cmpi .slt v378 c0_i32_183
  let v385 : BitVec 32 := Scalar.extui v384
  let v386 : BitVec 32 := Scalar.subi v383 v385
  let c64_i32_181 : BitVec 32 := 64#32
  let c0_i32_184 : BitVec 32 := 0#32
  let v387 : BitVec 1 := Scalar.cmpi .sgt c64_i32_181 c0_i32_184
  let v388 : BitVec 32 := Scalar.extui v387
  let c0_i32_185 : BitVec 32 := 0#32
  let v389 : BitVec 1 := Scalar.cmpi .slt c64_i32_181 c0_i32_185
  let v390 : BitVec 32 := Scalar.extui v389
  let v391 : BitVec 32 := Scalar.subi v388 v390
  let v392 : BitVec 1 := Scalar.cmpi .ne v386 v391
  let v393 : BitVec 32 := Scalar.remsi v378 c64_i32_181
  let c0_i32_186 : BitVec 32 := 0#32
  let v394 : BitVec 1 := Scalar.cmpi .ne v393 c0_i32_186
  let v395 : BitVec 1 := Scalar.andi v392 v394
  let v381 : BitVec 32 := Scalar.divsi v378 c64_i32_181
  let c1_i32_187 : BitVec 32 := 1#32
  let v396 : BitVec 32 := Scalar.subi v381 c1_i32_187
  let v397 : BitVec 32 := Scalar.select v395 v396 v381
  let c2_i32_188 : BitVec 32 := 2#32
  let c0_i32_189 : BitVec 32 := 0#32
  let v398 : BitVec 1 := Scalar.cmpi .eq c2_i32_188 c0_i32_189
  let c1_i32_190 : BitVec 32 := 1#32
  let v399 : BitVec 32 := Scalar.select v398 c1_i32_190 c2_i32_188
  let v400 : BitVec 32 := Scalar.remsi v397 v399
  let c0_i32_192 : BitVec 32 := 0#32
  let v402 : BitVec 1 := Scalar.cmpi .slt v400 c0_i32_192
  let c0_i32_193 : BitVec 32 := 0#32
  let v403 : BitVec 1 := Scalar.cmpi .slt v399 c0_i32_193
  let v404 : BitVec 1 := Scalar.xori v402 v403
  let c0_i32_191 : BitVec 32 := 0#32
  let v401 : BitVec 1 := Scalar.cmpi .ne v400 c0_i32_191
  let v405 : BitVec 1 := Scalar.andi v404 v401
  let v406 : BitVec 32 := Scalar.addi v400 v399
  let v407 : BitVec 32 := Scalar.select v405 v406 v400
  let c64_i32_196 : BitVec 32 := 64#32
  let v411 : BitVec 32 := Scalar.muli v407 c64_i32_196
  let v412 : BitVec 32 := Scalar.addi v380 v411
  let c0_i32_198 : BitVec 32 := 0#32
  let v414 : BitVec 1 := Scalar.cmpi .sgt v378 c0_i32_198
  let v415 : BitVec 32 := Scalar.extui v414
  let c0_i32_199 : BitVec 32 := 0#32
  let v416 : BitVec 1 := Scalar.cmpi .slt v378 c0_i32_199
  let v417 : BitVec 32 := Scalar.extui v416
  let v418 : BitVec 32 := Scalar.subi v415 v417
  let c32_i32_197 : BitVec 32 := 32#32
  let c0_i32_200 : BitVec 32 := 0#32
  let v419 : BitVec 1 := Scalar.cmpi .sgt c32_i32_197 c0_i32_200
  let v420 : BitVec 32 := Scalar.extui v419
  let c0_i32_201 : BitVec 32 := 0#32
  let v421 : BitVec 1 := Scalar.cmpi .slt c32_i32_197 c0_i32_201
  let v422 : BitVec 32 := Scalar.extui v421
  let v423 : BitVec 32 := Scalar.subi v420 v422
  let v424 : BitVec 1 := Scalar.cmpi .ne v418 v423
  let v425 : BitVec 32 := Scalar.remsi v378 c32_i32_197
  let c0_i32_202 : BitVec 32 := 0#32
  let v426 : BitVec 1 := Scalar.cmpi .ne v425 c0_i32_202
  let v427 : BitVec 1 := Scalar.andi v424 v426
  let v413 : BitVec 32 := Scalar.divsi v378 c32_i32_197
  let c1_i32_203 : BitVec 32 := 1#32
  let v428 : BitVec 32 := Scalar.subi v413 c1_i32_203
  let v429 : BitVec 32 := Scalar.select v427 v428 v413
  let c2_i32_204 : BitVec 32 := 2#32
  let c0_i32_205 : BitVec 32 := 0#32
  let v430 : BitVec 1 := Scalar.cmpi .eq c2_i32_204 c0_i32_205
  let c1_i32_206 : BitVec 32 := 1#32
  let v431 : BitVec 32 := Scalar.select v430 c1_i32_206 c2_i32_204
  let v432 : BitVec 32 := Scalar.remsi v429 v431
  let c0_i32_208 : BitVec 32 := 0#32
  let v434 : BitVec 1 := Scalar.cmpi .slt v432 c0_i32_208
  let c0_i32_209 : BitVec 32 := 0#32
  let v435 : BitVec 1 := Scalar.cmpi .slt v431 c0_i32_209
  let v436 : BitVec 1 := Scalar.xori v434 v435
  let c0_i32_207 : BitVec 32 := 0#32
  let v433 : BitVec 1 := Scalar.cmpi .ne v432 c0_i32_207
  let v437 : BitVec 1 := Scalar.andi v436 v433
  let v438 : BitVec 32 := Scalar.addi v432 v431
  let v439 : BitVec 32 := Scalar.select v437 v438 v432
  let c32_i32_212 : BitVec 32 := 32#32
  let v443 : BitVec 32 := Scalar.muli v439 c32_i32_212
  let v444 : BitVec 32 := Scalar.addi v412 v443
  let c0_i32_214 : BitVec 32 := 0#32
  let v446 : BitVec 1 := Scalar.cmpi .sgt v378 c0_i32_214
  let v447 : BitVec 32 := Scalar.extui v446
  let c0_i32_215 : BitVec 32 := 0#32
  let v448 : BitVec 1 := Scalar.cmpi .slt v378 c0_i32_215
  let v449 : BitVec 32 := Scalar.extui v448
  let v450 : BitVec 32 := Scalar.subi v447 v449
  let c16_i32_213 : BitVec 32 := 16#32
  let c0_i32_216 : BitVec 32 := 0#32
  let v451 : BitVec 1 := Scalar.cmpi .sgt c16_i32_213 c0_i32_216
  let v452 : BitVec 32 := Scalar.extui v451
  let c0_i32_217 : BitVec 32 := 0#32
  let v453 : BitVec 1 := Scalar.cmpi .slt c16_i32_213 c0_i32_217
  let v454 : BitVec 32 := Scalar.extui v453
  let v455 : BitVec 32 := Scalar.subi v452 v454
  let v456 : BitVec 1 := Scalar.cmpi .ne v450 v455
  let v457 : BitVec 32 := Scalar.remsi v378 c16_i32_213
  let c0_i32_218 : BitVec 32 := 0#32
  let v458 : BitVec 1 := Scalar.cmpi .ne v457 c0_i32_218
  let v459 : BitVec 1 := Scalar.andi v456 v458
  let v445 : BitVec 32 := Scalar.divsi v378 c16_i32_213
  let c1_i32_219 : BitVec 32 := 1#32
  let v460 : BitVec 32 := Scalar.subi v445 c1_i32_219
  let v461 : BitVec 32 := Scalar.select v459 v460 v445
  let c2_i32_220 : BitVec 32 := 2#32
  let c0_i32_221 : BitVec 32 := 0#32
  let v462 : BitVec 1 := Scalar.cmpi .eq c2_i32_220 c0_i32_221
  let c1_i32_222 : BitVec 32 := 1#32
  let v463 : BitVec 32 := Scalar.select v462 c1_i32_222 c2_i32_220
  let v464 : BitVec 32 := Scalar.remsi v461 v463
  let c0_i32_224 : BitVec 32 := 0#32
  let v466 : BitVec 1 := Scalar.cmpi .slt v464 c0_i32_224
  let c0_i32_225 : BitVec 32 := 0#32
  let v467 : BitVec 1 := Scalar.cmpi .slt v463 c0_i32_225
  let v468 : BitVec 1 := Scalar.xori v466 v467
  let c0_i32_223 : BitVec 32 := 0#32
  let v465 : BitVec 1 := Scalar.cmpi .ne v464 c0_i32_223
  let v469 : BitVec 1 := Scalar.andi v468 v465
  let v470 : BitVec 32 := Scalar.addi v464 v463
  let v471 : BitVec 32 := Scalar.select v469 v470 v464
  let c16_i32_228 : BitVec 32 := 16#32
  let v475 : BitVec 32 := Scalar.muli v471 c16_i32_228
  let v476 : BitVec 32 := Scalar.addi v444 v475
  let c0_i32_295_r44 : BitVec 32 := 0#32
  ![v476.toNat, 0]
def k0_cond27 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_230 : BitVec 32 := 0#32
  let v478 : BitVec 1 := Scalar.cmpi .sgt v378 c0_i32_230
  let v479 : BitVec 32 := Scalar.extui v478
  let c0_i32_231 : BitVec 32 := 0#32
  let v480 : BitVec 1 := Scalar.cmpi .slt v378 c0_i32_231
  let v481 : BitVec 32 := Scalar.extui v480
  let v482 : BitVec 32 := Scalar.subi v479 v481
  let c8_i32_229 : BitVec 32 := 8#32
  let c0_i32_232 : BitVec 32 := 0#32
  let v483 : BitVec 1 := Scalar.cmpi .sgt c8_i32_229 c0_i32_232
  let v484 : BitVec 32 := Scalar.extui v483
  let c0_i32_233 : BitVec 32 := 0#32
  let v485 : BitVec 1 := Scalar.cmpi .slt c8_i32_229 c0_i32_233
  let v486 : BitVec 32 := Scalar.extui v485
  let v487 : BitVec 32 := Scalar.subi v484 v486
  let v488 : BitVec 1 := Scalar.cmpi .ne v482 v487
  let v489 : BitVec 32 := Scalar.remsi v378 c8_i32_229
  let c0_i32_234 : BitVec 32 := 0#32
  let v490 : BitVec 1 := Scalar.cmpi .ne v489 c0_i32_234
  let v491 : BitVec 1 := Scalar.andi v488 v490
  let v477 : BitVec 32 := Scalar.divsi v378 c8_i32_229
  let c1_i32_235 : BitVec 32 := 1#32
  let v492 : BitVec 32 := Scalar.subi v477 c1_i32_235
  let v493 : BitVec 32 := Scalar.select v491 v492 v477
  let c2_i32_236 : BitVec 32 := 2#32
  let c0_i32_237 : BitVec 32 := 0#32
  let v494 : BitVec 1 := Scalar.cmpi .eq c2_i32_236 c0_i32_237
  let c1_i32_238 : BitVec 32 := 1#32
  let v495 : BitVec 32 := Scalar.select v494 c1_i32_238 c2_i32_236
  let v496 : BitVec 32 := Scalar.remsi v493 v495
  let c0_i32_240 : BitVec 32 := 0#32
  let v498 : BitVec 1 := Scalar.cmpi .slt v496 c0_i32_240
  let c0_i32_241 : BitVec 32 := 0#32
  let v499 : BitVec 1 := Scalar.cmpi .slt v495 c0_i32_241
  let v500 : BitVec 1 := Scalar.xori v498 v499
  let c0_i32_239 : BitVec 32 := 0#32
  let v497 : BitVec 1 := Scalar.cmpi .ne v496 c0_i32_239
  let v501 : BitVec 1 := Scalar.andi v500 v497
  let v502 : BitVec 32 := Scalar.addi v496 v495
  let v503 : BitVec 32 := Scalar.select v501 v502 v496
  let c1_i32_242 : BitVec 32 := 1#32
  let v504 : BitVec 1 := Scalar.cmpi .eq v503 c1_i32_242
  let v505 : BitVec 32 := Scalar.extui v504
  let c0_i32_243 : BitVec 32 := 0#32
  let v506 : BitVec 1 := Scalar.cmpi .ne v505 c0_i32_243
  v506

def k0_off43 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c1024_i32_17 : BitVec 32 := 1024#32
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c128_i32_180 : BitVec 32 := 128#32
  let v379 : BitVec 32 := Scalar.muli v343 c128_i32_180
  let v380 : BitVec 32 := Scalar.addi v344 v379
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_182 : BitVec 32 := 0#32
  let v382 : BitVec 1 := Scalar.cmpi .sgt v378 c0_i32_182
  let v383 : BitVec 32 := Scalar.extui v382
  let c0_i32_183 : BitVec 32 := 0#32
  let v384 : BitVec 1 := Scalar.cmpi .slt v378 c0_i32_183
  let v385 : BitVec 32 := Scalar.extui v384
  let v386 : BitVec 32 := Scalar.subi v383 v385
  let c64_i32_181 : BitVec 32 := 64#32
  let c0_i32_184 : BitVec 32 := 0#32
  let v387 : BitVec 1 := Scalar.cmpi .sgt c64_i32_181 c0_i32_184
  let v388 : BitVec 32 := Scalar.extui v387
  let c0_i32_185 : BitVec 32 := 0#32
  let v389 : BitVec 1 := Scalar.cmpi .slt c64_i32_181 c0_i32_185
  let v390 : BitVec 32 := Scalar.extui v389
  let v391 : BitVec 32 := Scalar.subi v388 v390
  let v392 : BitVec 1 := Scalar.cmpi .ne v386 v391
  let v393 : BitVec 32 := Scalar.remsi v378 c64_i32_181
  let c0_i32_186 : BitVec 32 := 0#32
  let v394 : BitVec 1 := Scalar.cmpi .ne v393 c0_i32_186
  let v395 : BitVec 1 := Scalar.andi v392 v394
  let v381 : BitVec 32 := Scalar.divsi v378 c64_i32_181
  let c1_i32_187 : BitVec 32 := 1#32
  let v396 : BitVec 32 := Scalar.subi v381 c1_i32_187
  let v397 : BitVec 32 := Scalar.select v395 v396 v381
  let c2_i32_188 : BitVec 32 := 2#32
  let c0_i32_189 : BitVec 32 := 0#32
  let v398 : BitVec 1 := Scalar.cmpi .eq c2_i32_188 c0_i32_189
  let c1_i32_190 : BitVec 32 := 1#32
  let v399 : BitVec 32 := Scalar.select v398 c1_i32_190 c2_i32_188
  let v400 : BitVec 32 := Scalar.remsi v397 v399
  let c0_i32_192 : BitVec 32 := 0#32
  let v402 : BitVec 1 := Scalar.cmpi .slt v400 c0_i32_192
  let c0_i32_193 : BitVec 32 := 0#32
  let v403 : BitVec 1 := Scalar.cmpi .slt v399 c0_i32_193
  let v404 : BitVec 1 := Scalar.xori v402 v403
  let c0_i32_191 : BitVec 32 := 0#32
  let v401 : BitVec 1 := Scalar.cmpi .ne v400 c0_i32_191
  let v405 : BitVec 1 := Scalar.andi v404 v401
  let v406 : BitVec 32 := Scalar.addi v400 v399
  let v407 : BitVec 32 := Scalar.select v405 v406 v400
  let c64_i32_196 : BitVec 32 := 64#32
  let v411 : BitVec 32 := Scalar.muli v407 c64_i32_196
  let v412 : BitVec 32 := Scalar.addi v380 v411
  let c0_i32_198 : BitVec 32 := 0#32
  let v414 : BitVec 1 := Scalar.cmpi .sgt v378 c0_i32_198
  let v415 : BitVec 32 := Scalar.extui v414
  let c0_i32_199 : BitVec 32 := 0#32
  let v416 : BitVec 1 := Scalar.cmpi .slt v378 c0_i32_199
  let v417 : BitVec 32 := Scalar.extui v416
  let v418 : BitVec 32 := Scalar.subi v415 v417
  let c32_i32_197 : BitVec 32 := 32#32
  let c0_i32_200 : BitVec 32 := 0#32
  let v419 : BitVec 1 := Scalar.cmpi .sgt c32_i32_197 c0_i32_200
  let v420 : BitVec 32 := Scalar.extui v419
  let c0_i32_201 : BitVec 32 := 0#32
  let v421 : BitVec 1 := Scalar.cmpi .slt c32_i32_197 c0_i32_201
  let v422 : BitVec 32 := Scalar.extui v421
  let v423 : BitVec 32 := Scalar.subi v420 v422
  let v424 : BitVec 1 := Scalar.cmpi .ne v418 v423
  let v425 : BitVec 32 := Scalar.remsi v378 c32_i32_197
  let c0_i32_202 : BitVec 32 := 0#32
  let v426 : BitVec 1 := Scalar.cmpi .ne v425 c0_i32_202
  let v427 : BitVec 1 := Scalar.andi v424 v426
  let v413 : BitVec 32 := Scalar.divsi v378 c32_i32_197
  let c1_i32_203 : BitVec 32 := 1#32
  let v428 : BitVec 32 := Scalar.subi v413 c1_i32_203
  let v429 : BitVec 32 := Scalar.select v427 v428 v413
  let c2_i32_204 : BitVec 32 := 2#32
  let c0_i32_205 : BitVec 32 := 0#32
  let v430 : BitVec 1 := Scalar.cmpi .eq c2_i32_204 c0_i32_205
  let c1_i32_206 : BitVec 32 := 1#32
  let v431 : BitVec 32 := Scalar.select v430 c1_i32_206 c2_i32_204
  let v432 : BitVec 32 := Scalar.remsi v429 v431
  let c0_i32_208 : BitVec 32 := 0#32
  let v434 : BitVec 1 := Scalar.cmpi .slt v432 c0_i32_208
  let c0_i32_209 : BitVec 32 := 0#32
  let v435 : BitVec 1 := Scalar.cmpi .slt v431 c0_i32_209
  let v436 : BitVec 1 := Scalar.xori v434 v435
  let c0_i32_207 : BitVec 32 := 0#32
  let v433 : BitVec 1 := Scalar.cmpi .ne v432 c0_i32_207
  let v437 : BitVec 1 := Scalar.andi v436 v433
  let v438 : BitVec 32 := Scalar.addi v432 v431
  let v439 : BitVec 32 := Scalar.select v437 v438 v432
  let c32_i32_212 : BitVec 32 := 32#32
  let v443 : BitVec 32 := Scalar.muli v439 c32_i32_212
  let v444 : BitVec 32 := Scalar.addi v412 v443
  let c0_i32_214 : BitVec 32 := 0#32
  let v446 : BitVec 1 := Scalar.cmpi .sgt v378 c0_i32_214
  let v447 : BitVec 32 := Scalar.extui v446
  let c0_i32_215 : BitVec 32 := 0#32
  let v448 : BitVec 1 := Scalar.cmpi .slt v378 c0_i32_215
  let v449 : BitVec 32 := Scalar.extui v448
  let v450 : BitVec 32 := Scalar.subi v447 v449
  let c16_i32_213 : BitVec 32 := 16#32
  let c0_i32_216 : BitVec 32 := 0#32
  let v451 : BitVec 1 := Scalar.cmpi .sgt c16_i32_213 c0_i32_216
  let v452 : BitVec 32 := Scalar.extui v451
  let c0_i32_217 : BitVec 32 := 0#32
  let v453 : BitVec 1 := Scalar.cmpi .slt c16_i32_213 c0_i32_217
  let v454 : BitVec 32 := Scalar.extui v453
  let v455 : BitVec 32 := Scalar.subi v452 v454
  let v456 : BitVec 1 := Scalar.cmpi .ne v450 v455
  let v457 : BitVec 32 := Scalar.remsi v378 c16_i32_213
  let c0_i32_218 : BitVec 32 := 0#32
  let v458 : BitVec 1 := Scalar.cmpi .ne v457 c0_i32_218
  let v459 : BitVec 1 := Scalar.andi v456 v458
  let v445 : BitVec 32 := Scalar.divsi v378 c16_i32_213
  let c1_i32_219 : BitVec 32 := 1#32
  let v460 : BitVec 32 := Scalar.subi v445 c1_i32_219
  let v461 : BitVec 32 := Scalar.select v459 v460 v445
  let c2_i32_220 : BitVec 32 := 2#32
  let c0_i32_221 : BitVec 32 := 0#32
  let v462 : BitVec 1 := Scalar.cmpi .eq c2_i32_220 c0_i32_221
  let c1_i32_222 : BitVec 32 := 1#32
  let v463 : BitVec 32 := Scalar.select v462 c1_i32_222 c2_i32_220
  let v464 : BitVec 32 := Scalar.remsi v461 v463
  let c0_i32_224 : BitVec 32 := 0#32
  let v466 : BitVec 1 := Scalar.cmpi .slt v464 c0_i32_224
  let c0_i32_225 : BitVec 32 := 0#32
  let v467 : BitVec 1 := Scalar.cmpi .slt v463 c0_i32_225
  let v468 : BitVec 1 := Scalar.xori v466 v467
  let c0_i32_223 : BitVec 32 := 0#32
  let v465 : BitVec 1 := Scalar.cmpi .ne v464 c0_i32_223
  let v469 : BitVec 1 := Scalar.andi v468 v465
  let v470 : BitVec 32 := Scalar.addi v464 v463
  let v471 : BitVec 32 := Scalar.select v469 v470 v464
  let c16_i32_228 : BitVec 32 := 16#32
  let v475 : BitVec 32 := Scalar.muli v471 c16_i32_228
  let v476 : BitVec 32 := Scalar.addi v444 v475
  let c0_i32_230 : BitVec 32 := 0#32
  let v478 : BitVec 1 := Scalar.cmpi .sgt v378 c0_i32_230
  let v479 : BitVec 32 := Scalar.extui v478
  let c0_i32_231 : BitVec 32 := 0#32
  let v480 : BitVec 1 := Scalar.cmpi .slt v378 c0_i32_231
  let v481 : BitVec 32 := Scalar.extui v480
  let v482 : BitVec 32 := Scalar.subi v479 v481
  let c8_i32_229 : BitVec 32 := 8#32
  let c0_i32_232 : BitVec 32 := 0#32
  let v483 : BitVec 1 := Scalar.cmpi .sgt c8_i32_229 c0_i32_232
  let v484 : BitVec 32 := Scalar.extui v483
  let c0_i32_233 : BitVec 32 := 0#32
  let v485 : BitVec 1 := Scalar.cmpi .slt c8_i32_229 c0_i32_233
  let v486 : BitVec 32 := Scalar.extui v485
  let v487 : BitVec 32 := Scalar.subi v484 v486
  let v488 : BitVec 1 := Scalar.cmpi .ne v482 v487
  let v489 : BitVec 32 := Scalar.remsi v378 c8_i32_229
  let c0_i32_234 : BitVec 32 := 0#32
  let v490 : BitVec 1 := Scalar.cmpi .ne v489 c0_i32_234
  let v491 : BitVec 1 := Scalar.andi v488 v490
  let v477 : BitVec 32 := Scalar.divsi v378 c8_i32_229
  let c1_i32_235 : BitVec 32 := 1#32
  let v492 : BitVec 32 := Scalar.subi v477 c1_i32_235
  let v493 : BitVec 32 := Scalar.select v491 v492 v477
  let c2_i32_236 : BitVec 32 := 2#32
  let c0_i32_237 : BitVec 32 := 0#32
  let v494 : BitVec 1 := Scalar.cmpi .eq c2_i32_236 c0_i32_237
  let c1_i32_238 : BitVec 32 := 1#32
  let v495 : BitVec 32 := Scalar.select v494 c1_i32_238 c2_i32_236
  let v496 : BitVec 32 := Scalar.remsi v493 v495
  let c0_i32_240 : BitVec 32 := 0#32
  let v498 : BitVec 1 := Scalar.cmpi .slt v496 c0_i32_240
  let c0_i32_241 : BitVec 32 := 0#32
  let v499 : BitVec 1 := Scalar.cmpi .slt v495 c0_i32_241
  let v500 : BitVec 1 := Scalar.xori v498 v499
  let c0_i32_239 : BitVec 32 := 0#32
  let v497 : BitVec 1 := Scalar.cmpi .ne v496 c0_i32_239
  let v501 : BitVec 1 := Scalar.andi v500 v497
  let v502 : BitVec 32 := Scalar.addi v496 v495
  let v503 : BitVec 32 := Scalar.select v501 v502 v496
  let c8_i32_244 : BitVec 32 := 8#32
  let v507 : BitVec 32 := Scalar.muli v503 c8_i32_244
  let v508 : BitVec 32 := Scalar.addi v476 v507
  let c0_i32_295_r45 : BitVec 32 := 0#32
  ![v508.toNat, 0]
def k0_cond28 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_246 : BitVec 32 := 0#32
  let v510 : BitVec 1 := Scalar.cmpi .sgt v378 c0_i32_246
  let v511 : BitVec 32 := Scalar.extui v510
  let c0_i32_247 : BitVec 32 := 0#32
  let v512 : BitVec 1 := Scalar.cmpi .slt v378 c0_i32_247
  let v513 : BitVec 32 := Scalar.extui v512
  let v514 : BitVec 32 := Scalar.subi v511 v513
  let c4_i32_245 : BitVec 32 := 4#32
  let c0_i32_248 : BitVec 32 := 0#32
  let v515 : BitVec 1 := Scalar.cmpi .sgt c4_i32_245 c0_i32_248
  let v516 : BitVec 32 := Scalar.extui v515
  let c0_i32_249 : BitVec 32 := 0#32
  let v517 : BitVec 1 := Scalar.cmpi .slt c4_i32_245 c0_i32_249
  let v518 : BitVec 32 := Scalar.extui v517
  let v519 : BitVec 32 := Scalar.subi v516 v518
  let v520 : BitVec 1 := Scalar.cmpi .ne v514 v519
  let v521 : BitVec 32 := Scalar.remsi v378 c4_i32_245
  let c0_i32_250 : BitVec 32 := 0#32
  let v522 : BitVec 1 := Scalar.cmpi .ne v521 c0_i32_250
  let v523 : BitVec 1 := Scalar.andi v520 v522
  let v509 : BitVec 32 := Scalar.divsi v378 c4_i32_245
  let c1_i32_251 : BitVec 32 := 1#32
  let v524 : BitVec 32 := Scalar.subi v509 c1_i32_251
  let v525 : BitVec 32 := Scalar.select v523 v524 v509
  let c2_i32_252 : BitVec 32 := 2#32
  let c0_i32_253 : BitVec 32 := 0#32
  let v526 : BitVec 1 := Scalar.cmpi .eq c2_i32_252 c0_i32_253
  let c1_i32_254 : BitVec 32 := 1#32
  let v527 : BitVec 32 := Scalar.select v526 c1_i32_254 c2_i32_252
  let v528 : BitVec 32 := Scalar.remsi v525 v527
  let c0_i32_256 : BitVec 32 := 0#32
  let v530 : BitVec 1 := Scalar.cmpi .slt v528 c0_i32_256
  let c0_i32_257 : BitVec 32 := 0#32
  let v531 : BitVec 1 := Scalar.cmpi .slt v527 c0_i32_257
  let v532 : BitVec 1 := Scalar.xori v530 v531
  let c0_i32_255 : BitVec 32 := 0#32
  let v529 : BitVec 1 := Scalar.cmpi .ne v528 c0_i32_255
  let v533 : BitVec 1 := Scalar.andi v532 v529
  let v534 : BitVec 32 := Scalar.addi v528 v527
  let v535 : BitVec 32 := Scalar.select v533 v534 v528
  let c1_i32_258 : BitVec 32 := 1#32
  let v536 : BitVec 1 := Scalar.cmpi .eq v535 c1_i32_258
  let v537 : BitVec 32 := Scalar.extui v536
  let c0_i32_259 : BitVec 32 := 0#32
  let v538 : BitVec 1 := Scalar.cmpi .ne v537 c0_i32_259
  v538

def k0_off44 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c1024_i32_17 : BitVec 32 := 1024#32
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c128_i32_180 : BitVec 32 := 128#32
  let v379 : BitVec 32 := Scalar.muli v343 c128_i32_180
  let v380 : BitVec 32 := Scalar.addi v344 v379
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_182 : BitVec 32 := 0#32
  let v382 : BitVec 1 := Scalar.cmpi .sgt v378 c0_i32_182
  let v383 : BitVec 32 := Scalar.extui v382
  let c0_i32_183 : BitVec 32 := 0#32
  let v384 : BitVec 1 := Scalar.cmpi .slt v378 c0_i32_183
  let v385 : BitVec 32 := Scalar.extui v384
  let v386 : BitVec 32 := Scalar.subi v383 v385
  let c64_i32_181 : BitVec 32 := 64#32
  let c0_i32_184 : BitVec 32 := 0#32
  let v387 : BitVec 1 := Scalar.cmpi .sgt c64_i32_181 c0_i32_184
  let v388 : BitVec 32 := Scalar.extui v387
  let c0_i32_185 : BitVec 32 := 0#32
  let v389 : BitVec 1 := Scalar.cmpi .slt c64_i32_181 c0_i32_185
  let v390 : BitVec 32 := Scalar.extui v389
  let v391 : BitVec 32 := Scalar.subi v388 v390
  let v392 : BitVec 1 := Scalar.cmpi .ne v386 v391
  let v393 : BitVec 32 := Scalar.remsi v378 c64_i32_181
  let c0_i32_186 : BitVec 32 := 0#32
  let v394 : BitVec 1 := Scalar.cmpi .ne v393 c0_i32_186
  let v395 : BitVec 1 := Scalar.andi v392 v394
  let v381 : BitVec 32 := Scalar.divsi v378 c64_i32_181
  let c1_i32_187 : BitVec 32 := 1#32
  let v396 : BitVec 32 := Scalar.subi v381 c1_i32_187
  let v397 : BitVec 32 := Scalar.select v395 v396 v381
  let c2_i32_188 : BitVec 32 := 2#32
  let c0_i32_189 : BitVec 32 := 0#32
  let v398 : BitVec 1 := Scalar.cmpi .eq c2_i32_188 c0_i32_189
  let c1_i32_190 : BitVec 32 := 1#32
  let v399 : BitVec 32 := Scalar.select v398 c1_i32_190 c2_i32_188
  let v400 : BitVec 32 := Scalar.remsi v397 v399
  let c0_i32_192 : BitVec 32 := 0#32
  let v402 : BitVec 1 := Scalar.cmpi .slt v400 c0_i32_192
  let c0_i32_193 : BitVec 32 := 0#32
  let v403 : BitVec 1 := Scalar.cmpi .slt v399 c0_i32_193
  let v404 : BitVec 1 := Scalar.xori v402 v403
  let c0_i32_191 : BitVec 32 := 0#32
  let v401 : BitVec 1 := Scalar.cmpi .ne v400 c0_i32_191
  let v405 : BitVec 1 := Scalar.andi v404 v401
  let v406 : BitVec 32 := Scalar.addi v400 v399
  let v407 : BitVec 32 := Scalar.select v405 v406 v400
  let c64_i32_196 : BitVec 32 := 64#32
  let v411 : BitVec 32 := Scalar.muli v407 c64_i32_196
  let v412 : BitVec 32 := Scalar.addi v380 v411
  let c0_i32_198 : BitVec 32 := 0#32
  let v414 : BitVec 1 := Scalar.cmpi .sgt v378 c0_i32_198
  let v415 : BitVec 32 := Scalar.extui v414
  let c0_i32_199 : BitVec 32 := 0#32
  let v416 : BitVec 1 := Scalar.cmpi .slt v378 c0_i32_199
  let v417 : BitVec 32 := Scalar.extui v416
  let v418 : BitVec 32 := Scalar.subi v415 v417
  let c32_i32_197 : BitVec 32 := 32#32
  let c0_i32_200 : BitVec 32 := 0#32
  let v419 : BitVec 1 := Scalar.cmpi .sgt c32_i32_197 c0_i32_200
  let v420 : BitVec 32 := Scalar.extui v419
  let c0_i32_201 : BitVec 32 := 0#32
  let v421 : BitVec 1 := Scalar.cmpi .slt c32_i32_197 c0_i32_201
  let v422 : BitVec 32 := Scalar.extui v421
  let v423 : BitVec 32 := Scalar.subi v420 v422
  let v424 : BitVec 1 := Scalar.cmpi .ne v418 v423
  let v425 : BitVec 32 := Scalar.remsi v378 c32_i32_197
  let c0_i32_202 : BitVec 32 := 0#32
  let v426 : BitVec 1 := Scalar.cmpi .ne v425 c0_i32_202
  let v427 : BitVec 1 := Scalar.andi v424 v426
  let v413 : BitVec 32 := Scalar.divsi v378 c32_i32_197
  let c1_i32_203 : BitVec 32 := 1#32
  let v428 : BitVec 32 := Scalar.subi v413 c1_i32_203
  let v429 : BitVec 32 := Scalar.select v427 v428 v413
  let c2_i32_204 : BitVec 32 := 2#32
  let c0_i32_205 : BitVec 32 := 0#32
  let v430 : BitVec 1 := Scalar.cmpi .eq c2_i32_204 c0_i32_205
  let c1_i32_206 : BitVec 32 := 1#32
  let v431 : BitVec 32 := Scalar.select v430 c1_i32_206 c2_i32_204
  let v432 : BitVec 32 := Scalar.remsi v429 v431
  let c0_i32_208 : BitVec 32 := 0#32
  let v434 : BitVec 1 := Scalar.cmpi .slt v432 c0_i32_208
  let c0_i32_209 : BitVec 32 := 0#32
  let v435 : BitVec 1 := Scalar.cmpi .slt v431 c0_i32_209
  let v436 : BitVec 1 := Scalar.xori v434 v435
  let c0_i32_207 : BitVec 32 := 0#32
  let v433 : BitVec 1 := Scalar.cmpi .ne v432 c0_i32_207
  let v437 : BitVec 1 := Scalar.andi v436 v433
  let v438 : BitVec 32 := Scalar.addi v432 v431
  let v439 : BitVec 32 := Scalar.select v437 v438 v432
  let c32_i32_212 : BitVec 32 := 32#32
  let v443 : BitVec 32 := Scalar.muli v439 c32_i32_212
  let v444 : BitVec 32 := Scalar.addi v412 v443
  let c0_i32_214 : BitVec 32 := 0#32
  let v446 : BitVec 1 := Scalar.cmpi .sgt v378 c0_i32_214
  let v447 : BitVec 32 := Scalar.extui v446
  let c0_i32_215 : BitVec 32 := 0#32
  let v448 : BitVec 1 := Scalar.cmpi .slt v378 c0_i32_215
  let v449 : BitVec 32 := Scalar.extui v448
  let v450 : BitVec 32 := Scalar.subi v447 v449
  let c16_i32_213 : BitVec 32 := 16#32
  let c0_i32_216 : BitVec 32 := 0#32
  let v451 : BitVec 1 := Scalar.cmpi .sgt c16_i32_213 c0_i32_216
  let v452 : BitVec 32 := Scalar.extui v451
  let c0_i32_217 : BitVec 32 := 0#32
  let v453 : BitVec 1 := Scalar.cmpi .slt c16_i32_213 c0_i32_217
  let v454 : BitVec 32 := Scalar.extui v453
  let v455 : BitVec 32 := Scalar.subi v452 v454
  let v456 : BitVec 1 := Scalar.cmpi .ne v450 v455
  let v457 : BitVec 32 := Scalar.remsi v378 c16_i32_213
  let c0_i32_218 : BitVec 32 := 0#32
  let v458 : BitVec 1 := Scalar.cmpi .ne v457 c0_i32_218
  let v459 : BitVec 1 := Scalar.andi v456 v458
  let v445 : BitVec 32 := Scalar.divsi v378 c16_i32_213
  let c1_i32_219 : BitVec 32 := 1#32
  let v460 : BitVec 32 := Scalar.subi v445 c1_i32_219
  let v461 : BitVec 32 := Scalar.select v459 v460 v445
  let c2_i32_220 : BitVec 32 := 2#32
  let c0_i32_221 : BitVec 32 := 0#32
  let v462 : BitVec 1 := Scalar.cmpi .eq c2_i32_220 c0_i32_221
  let c1_i32_222 : BitVec 32 := 1#32
  let v463 : BitVec 32 := Scalar.select v462 c1_i32_222 c2_i32_220
  let v464 : BitVec 32 := Scalar.remsi v461 v463
  let c0_i32_224 : BitVec 32 := 0#32
  let v466 : BitVec 1 := Scalar.cmpi .slt v464 c0_i32_224
  let c0_i32_225 : BitVec 32 := 0#32
  let v467 : BitVec 1 := Scalar.cmpi .slt v463 c0_i32_225
  let v468 : BitVec 1 := Scalar.xori v466 v467
  let c0_i32_223 : BitVec 32 := 0#32
  let v465 : BitVec 1 := Scalar.cmpi .ne v464 c0_i32_223
  let v469 : BitVec 1 := Scalar.andi v468 v465
  let v470 : BitVec 32 := Scalar.addi v464 v463
  let v471 : BitVec 32 := Scalar.select v469 v470 v464
  let c16_i32_228 : BitVec 32 := 16#32
  let v475 : BitVec 32 := Scalar.muli v471 c16_i32_228
  let v476 : BitVec 32 := Scalar.addi v444 v475
  let c0_i32_230 : BitVec 32 := 0#32
  let v478 : BitVec 1 := Scalar.cmpi .sgt v378 c0_i32_230
  let v479 : BitVec 32 := Scalar.extui v478
  let c0_i32_231 : BitVec 32 := 0#32
  let v480 : BitVec 1 := Scalar.cmpi .slt v378 c0_i32_231
  let v481 : BitVec 32 := Scalar.extui v480
  let v482 : BitVec 32 := Scalar.subi v479 v481
  let c8_i32_229 : BitVec 32 := 8#32
  let c0_i32_232 : BitVec 32 := 0#32
  let v483 : BitVec 1 := Scalar.cmpi .sgt c8_i32_229 c0_i32_232
  let v484 : BitVec 32 := Scalar.extui v483
  let c0_i32_233 : BitVec 32 := 0#32
  let v485 : BitVec 1 := Scalar.cmpi .slt c8_i32_229 c0_i32_233
  let v486 : BitVec 32 := Scalar.extui v485
  let v487 : BitVec 32 := Scalar.subi v484 v486
  let v488 : BitVec 1 := Scalar.cmpi .ne v482 v487
  let v489 : BitVec 32 := Scalar.remsi v378 c8_i32_229
  let c0_i32_234 : BitVec 32 := 0#32
  let v490 : BitVec 1 := Scalar.cmpi .ne v489 c0_i32_234
  let v491 : BitVec 1 := Scalar.andi v488 v490
  let v477 : BitVec 32 := Scalar.divsi v378 c8_i32_229
  let c1_i32_235 : BitVec 32 := 1#32
  let v492 : BitVec 32 := Scalar.subi v477 c1_i32_235
  let v493 : BitVec 32 := Scalar.select v491 v492 v477
  let c2_i32_236 : BitVec 32 := 2#32
  let c0_i32_237 : BitVec 32 := 0#32
  let v494 : BitVec 1 := Scalar.cmpi .eq c2_i32_236 c0_i32_237
  let c1_i32_238 : BitVec 32 := 1#32
  let v495 : BitVec 32 := Scalar.select v494 c1_i32_238 c2_i32_236
  let v496 : BitVec 32 := Scalar.remsi v493 v495
  let c0_i32_240 : BitVec 32 := 0#32
  let v498 : BitVec 1 := Scalar.cmpi .slt v496 c0_i32_240
  let c0_i32_241 : BitVec 32 := 0#32
  let v499 : BitVec 1 := Scalar.cmpi .slt v495 c0_i32_241
  let v500 : BitVec 1 := Scalar.xori v498 v499
  let c0_i32_239 : BitVec 32 := 0#32
  let v497 : BitVec 1 := Scalar.cmpi .ne v496 c0_i32_239
  let v501 : BitVec 1 := Scalar.andi v500 v497
  let v502 : BitVec 32 := Scalar.addi v496 v495
  let v503 : BitVec 32 := Scalar.select v501 v502 v496
  let c8_i32_244 : BitVec 32 := 8#32
  let v507 : BitVec 32 := Scalar.muli v503 c8_i32_244
  let v508 : BitVec 32 := Scalar.addi v476 v507
  let c0_i32_246 : BitVec 32 := 0#32
  let v510 : BitVec 1 := Scalar.cmpi .sgt v378 c0_i32_246
  let v511 : BitVec 32 := Scalar.extui v510
  let c0_i32_247 : BitVec 32 := 0#32
  let v512 : BitVec 1 := Scalar.cmpi .slt v378 c0_i32_247
  let v513 : BitVec 32 := Scalar.extui v512
  let v514 : BitVec 32 := Scalar.subi v511 v513
  let c4_i32_245 : BitVec 32 := 4#32
  let c0_i32_248 : BitVec 32 := 0#32
  let v515 : BitVec 1 := Scalar.cmpi .sgt c4_i32_245 c0_i32_248
  let v516 : BitVec 32 := Scalar.extui v515
  let c0_i32_249 : BitVec 32 := 0#32
  let v517 : BitVec 1 := Scalar.cmpi .slt c4_i32_245 c0_i32_249
  let v518 : BitVec 32 := Scalar.extui v517
  let v519 : BitVec 32 := Scalar.subi v516 v518
  let v520 : BitVec 1 := Scalar.cmpi .ne v514 v519
  let v521 : BitVec 32 := Scalar.remsi v378 c4_i32_245
  let c0_i32_250 : BitVec 32 := 0#32
  let v522 : BitVec 1 := Scalar.cmpi .ne v521 c0_i32_250
  let v523 : BitVec 1 := Scalar.andi v520 v522
  let v509 : BitVec 32 := Scalar.divsi v378 c4_i32_245
  let c1_i32_251 : BitVec 32 := 1#32
  let v524 : BitVec 32 := Scalar.subi v509 c1_i32_251
  let v525 : BitVec 32 := Scalar.select v523 v524 v509
  let c2_i32_252 : BitVec 32 := 2#32
  let c0_i32_253 : BitVec 32 := 0#32
  let v526 : BitVec 1 := Scalar.cmpi .eq c2_i32_252 c0_i32_253
  let c1_i32_254 : BitVec 32 := 1#32
  let v527 : BitVec 32 := Scalar.select v526 c1_i32_254 c2_i32_252
  let v528 : BitVec 32 := Scalar.remsi v525 v527
  let c0_i32_256 : BitVec 32 := 0#32
  let v530 : BitVec 1 := Scalar.cmpi .slt v528 c0_i32_256
  let c0_i32_257 : BitVec 32 := 0#32
  let v531 : BitVec 1 := Scalar.cmpi .slt v527 c0_i32_257
  let v532 : BitVec 1 := Scalar.xori v530 v531
  let c0_i32_255 : BitVec 32 := 0#32
  let v529 : BitVec 1 := Scalar.cmpi .ne v528 c0_i32_255
  let v533 : BitVec 1 := Scalar.andi v532 v529
  let v534 : BitVec 32 := Scalar.addi v528 v527
  let v535 : BitVec 32 := Scalar.select v533 v534 v528
  let c4_i32_260 : BitVec 32 := 4#32
  let v539 : BitVec 32 := Scalar.muli v535 c4_i32_260
  let v540 : BitVec 32 := Scalar.addi v508 v539
  let c0_i32_295_r46 : BitVec 32 := 0#32
  ![v540.toNat, 0]
def k0_cond29 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_262 : BitVec 32 := 0#32
  let v542 : BitVec 1 := Scalar.cmpi .sgt v378 c0_i32_262
  let v543 : BitVec 32 := Scalar.extui v542
  let c0_i32_263 : BitVec 32 := 0#32
  let v544 : BitVec 1 := Scalar.cmpi .slt v378 c0_i32_263
  let v545 : BitVec 32 := Scalar.extui v544
  let v546 : BitVec 32 := Scalar.subi v543 v545
  let c2_i32_261 : BitVec 32 := 2#32
  let c0_i32_264 : BitVec 32 := 0#32
  let v547 : BitVec 1 := Scalar.cmpi .sgt c2_i32_261 c0_i32_264
  let v548 : BitVec 32 := Scalar.extui v547
  let c0_i32_265 : BitVec 32 := 0#32
  let v549 : BitVec 1 := Scalar.cmpi .slt c2_i32_261 c0_i32_265
  let v550 : BitVec 32 := Scalar.extui v549
  let v551 : BitVec 32 := Scalar.subi v548 v550
  let v552 : BitVec 1 := Scalar.cmpi .ne v546 v551
  let v553 : BitVec 32 := Scalar.remsi v378 c2_i32_261
  let c0_i32_266 : BitVec 32 := 0#32
  let v554 : BitVec 1 := Scalar.cmpi .ne v553 c0_i32_266
  let v555 : BitVec 1 := Scalar.andi v552 v554
  let v541 : BitVec 32 := Scalar.divsi v378 c2_i32_261
  let c1_i32_267 : BitVec 32 := 1#32
  let v556 : BitVec 32 := Scalar.subi v541 c1_i32_267
  let v557 : BitVec 32 := Scalar.select v555 v556 v541
  let c2_i32_268 : BitVec 32 := 2#32
  let c0_i32_269 : BitVec 32 := 0#32
  let v558 : BitVec 1 := Scalar.cmpi .eq c2_i32_268 c0_i32_269
  let c1_i32_270 : BitVec 32 := 1#32
  let v559 : BitVec 32 := Scalar.select v558 c1_i32_270 c2_i32_268
  let v560 : BitVec 32 := Scalar.remsi v557 v559
  let c0_i32_272 : BitVec 32 := 0#32
  let v562 : BitVec 1 := Scalar.cmpi .slt v560 c0_i32_272
  let c0_i32_273 : BitVec 32 := 0#32
  let v563 : BitVec 1 := Scalar.cmpi .slt v559 c0_i32_273
  let v564 : BitVec 1 := Scalar.xori v562 v563
  let c0_i32_271 : BitVec 32 := 0#32
  let v561 : BitVec 1 := Scalar.cmpi .ne v560 c0_i32_271
  let v565 : BitVec 1 := Scalar.andi v564 v561
  let v566 : BitVec 32 := Scalar.addi v560 v559
  let v567 : BitVec 32 := Scalar.select v565 v566 v560
  let c1_i32_274 : BitVec 32 := 1#32
  let v568 : BitVec 1 := Scalar.cmpi .eq v567 c1_i32_274
  let v569 : BitVec 32 := Scalar.extui v568
  let c0_i32_275 : BitVec 32 := 0#32
  let v570 : BitVec 1 := Scalar.cmpi .ne v569 c0_i32_275
  v570

def k0_off45 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_18 : BitVec 32 := 1024#32
  let v49 : BitVec 32 := Scalar.muli v1 c1024_i32_18
  let c1024_i32_16 : BitVec 32 := 1024#32
  let c0_i32_15 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v344 : BitVec 32 := Scalar.addi v49 v47
  let c1024_i32_17 : BitVec 32 := 1024#32
  let v48 : BitVec 32 := Scalar.subi c1024_i32_17 v47
  let c0_i32_152 : BitVec 32 := 0#32
  let v328 : BitVec 1 := Scalar.cmpi .sgt v48 c0_i32_152
  let v329 : BitVec 32 := Scalar.extui v328
  let c0_i32_153 : BitVec 32 := 0#32
  let v330 : BitVec 1 := Scalar.cmpi .slt v48 c0_i32_153
  let v331 : BitVec 32 := Scalar.extui v330
  let v332 : BitVec 32 := Scalar.subi v329 v331
  let c128_i32_151 : BitVec 32 := 128#32
  let c0_i32_154 : BitVec 32 := 0#32
  let v333 : BitVec 1 := Scalar.cmpi .sgt c128_i32_151 c0_i32_154
  let v334 : BitVec 32 := Scalar.extui v333
  let c0_i32_155 : BitVec 32 := 0#32
  let v335 : BitVec 1 := Scalar.cmpi .slt c128_i32_151 c0_i32_155
  let v336 : BitVec 32 := Scalar.extui v335
  let v337 : BitVec 32 := Scalar.subi v334 v336
  let v338 : BitVec 1 := Scalar.cmpi .ne v332 v337
  let v339 : BitVec 32 := Scalar.remsi v48 c128_i32_151
  let c0_i32_156 : BitVec 32 := 0#32
  let v340 : BitVec 1 := Scalar.cmpi .ne v339 c0_i32_156
  let v341 : BitVec 1 := Scalar.andi v338 v340
  let v327 : BitVec 32 := Scalar.divsi v48 c128_i32_151
  let c1_i32_157 : BitVec 32 := 1#32
  let v342 : BitVec 32 := Scalar.subi v327 c1_i32_157
  let v343 : BitVec 32 := Scalar.select v341 v342 v327
  let c128_i32_180 : BitVec 32 := 128#32
  let v379 : BitVec 32 := Scalar.muli v343 c128_i32_180
  let v380 : BitVec 32 := Scalar.addi v344 v379
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_182 : BitVec 32 := 0#32
  let v382 : BitVec 1 := Scalar.cmpi .sgt v378 c0_i32_182
  let v383 : BitVec 32 := Scalar.extui v382
  let c0_i32_183 : BitVec 32 := 0#32
  let v384 : BitVec 1 := Scalar.cmpi .slt v378 c0_i32_183
  let v385 : BitVec 32 := Scalar.extui v384
  let v386 : BitVec 32 := Scalar.subi v383 v385
  let c64_i32_181 : BitVec 32 := 64#32
  let c0_i32_184 : BitVec 32 := 0#32
  let v387 : BitVec 1 := Scalar.cmpi .sgt c64_i32_181 c0_i32_184
  let v388 : BitVec 32 := Scalar.extui v387
  let c0_i32_185 : BitVec 32 := 0#32
  let v389 : BitVec 1 := Scalar.cmpi .slt c64_i32_181 c0_i32_185
  let v390 : BitVec 32 := Scalar.extui v389
  let v391 : BitVec 32 := Scalar.subi v388 v390
  let v392 : BitVec 1 := Scalar.cmpi .ne v386 v391
  let v393 : BitVec 32 := Scalar.remsi v378 c64_i32_181
  let c0_i32_186 : BitVec 32 := 0#32
  let v394 : BitVec 1 := Scalar.cmpi .ne v393 c0_i32_186
  let v395 : BitVec 1 := Scalar.andi v392 v394
  let v381 : BitVec 32 := Scalar.divsi v378 c64_i32_181
  let c1_i32_187 : BitVec 32 := 1#32
  let v396 : BitVec 32 := Scalar.subi v381 c1_i32_187
  let v397 : BitVec 32 := Scalar.select v395 v396 v381
  let c2_i32_188 : BitVec 32 := 2#32
  let c0_i32_189 : BitVec 32 := 0#32
  let v398 : BitVec 1 := Scalar.cmpi .eq c2_i32_188 c0_i32_189
  let c1_i32_190 : BitVec 32 := 1#32
  let v399 : BitVec 32 := Scalar.select v398 c1_i32_190 c2_i32_188
  let v400 : BitVec 32 := Scalar.remsi v397 v399
  let c0_i32_192 : BitVec 32 := 0#32
  let v402 : BitVec 1 := Scalar.cmpi .slt v400 c0_i32_192
  let c0_i32_193 : BitVec 32 := 0#32
  let v403 : BitVec 1 := Scalar.cmpi .slt v399 c0_i32_193
  let v404 : BitVec 1 := Scalar.xori v402 v403
  let c0_i32_191 : BitVec 32 := 0#32
  let v401 : BitVec 1 := Scalar.cmpi .ne v400 c0_i32_191
  let v405 : BitVec 1 := Scalar.andi v404 v401
  let v406 : BitVec 32 := Scalar.addi v400 v399
  let v407 : BitVec 32 := Scalar.select v405 v406 v400
  let c64_i32_196 : BitVec 32 := 64#32
  let v411 : BitVec 32 := Scalar.muli v407 c64_i32_196
  let v412 : BitVec 32 := Scalar.addi v380 v411
  let c0_i32_198 : BitVec 32 := 0#32
  let v414 : BitVec 1 := Scalar.cmpi .sgt v378 c0_i32_198
  let v415 : BitVec 32 := Scalar.extui v414
  let c0_i32_199 : BitVec 32 := 0#32
  let v416 : BitVec 1 := Scalar.cmpi .slt v378 c0_i32_199
  let v417 : BitVec 32 := Scalar.extui v416
  let v418 : BitVec 32 := Scalar.subi v415 v417
  let c32_i32_197 : BitVec 32 := 32#32
  let c0_i32_200 : BitVec 32 := 0#32
  let v419 : BitVec 1 := Scalar.cmpi .sgt c32_i32_197 c0_i32_200
  let v420 : BitVec 32 := Scalar.extui v419
  let c0_i32_201 : BitVec 32 := 0#32
  let v421 : BitVec 1 := Scalar.cmpi .slt c32_i32_197 c0_i32_201
  let v422 : BitVec 32 := Scalar.extui v421
  let v423 : BitVec 32 := Scalar.subi v420 v422
  let v424 : BitVec 1 := Scalar.cmpi .ne v418 v423
  let v425 : BitVec 32 := Scalar.remsi v378 c32_i32_197
  let c0_i32_202 : BitVec 32 := 0#32
  let v426 : BitVec 1 := Scalar.cmpi .ne v425 c0_i32_202
  let v427 : BitVec 1 := Scalar.andi v424 v426
  let v413 : BitVec 32 := Scalar.divsi v378 c32_i32_197
  let c1_i32_203 : BitVec 32 := 1#32
  let v428 : BitVec 32 := Scalar.subi v413 c1_i32_203
  let v429 : BitVec 32 := Scalar.select v427 v428 v413
  let c2_i32_204 : BitVec 32 := 2#32
  let c0_i32_205 : BitVec 32 := 0#32
  let v430 : BitVec 1 := Scalar.cmpi .eq c2_i32_204 c0_i32_205
  let c1_i32_206 : BitVec 32 := 1#32
  let v431 : BitVec 32 := Scalar.select v430 c1_i32_206 c2_i32_204
  let v432 : BitVec 32 := Scalar.remsi v429 v431
  let c0_i32_208 : BitVec 32 := 0#32
  let v434 : BitVec 1 := Scalar.cmpi .slt v432 c0_i32_208
  let c0_i32_209 : BitVec 32 := 0#32
  let v435 : BitVec 1 := Scalar.cmpi .slt v431 c0_i32_209
  let v436 : BitVec 1 := Scalar.xori v434 v435
  let c0_i32_207 : BitVec 32 := 0#32
  let v433 : BitVec 1 := Scalar.cmpi .ne v432 c0_i32_207
  let v437 : BitVec 1 := Scalar.andi v436 v433
  let v438 : BitVec 32 := Scalar.addi v432 v431
  let v439 : BitVec 32 := Scalar.select v437 v438 v432
  let c32_i32_212 : BitVec 32 := 32#32
  let v443 : BitVec 32 := Scalar.muli v439 c32_i32_212
  let v444 : BitVec 32 := Scalar.addi v412 v443
  let c0_i32_214 : BitVec 32 := 0#32
  let v446 : BitVec 1 := Scalar.cmpi .sgt v378 c0_i32_214
  let v447 : BitVec 32 := Scalar.extui v446
  let c0_i32_215 : BitVec 32 := 0#32
  let v448 : BitVec 1 := Scalar.cmpi .slt v378 c0_i32_215
  let v449 : BitVec 32 := Scalar.extui v448
  let v450 : BitVec 32 := Scalar.subi v447 v449
  let c16_i32_213 : BitVec 32 := 16#32
  let c0_i32_216 : BitVec 32 := 0#32
  let v451 : BitVec 1 := Scalar.cmpi .sgt c16_i32_213 c0_i32_216
  let v452 : BitVec 32 := Scalar.extui v451
  let c0_i32_217 : BitVec 32 := 0#32
  let v453 : BitVec 1 := Scalar.cmpi .slt c16_i32_213 c0_i32_217
  let v454 : BitVec 32 := Scalar.extui v453
  let v455 : BitVec 32 := Scalar.subi v452 v454
  let v456 : BitVec 1 := Scalar.cmpi .ne v450 v455
  let v457 : BitVec 32 := Scalar.remsi v378 c16_i32_213
  let c0_i32_218 : BitVec 32 := 0#32
  let v458 : BitVec 1 := Scalar.cmpi .ne v457 c0_i32_218
  let v459 : BitVec 1 := Scalar.andi v456 v458
  let v445 : BitVec 32 := Scalar.divsi v378 c16_i32_213
  let c1_i32_219 : BitVec 32 := 1#32
  let v460 : BitVec 32 := Scalar.subi v445 c1_i32_219
  let v461 : BitVec 32 := Scalar.select v459 v460 v445
  let c2_i32_220 : BitVec 32 := 2#32
  let c0_i32_221 : BitVec 32 := 0#32
  let v462 : BitVec 1 := Scalar.cmpi .eq c2_i32_220 c0_i32_221
  let c1_i32_222 : BitVec 32 := 1#32
  let v463 : BitVec 32 := Scalar.select v462 c1_i32_222 c2_i32_220
  let v464 : BitVec 32 := Scalar.remsi v461 v463
  let c0_i32_224 : BitVec 32 := 0#32
  let v466 : BitVec 1 := Scalar.cmpi .slt v464 c0_i32_224
  let c0_i32_225 : BitVec 32 := 0#32
  let v467 : BitVec 1 := Scalar.cmpi .slt v463 c0_i32_225
  let v468 : BitVec 1 := Scalar.xori v466 v467
  let c0_i32_223 : BitVec 32 := 0#32
  let v465 : BitVec 1 := Scalar.cmpi .ne v464 c0_i32_223
  let v469 : BitVec 1 := Scalar.andi v468 v465
  let v470 : BitVec 32 := Scalar.addi v464 v463
  let v471 : BitVec 32 := Scalar.select v469 v470 v464
  let c16_i32_228 : BitVec 32 := 16#32
  let v475 : BitVec 32 := Scalar.muli v471 c16_i32_228
  let v476 : BitVec 32 := Scalar.addi v444 v475
  let c0_i32_230 : BitVec 32 := 0#32
  let v478 : BitVec 1 := Scalar.cmpi .sgt v378 c0_i32_230
  let v479 : BitVec 32 := Scalar.extui v478
  let c0_i32_231 : BitVec 32 := 0#32
  let v480 : BitVec 1 := Scalar.cmpi .slt v378 c0_i32_231
  let v481 : BitVec 32 := Scalar.extui v480
  let v482 : BitVec 32 := Scalar.subi v479 v481
  let c8_i32_229 : BitVec 32 := 8#32
  let c0_i32_232 : BitVec 32 := 0#32
  let v483 : BitVec 1 := Scalar.cmpi .sgt c8_i32_229 c0_i32_232
  let v484 : BitVec 32 := Scalar.extui v483
  let c0_i32_233 : BitVec 32 := 0#32
  let v485 : BitVec 1 := Scalar.cmpi .slt c8_i32_229 c0_i32_233
  let v486 : BitVec 32 := Scalar.extui v485
  let v487 : BitVec 32 := Scalar.subi v484 v486
  let v488 : BitVec 1 := Scalar.cmpi .ne v482 v487
  let v489 : BitVec 32 := Scalar.remsi v378 c8_i32_229
  let c0_i32_234 : BitVec 32 := 0#32
  let v490 : BitVec 1 := Scalar.cmpi .ne v489 c0_i32_234
  let v491 : BitVec 1 := Scalar.andi v488 v490
  let v477 : BitVec 32 := Scalar.divsi v378 c8_i32_229
  let c1_i32_235 : BitVec 32 := 1#32
  let v492 : BitVec 32 := Scalar.subi v477 c1_i32_235
  let v493 : BitVec 32 := Scalar.select v491 v492 v477
  let c2_i32_236 : BitVec 32 := 2#32
  let c0_i32_237 : BitVec 32 := 0#32
  let v494 : BitVec 1 := Scalar.cmpi .eq c2_i32_236 c0_i32_237
  let c1_i32_238 : BitVec 32 := 1#32
  let v495 : BitVec 32 := Scalar.select v494 c1_i32_238 c2_i32_236
  let v496 : BitVec 32 := Scalar.remsi v493 v495
  let c0_i32_240 : BitVec 32 := 0#32
  let v498 : BitVec 1 := Scalar.cmpi .slt v496 c0_i32_240
  let c0_i32_241 : BitVec 32 := 0#32
  let v499 : BitVec 1 := Scalar.cmpi .slt v495 c0_i32_241
  let v500 : BitVec 1 := Scalar.xori v498 v499
  let c0_i32_239 : BitVec 32 := 0#32
  let v497 : BitVec 1 := Scalar.cmpi .ne v496 c0_i32_239
  let v501 : BitVec 1 := Scalar.andi v500 v497
  let v502 : BitVec 32 := Scalar.addi v496 v495
  let v503 : BitVec 32 := Scalar.select v501 v502 v496
  let c8_i32_244 : BitVec 32 := 8#32
  let v507 : BitVec 32 := Scalar.muli v503 c8_i32_244
  let v508 : BitVec 32 := Scalar.addi v476 v507
  let c0_i32_246 : BitVec 32 := 0#32
  let v510 : BitVec 1 := Scalar.cmpi .sgt v378 c0_i32_246
  let v511 : BitVec 32 := Scalar.extui v510
  let c0_i32_247 : BitVec 32 := 0#32
  let v512 : BitVec 1 := Scalar.cmpi .slt v378 c0_i32_247
  let v513 : BitVec 32 := Scalar.extui v512
  let v514 : BitVec 32 := Scalar.subi v511 v513
  let c4_i32_245 : BitVec 32 := 4#32
  let c0_i32_248 : BitVec 32 := 0#32
  let v515 : BitVec 1 := Scalar.cmpi .sgt c4_i32_245 c0_i32_248
  let v516 : BitVec 32 := Scalar.extui v515
  let c0_i32_249 : BitVec 32 := 0#32
  let v517 : BitVec 1 := Scalar.cmpi .slt c4_i32_245 c0_i32_249
  let v518 : BitVec 32 := Scalar.extui v517
  let v519 : BitVec 32 := Scalar.subi v516 v518
  let v520 : BitVec 1 := Scalar.cmpi .ne v514 v519
  let v521 : BitVec 32 := Scalar.remsi v378 c4_i32_245
  let c0_i32_250 : BitVec 32 := 0#32
  let v522 : BitVec 1 := Scalar.cmpi .ne v521 c0_i32_250
  let v523 : BitVec 1 := Scalar.andi v520 v522
  let v509 : BitVec 32 := Scalar.divsi v378 c4_i32_245
  let c1_i32_251 : BitVec 32 := 1#32
  let v524 : BitVec 32 := Scalar.subi v509 c1_i32_251
  let v525 : BitVec 32 := Scalar.select v523 v524 v509
  let c2_i32_252 : BitVec 32 := 2#32
  let c0_i32_253 : BitVec 32 := 0#32
  let v526 : BitVec 1 := Scalar.cmpi .eq c2_i32_252 c0_i32_253
  let c1_i32_254 : BitVec 32 := 1#32
  let v527 : BitVec 32 := Scalar.select v526 c1_i32_254 c2_i32_252
  let v528 : BitVec 32 := Scalar.remsi v525 v527
  let c0_i32_256 : BitVec 32 := 0#32
  let v530 : BitVec 1 := Scalar.cmpi .slt v528 c0_i32_256
  let c0_i32_257 : BitVec 32 := 0#32
  let v531 : BitVec 1 := Scalar.cmpi .slt v527 c0_i32_257
  let v532 : BitVec 1 := Scalar.xori v530 v531
  let c0_i32_255 : BitVec 32 := 0#32
  let v529 : BitVec 1 := Scalar.cmpi .ne v528 c0_i32_255
  let v533 : BitVec 1 := Scalar.andi v532 v529
  let v534 : BitVec 32 := Scalar.addi v528 v527
  let v535 : BitVec 32 := Scalar.select v533 v534 v528
  let c4_i32_260 : BitVec 32 := 4#32
  let v539 : BitVec 32 := Scalar.muli v535 c4_i32_260
  let v540 : BitVec 32 := Scalar.addi v508 v539
  let c0_i32_262 : BitVec 32 := 0#32
  let v542 : BitVec 1 := Scalar.cmpi .sgt v378 c0_i32_262
  let v543 : BitVec 32 := Scalar.extui v542
  let c0_i32_263 : BitVec 32 := 0#32
  let v544 : BitVec 1 := Scalar.cmpi .slt v378 c0_i32_263
  let v545 : BitVec 32 := Scalar.extui v544
  let v546 : BitVec 32 := Scalar.subi v543 v545
  let c2_i32_261 : BitVec 32 := 2#32
  let c0_i32_264 : BitVec 32 := 0#32
  let v547 : BitVec 1 := Scalar.cmpi .sgt c2_i32_261 c0_i32_264
  let v548 : BitVec 32 := Scalar.extui v547
  let c0_i32_265 : BitVec 32 := 0#32
  let v549 : BitVec 1 := Scalar.cmpi .slt c2_i32_261 c0_i32_265
  let v550 : BitVec 32 := Scalar.extui v549
  let v551 : BitVec 32 := Scalar.subi v548 v550
  let v552 : BitVec 1 := Scalar.cmpi .ne v546 v551
  let v553 : BitVec 32 := Scalar.remsi v378 c2_i32_261
  let c0_i32_266 : BitVec 32 := 0#32
  let v554 : BitVec 1 := Scalar.cmpi .ne v553 c0_i32_266
  let v555 : BitVec 1 := Scalar.andi v552 v554
  let v541 : BitVec 32 := Scalar.divsi v378 c2_i32_261
  let c1_i32_267 : BitVec 32 := 1#32
  let v556 : BitVec 32 := Scalar.subi v541 c1_i32_267
  let v557 : BitVec 32 := Scalar.select v555 v556 v541
  let c2_i32_268 : BitVec 32 := 2#32
  let c0_i32_269 : BitVec 32 := 0#32
  let v558 : BitVec 1 := Scalar.cmpi .eq c2_i32_268 c0_i32_269
  let c1_i32_270 : BitVec 32 := 1#32
  let v559 : BitVec 32 := Scalar.select v558 c1_i32_270 c2_i32_268
  let v560 : BitVec 32 := Scalar.remsi v557 v559
  let c0_i32_272 : BitVec 32 := 0#32
  let v562 : BitVec 1 := Scalar.cmpi .slt v560 c0_i32_272
  let c0_i32_273 : BitVec 32 := 0#32
  let v563 : BitVec 1 := Scalar.cmpi .slt v559 c0_i32_273
  let v564 : BitVec 1 := Scalar.xori v562 v563
  let c0_i32_271 : BitVec 32 := 0#32
  let v561 : BitVec 1 := Scalar.cmpi .ne v560 c0_i32_271
  let v565 : BitVec 1 := Scalar.andi v564 v561
  let v566 : BitVec 32 := Scalar.addi v560 v559
  let v567 : BitVec 32 := Scalar.select v565 v566 v560
  let c2_i32_276 : BitVec 32 := 2#32
  let v571 : BitVec 32 := Scalar.muli v567 c2_i32_276
  let v572 : BitVec 32 := Scalar.addi v540 v571
  let c0_i32_295_r47 : BitVec 32 := 0#32
  ![v572.toNat, 0]
def k0_cond30 (i : grid0.Coords) (v44 : BitVec 32) : BitVec 1 :=
  let c1024_i32_17 : BitVec 32 := 1024#32
  let c1024_i32_16 : BitVec 32 := 1024#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v45 : BitVec 32 := Scalar.subi v44 v29
  let v46 : BitVec 32 := Scalar.maxsi c0_i32_15 v45
  let v47 : BitVec 32 := Scalar.minsi c1024_i32_16 v46
  let v48 : BitVec 32 := Scalar.subi c1024_i32_17 v47
  let c128_i32_174 : BitVec 32 := 128#32
  let c0_i32_175 : BitVec 32 := 0#32
  let v369 : BitVec 1 := Scalar.cmpi .eq c128_i32_174 c0_i32_175
  let c1_i32_176 : BitVec 32 := 1#32
  let v370 : BitVec 32 := Scalar.select v369 c1_i32_176 c128_i32_174
  let v371 : BitVec 32 := Scalar.remsi v48 v370
  let c0_i32_178 : BitVec 32 := 0#32
  let v373 : BitVec 1 := Scalar.cmpi .slt v371 c0_i32_178
  let c0_i32_179 : BitVec 32 := 0#32
  let v374 : BitVec 1 := Scalar.cmpi .slt v370 c0_i32_179
  let v375 : BitVec 1 := Scalar.xori v373 v374
  let c0_i32_177 : BitVec 32 := 0#32
  let v372 : BitVec 1 := Scalar.cmpi .ne v371 c0_i32_177
  let v376 : BitVec 1 := Scalar.andi v375 v372
  let v377 : BitVec 32 := Scalar.addi v371 v370
  let v378 : BitVec 32 := Scalar.select v376 v377 v371
  let c0_i32_278 : BitVec 32 := 0#32
  let v574 : BitVec 1 := Scalar.cmpi .sgt v378 c0_i32_278
  let v575 : BitVec 32 := Scalar.extui v574
  let c0_i32_279 : BitVec 32 := 0#32
  let v576 : BitVec 1 := Scalar.cmpi .slt v378 c0_i32_279
  let v577 : BitVec 32 := Scalar.extui v576
  let v578 : BitVec 32 := Scalar.subi v575 v577
  let c1_i32_277 : BitVec 32 := 1#32
  let c0_i32_280 : BitVec 32 := 0#32
  let v579 : BitVec 1 := Scalar.cmpi .sgt c1_i32_277 c0_i32_280
  let v580 : BitVec 32 := Scalar.extui v579
  let c0_i32_281 : BitVec 32 := 0#32
  let v581 : BitVec 1 := Scalar.cmpi .slt c1_i32_277 c0_i32_281
  let v582 : BitVec 32 := Scalar.extui v581
  let v583 : BitVec 32 := Scalar.subi v580 v582
  let v584 : BitVec 1 := Scalar.cmpi .ne v578 v583
  let v585 : BitVec 32 := Scalar.remsi v378 c1_i32_277
  let c0_i32_282 : BitVec 32 := 0#32
  let v586 : BitVec 1 := Scalar.cmpi .ne v585 c0_i32_282
  let v587 : BitVec 1 := Scalar.andi v584 v586
  let v573 : BitVec 32 := Scalar.divsi v378 c1_i32_277
  let c1_i32_283 : BitVec 32 := 1#32
  let v588 : BitVec 32 := Scalar.subi v573 c1_i32_283
  let v589 : BitVec 32 := Scalar.select v587 v588 v573
  let c2_i32_284 : BitVec 32 := 2#32
  let c0_i32_285 : BitVec 32 := 0#32
  let v590 : BitVec 1 := Scalar.cmpi .eq c2_i32_284 c0_i32_285
  let c1_i32_286 : BitVec 32 := 1#32
  let v591 : BitVec 32 := Scalar.select v590 c1_i32_286 c2_i32_284
  let v592 : BitVec 32 := Scalar.remsi v589 v591
  let c0_i32_288 : BitVec 32 := 0#32
  let v594 : BitVec 1 := Scalar.cmpi .slt v592 c0_i32_288
  let c0_i32_289 : BitVec 32 := 0#32
  let v595 : BitVec 1 := Scalar.cmpi .slt v591 c0_i32_289
  let v596 : BitVec 1 := Scalar.xori v594 v595
  let c0_i32_287 : BitVec 32 := 0#32
  let v593 : BitVec 1 := Scalar.cmpi .ne v592 c0_i32_287
  let v597 : BitVec 1 := Scalar.andi v596 v593
  let v598 : BitVec 32 := Scalar.addi v592 v591
  let v599 : BitVec 32 := Scalar.select v597 v598 v592
  let c1_i32_290 : BitVec 32 := 1#32
  let v600 : BitVec 1 := Scalar.cmpi .eq v599 c1_i32_290
  let v601 : BitVec 32 := Scalar.extui v600
  let c0_i32_291 : BitVec 32 := 0#32
  let v602 : BitVec 1 := Scalar.cmpi .ne v601 c0_i32_291
  v602

def k0_chk1_0 (i : grid0.Coords) (v38 : BitVec 32) (v44 : BitVec 32) : Prop :=
  (∀ (k0_h1 : k0_cond1 i v44 = 1#1), ∀ a, (k0_off1 i v38) a + S128x256.size a ≤ S16384x256.size a) ∧
  (∀ (k0_h2 : k0_cond2 i v44 = 1#1), ∀ a, (k0_off3 i v38) a + S128x256.size a ≤ S16384x256.size a) ∧
  (∀ (k0_h3 : k0_cond3 i v44 = 1#1), ∀ a, (k0_off5 i v38) a + S128x256.size a ≤ S16384x256.size a) ∧
  (∀ (k0_h4 : k0_cond4 i v44 = 1#1), ∀ a, (k0_off7 i v38) a + S128x256.size a ≤ S16384x256.size a) ∧
  (∀ (k0_h5 : k0_cond5 i v44 = 1#1), ∀ a, (k0_off9 i v38) a + S128x256.size a ≤ S16384x256.size a) ∧
  (∀ (k0_h6 : k0_cond6 i v44 = 1#1), ∀ a, (k0_off11 i v38) a + S128x256.size a ≤ S16384x256.size a) ∧
  (∀ (k0_h7 : k0_cond7 i v44 = 1#1), ∀ a, (k0_off13 i v38) a + S128x256.size a ≤ S16384x256.size a) ∧
  (∀ (k0_h8 : k0_cond8 i v44 = 1#1), ∀ a, (k0_off15 i v38) a + S128x256.size a ≤ S16384x256.size a) ∧
  (∀ (k0_h9 : k0_cond9 i v44 = 1#1), ∀ a, (k0_off17 i v38 v44) a + S64x256.size a ≤ S16384x256.size a) ∧
  (∀ (k0_h9 : k0_cond9 i v44 = 1#1), ∀ a, (k0_off18 i v44) a + S64x256.size a ≤ S32768x256.size a) ∧
  (∀ (k0_h10 : k0_cond10 i v44 = 1#1), ∀ a, (k0_off19 i v38 v44) a + S32x256.size a ≤ S16384x256.size a) ∧
  (∀ (k0_h10 : k0_cond10 i v44 = 1#1), ∀ a, (k0_off20 i v44) a + S32x256.size a ≤ S32768x256.size a) ∧
  (∀ (k0_h11 : k0_cond11 i v44 = 1#1), ∀ a, (k0_off21 i v38 v44) a + S16x256.size a ≤ S16384x256.size a) ∧
  (∀ (k0_h11 : k0_cond11 i v44 = 1#1), ∀ a, (k0_off22 i v44) a + S16x256.size a ≤ S32768x256.size a) ∧
  (∀ (k0_h12 : k0_cond12 i v44 = 1#1), ∀ a, (k0_off23 i v38 v44) a + S8x256.size a ≤ S16384x256.size a) ∧
  (∀ (k0_h12 : k0_cond12 i v44 = 1#1), ∀ a, (k0_off24 i v44) a + S8x256.size a ≤ S32768x256.size a) ∧
  (∀ (k0_h13 : k0_cond13 i v44 = 1#1), ∀ a, (k0_off25 i v38 v44) a + S4x256.size a ≤ S16384x256.size a) ∧
  (∀ (k0_h13 : k0_cond13 i v44 = 1#1), ∀ a, (k0_off26 i v44) a + S4x256.size a ≤ S32768x256.size a) ∧
  (∀ (k0_h14 : k0_cond14 i v44 = 1#1), ∀ a, (k0_off27 i v38 v44) a + S2x256.size a ≤ S16384x256.size a) ∧
  (∀ (k0_h14 : k0_cond14 i v44 = 1#1), ∀ a, (k0_off28 i v44) a + S2x256.size a ≤ S32768x256.size a) ∧
  (∀ (k0_h15 : k0_cond15 i v44 = 1#1), ∀ a, (k0_off29 i v38 v44) a + S1x256.size a ≤ S16384x256.size a) ∧
  (∀ (k0_h15 : k0_cond15 i v44 = 1#1), ∀ a, (k0_off30 i v44) a + S1x256.size a ≤ S32768x256.size a) ∧
  (∀ (k0_h16 : k0_cond16 i v44 = 1#1), ∀ a, (k0_off31 i v44) a + S128x256.size a ≤ S32768x256.size a) ∧
  (∀ (k0_h17 : k0_cond17 i v44 = 1#1), ∀ a, (k0_off32 i v44) a + S128x256.size a ≤ S32768x256.size a) ∧
  (∀ (k0_h18 : k0_cond18 i v44 = 1#1), ∀ a, (k0_off33 i v44) a + S128x256.size a ≤ S32768x256.size a) ∧
  (∀ (k0_h19 : k0_cond19 i v44 = 1#1), ∀ a, (k0_off34 i v44) a + S128x256.size a ≤ S32768x256.size a) ∧
  (∀ (k0_h20 : k0_cond20 i v44 = 1#1), ∀ a, (k0_off35 i v44) a + S128x256.size a ≤ S32768x256.size a) ∧
  (∀ (k0_h21 : k0_cond21 i v44 = 1#1), ∀ a, (k0_off36 i v44) a + S128x256.size a ≤ S32768x256.size a) ∧
  (∀ (k0_h22 : k0_cond22 i v44 = 1#1), ∀ a, (k0_off37 i v44) a + S128x256.size a ≤ S32768x256.size a) ∧
  (∀ (k0_h23 : k0_cond23 i v44 = 1#1), ∀ a, (k0_off38 i v44) a + S128x256.size a ≤ S32768x256.size a) ∧
  (∀ (k0_h24 : k0_cond24 i v44 = 1#1), ∀ a, (k0_off39 i v44) a + S64x256.size a ≤ S32768x256.size a) ∧
  (∀ (k0_h25 : k0_cond25 i v44 = 1#1), ∀ a, (k0_off40 i v44) a + S32x256.size a ≤ S32768x256.size a)
def k0_chk1_1 (i : grid0.Coords) (v38 : BitVec 32) (v44 : BitVec 32) : Prop :=
  (∀ (k0_h26 : k0_cond26 i v44 = 1#1), ∀ a, (k0_off41 i v44) a + S16x256.size a ≤ S32768x256.size a) ∧
  (∀ (k0_h27 : k0_cond27 i v44 = 1#1), ∀ a, (k0_off42 i v44) a + S8x256.size a ≤ S32768x256.size a) ∧
  (∀ (k0_h28 : k0_cond28 i v44 = 1#1), ∀ a, (k0_off43 i v44) a + S4x256.size a ≤ S32768x256.size a) ∧
  (∀ (k0_h29 : k0_cond29 i v44 = 1#1), ∀ a, (k0_off44 i v44) a + S2x256.size a ≤ S32768x256.size a) ∧
  (∀ (k0_h30 : k0_cond30 i v44 = 1#1), ∀ a, (k0_off45 i v44) a + S1x256.size a ≤ S32768x256.size a)
def k0_chk1 (i : grid0.Coords) (v38 : BitVec 32) (v44 : BitVec 32) : Prop :=
  k0_chk1_0 i v38 v44 ∧
  k0_chk1_1 i v38 v44
theorem k0_off1_inb : ∀ (i : grid0.Coords) (v38 : BitVec 32) (v44 : BitVec 32) (k0_hw1 : k0_chk1 i v38 v44), ∀ (k0_h1 : k0_cond1 i v44 = 1#1), ∀ a, (k0_off1 i v38) a + S128x256.size a ≤ S16384x256.size a := fun i v38 v44 k0_hw1 k0_h1 => k0_hw1.1.1 k0_h1
theorem k0_off3_inb : ∀ (i : grid0.Coords) (v38 : BitVec 32) (v44 : BitVec 32) (k0_hw1 : k0_chk1 i v38 v44), ∀ (k0_h2 : k0_cond2 i v44 = 1#1), ∀ a, (k0_off3 i v38) a + S128x256.size a ≤ S16384x256.size a := fun i v38 v44 k0_hw1 k0_h2 => k0_hw1.1.2.1 k0_h2
theorem k0_off5_inb : ∀ (i : grid0.Coords) (v38 : BitVec 32) (v44 : BitVec 32) (k0_hw1 : k0_chk1 i v38 v44), ∀ (k0_h3 : k0_cond3 i v44 = 1#1), ∀ a, (k0_off5 i v38) a + S128x256.size a ≤ S16384x256.size a := fun i v38 v44 k0_hw1 k0_h3 => k0_hw1.1.2.2.1 k0_h3
theorem k0_off7_inb : ∀ (i : grid0.Coords) (v38 : BitVec 32) (v44 : BitVec 32) (k0_hw1 : k0_chk1 i v38 v44), ∀ (k0_h4 : k0_cond4 i v44 = 1#1), ∀ a, (k0_off7 i v38) a + S128x256.size a ≤ S16384x256.size a := fun i v38 v44 k0_hw1 k0_h4 => k0_hw1.1.2.2.2.1 k0_h4
theorem k0_off9_inb : ∀ (i : grid0.Coords) (v38 : BitVec 32) (v44 : BitVec 32) (k0_hw1 : k0_chk1 i v38 v44), ∀ (k0_h5 : k0_cond5 i v44 = 1#1), ∀ a, (k0_off9 i v38) a + S128x256.size a ≤ S16384x256.size a := fun i v38 v44 k0_hw1 k0_h5 => k0_hw1.1.2.2.2.2.1 k0_h5
theorem k0_off11_inb : ∀ (i : grid0.Coords) (v38 : BitVec 32) (v44 : BitVec 32) (k0_hw1 : k0_chk1 i v38 v44), ∀ (k0_h6 : k0_cond6 i v44 = 1#1), ∀ a, (k0_off11 i v38) a + S128x256.size a ≤ S16384x256.size a := fun i v38 v44 k0_hw1 k0_h6 => k0_hw1.1.2.2.2.2.2.1 k0_h6
theorem k0_off13_inb : ∀ (i : grid0.Coords) (v38 : BitVec 32) (v44 : BitVec 32) (k0_hw1 : k0_chk1 i v38 v44), ∀ (k0_h7 : k0_cond7 i v44 = 1#1), ∀ a, (k0_off13 i v38) a + S128x256.size a ≤ S16384x256.size a := fun i v38 v44 k0_hw1 k0_h7 => k0_hw1.1.2.2.2.2.2.2.1 k0_h7
theorem k0_off15_inb : ∀ (i : grid0.Coords) (v38 : BitVec 32) (v44 : BitVec 32) (k0_hw1 : k0_chk1 i v38 v44), ∀ (k0_h8 : k0_cond8 i v44 = 1#1), ∀ a, (k0_off15 i v38) a + S128x256.size a ≤ S16384x256.size a := fun i v38 v44 k0_hw1 k0_h8 => k0_hw1.1.2.2.2.2.2.2.2.1 k0_h8
theorem k0_off17_inb : ∀ (i : grid0.Coords) (v38 : BitVec 32) (v44 : BitVec 32) (k0_hw1 : k0_chk1 i v38 v44), ∀ (k0_h9 : k0_cond9 i v44 = 1#1), ∀ a, (k0_off17 i v38 v44) a + S64x256.size a ≤ S16384x256.size a := fun i v38 v44 k0_hw1 k0_h9 => k0_hw1.1.2.2.2.2.2.2.2.2.1 k0_h9
theorem k0_off18_inb : ∀ (i : grid0.Coords) (v38 : BitVec 32) (v44 : BitVec 32) (k0_hw1 : k0_chk1 i v38 v44), ∀ (k0_h9 : k0_cond9 i v44 = 1#1), ∀ a, (k0_off18 i v44) a + S64x256.size a ≤ S32768x256.size a := fun i v38 v44 k0_hw1 k0_h9 => k0_hw1.1.2.2.2.2.2.2.2.2.2.1 k0_h9
theorem k0_off19_inb : ∀ (i : grid0.Coords) (v38 : BitVec 32) (v44 : BitVec 32) (k0_hw1 : k0_chk1 i v38 v44), ∀ (k0_h10 : k0_cond10 i v44 = 1#1), ∀ a, (k0_off19 i v38 v44) a + S32x256.size a ≤ S16384x256.size a := fun i v38 v44 k0_hw1 k0_h10 => k0_hw1.1.2.2.2.2.2.2.2.2.2.2.1 k0_h10
theorem k0_off20_inb : ∀ (i : grid0.Coords) (v38 : BitVec 32) (v44 : BitVec 32) (k0_hw1 : k0_chk1 i v38 v44), ∀ (k0_h10 : k0_cond10 i v44 = 1#1), ∀ a, (k0_off20 i v44) a + S32x256.size a ≤ S32768x256.size a := fun i v38 v44 k0_hw1 k0_h10 => k0_hw1.1.2.2.2.2.2.2.2.2.2.2.2.1 k0_h10
theorem k0_off21_inb : ∀ (i : grid0.Coords) (v38 : BitVec 32) (v44 : BitVec 32) (k0_hw1 : k0_chk1 i v38 v44), ∀ (k0_h11 : k0_cond11 i v44 = 1#1), ∀ a, (k0_off21 i v38 v44) a + S16x256.size a ≤ S16384x256.size a := fun i v38 v44 k0_hw1 k0_h11 => k0_hw1.1.2.2.2.2.2.2.2.2.2.2.2.2.1 k0_h11
theorem k0_off22_inb : ∀ (i : grid0.Coords) (v38 : BitVec 32) (v44 : BitVec 32) (k0_hw1 : k0_chk1 i v38 v44), ∀ (k0_h11 : k0_cond11 i v44 = 1#1), ∀ a, (k0_off22 i v44) a + S16x256.size a ≤ S32768x256.size a := fun i v38 v44 k0_hw1 k0_h11 => k0_hw1.1.2.2.2.2.2.2.2.2.2.2.2.2.2.1 k0_h11
theorem k0_off23_inb : ∀ (i : grid0.Coords) (v38 : BitVec 32) (v44 : BitVec 32) (k0_hw1 : k0_chk1 i v38 v44), ∀ (k0_h12 : k0_cond12 i v44 = 1#1), ∀ a, (k0_off23 i v38 v44) a + S8x256.size a ≤ S16384x256.size a := fun i v38 v44 k0_hw1 k0_h12 => k0_hw1.1.2.2.2.2.2.2.2.2.2.2.2.2.2.2.1 k0_h12
theorem k0_off24_inb : ∀ (i : grid0.Coords) (v38 : BitVec 32) (v44 : BitVec 32) (k0_hw1 : k0_chk1 i v38 v44), ∀ (k0_h12 : k0_cond12 i v44 = 1#1), ∀ a, (k0_off24 i v44) a + S8x256.size a ≤ S32768x256.size a := fun i v38 v44 k0_hw1 k0_h12 => k0_hw1.1.2.2.2.2.2.2.2.2.2.2.2.2.2.2.2.1 k0_h12
theorem k0_off25_inb : ∀ (i : grid0.Coords) (v38 : BitVec 32) (v44 : BitVec 32) (k0_hw1 : k0_chk1 i v38 v44), ∀ (k0_h13 : k0_cond13 i v44 = 1#1), ∀ a, (k0_off25 i v38 v44) a + S4x256.size a ≤ S16384x256.size a := fun i v38 v44 k0_hw1 k0_h13 => k0_hw1.1.2.2.2.2.2.2.2.2.2.2.2.2.2.2.2.2.1 k0_h13
theorem k0_off26_inb : ∀ (i : grid0.Coords) (v38 : BitVec 32) (v44 : BitVec 32) (k0_hw1 : k0_chk1 i v38 v44), ∀ (k0_h13 : k0_cond13 i v44 = 1#1), ∀ a, (k0_off26 i v44) a + S4x256.size a ≤ S32768x256.size a := fun i v38 v44 k0_hw1 k0_h13 => k0_hw1.1.2.2.2.2.2.2.2.2.2.2.2.2.2.2.2.2.2.1 k0_h13
theorem k0_off27_inb : ∀ (i : grid0.Coords) (v38 : BitVec 32) (v44 : BitVec 32) (k0_hw1 : k0_chk1 i v38 v44), ∀ (k0_h14 : k0_cond14 i v44 = 1#1), ∀ a, (k0_off27 i v38 v44) a + S2x256.size a ≤ S16384x256.size a := fun i v38 v44 k0_hw1 k0_h14 => k0_hw1.1.2.2.2.2.2.2.2.2.2.2.2.2.2.2.2.2.2.2.1 k0_h14
theorem k0_off28_inb : ∀ (i : grid0.Coords) (v38 : BitVec 32) (v44 : BitVec 32) (k0_hw1 : k0_chk1 i v38 v44), ∀ (k0_h14 : k0_cond14 i v44 = 1#1), ∀ a, (k0_off28 i v44) a + S2x256.size a ≤ S32768x256.size a := fun i v38 v44 k0_hw1 k0_h14 => k0_hw1.1.2.2.2.2.2.2.2.2.2.2.2.2.2.2.2.2.2.2.2.1 k0_h14
theorem k0_off29_inb : ∀ (i : grid0.Coords) (v38 : BitVec 32) (v44 : BitVec 32) (k0_hw1 : k0_chk1 i v38 v44), ∀ (k0_h15 : k0_cond15 i v44 = 1#1), ∀ a, (k0_off29 i v38 v44) a + S1x256.size a ≤ S16384x256.size a := fun i v38 v44 k0_hw1 k0_h15 => k0_hw1.1.2.2.2.2.2.2.2.2.2.2.2.2.2.2.2.2.2.2.2.2.1 k0_h15
theorem k0_off30_inb : ∀ (i : grid0.Coords) (v38 : BitVec 32) (v44 : BitVec 32) (k0_hw1 : k0_chk1 i v38 v44), ∀ (k0_h15 : k0_cond15 i v44 = 1#1), ∀ a, (k0_off30 i v44) a + S1x256.size a ≤ S32768x256.size a := fun i v38 v44 k0_hw1 k0_h15 => k0_hw1.1.2.2.2.2.2.2.2.2.2.2.2.2.2.2.2.2.2.2.2.2.2.1 k0_h15
theorem k0_off31_inb : ∀ (i : grid0.Coords) (v38 : BitVec 32) (v44 : BitVec 32) (k0_hw1 : k0_chk1 i v38 v44), ∀ (k0_h16 : k0_cond16 i v44 = 1#1), ∀ a, (k0_off31 i v44) a + S128x256.size a ≤ S32768x256.size a := fun i v38 v44 k0_hw1 k0_h16 => k0_hw1.1.2.2.2.2.2.2.2.2.2.2.2.2.2.2.2.2.2.2.2.2.2.2.1 k0_h16
theorem k0_off32_inb : ∀ (i : grid0.Coords) (v38 : BitVec 32) (v44 : BitVec 32) (k0_hw1 : k0_chk1 i v38 v44), ∀ (k0_h17 : k0_cond17 i v44 = 1#1), ∀ a, (k0_off32 i v44) a + S128x256.size a ≤ S32768x256.size a := fun i v38 v44 k0_hw1 k0_h17 => k0_hw1.1.2.2.2.2.2.2.2.2.2.2.2.2.2.2.2.2.2.2.2.2.2.2.2.1 k0_h17
theorem k0_off33_inb : ∀ (i : grid0.Coords) (v38 : BitVec 32) (v44 : BitVec 32) (k0_hw1 : k0_chk1 i v38 v44), ∀ (k0_h18 : k0_cond18 i v44 = 1#1), ∀ a, (k0_off33 i v44) a + S128x256.size a ≤ S32768x256.size a := fun i v38 v44 k0_hw1 k0_h18 => k0_hw1.1.2.2.2.2.2.2.2.2.2.2.2.2.2.2.2.2.2.2.2.2.2.2.2.2.1 k0_h18
theorem k0_off34_inb : ∀ (i : grid0.Coords) (v38 : BitVec 32) (v44 : BitVec 32) (k0_hw1 : k0_chk1 i v38 v44), ∀ (k0_h19 : k0_cond19 i v44 = 1#1), ∀ a, (k0_off34 i v44) a + S128x256.size a ≤ S32768x256.size a := fun i v38 v44 k0_hw1 k0_h19 => k0_hw1.1.2.2.2.2.2.2.2.2.2.2.2.2.2.2.2.2.2.2.2.2.2.2.2.2.2.1 k0_h19
theorem k0_off35_inb : ∀ (i : grid0.Coords) (v38 : BitVec 32) (v44 : BitVec 32) (k0_hw1 : k0_chk1 i v38 v44), ∀ (k0_h20 : k0_cond20 i v44 = 1#1), ∀ a, (k0_off35 i v44) a + S128x256.size a ≤ S32768x256.size a := fun i v38 v44 k0_hw1 k0_h20 => k0_hw1.1.2.2.2.2.2.2.2.2.2.2.2.2.2.2.2.2.2.2.2.2.2.2.2.2.2.2.1 k0_h20
theorem k0_off36_inb : ∀ (i : grid0.Coords) (v38 : BitVec 32) (v44 : BitVec 32) (k0_hw1 : k0_chk1 i v38 v44), ∀ (k0_h21 : k0_cond21 i v44 = 1#1), ∀ a, (k0_off36 i v44) a + S128x256.size a ≤ S32768x256.size a := fun i v38 v44 k0_hw1 k0_h21 => k0_hw1.1.2.2.2.2.2.2.2.2.2.2.2.2.2.2.2.2.2.2.2.2.2.2.2.2.2.2.2.1 k0_h21
theorem k0_off37_inb : ∀ (i : grid0.Coords) (v38 : BitVec 32) (v44 : BitVec 32) (k0_hw1 : k0_chk1 i v38 v44), ∀ (k0_h22 : k0_cond22 i v44 = 1#1), ∀ a, (k0_off37 i v44) a + S128x256.size a ≤ S32768x256.size a := fun i v38 v44 k0_hw1 k0_h22 => k0_hw1.1.2.2.2.2.2.2.2.2.2.2.2.2.2.2.2.2.2.2.2.2.2.2.2.2.2.2.2.2.1 k0_h22
theorem k0_off38_inb : ∀ (i : grid0.Coords) (v38 : BitVec 32) (v44 : BitVec 32) (k0_hw1 : k0_chk1 i v38 v44), ∀ (k0_h23 : k0_cond23 i v44 = 1#1), ∀ a, (k0_off38 i v44) a + S128x256.size a ≤ S32768x256.size a := fun i v38 v44 k0_hw1 k0_h23 => k0_hw1.1.2.2.2.2.2.2.2.2.2.2.2.2.2.2.2.2.2.2.2.2.2.2.2.2.2.2.2.2.2.1 k0_h23
theorem k0_off39_inb : ∀ (i : grid0.Coords) (v38 : BitVec 32) (v44 : BitVec 32) (k0_hw1 : k0_chk1 i v38 v44), ∀ (k0_h24 : k0_cond24 i v44 = 1#1), ∀ a, (k0_off39 i v44) a + S64x256.size a ≤ S32768x256.size a := fun i v38 v44 k0_hw1 k0_h24 => k0_hw1.1.2.2.2.2.2.2.2.2.2.2.2.2.2.2.2.2.2.2.2.2.2.2.2.2.2.2.2.2.2.2.1 k0_h24
theorem k0_off40_inb : ∀ (i : grid0.Coords) (v38 : BitVec 32) (v44 : BitVec 32) (k0_hw1 : k0_chk1 i v38 v44), ∀ (k0_h25 : k0_cond25 i v44 = 1#1), ∀ a, (k0_off40 i v44) a + S32x256.size a ≤ S32768x256.size a := fun i v38 v44 k0_hw1 k0_h25 => k0_hw1.1.2.2.2.2.2.2.2.2.2.2.2.2.2.2.2.2.2.2.2.2.2.2.2.2.2.2.2.2.2.2.2 k0_h25
theorem k0_off41_inb : ∀ (i : grid0.Coords) (v38 : BitVec 32) (v44 : BitVec 32) (k0_hw1 : k0_chk1 i v38 v44), ∀ (k0_h26 : k0_cond26 i v44 = 1#1), ∀ a, (k0_off41 i v44) a + S16x256.size a ≤ S32768x256.size a := fun i v38 v44 k0_hw1 k0_h26 => k0_hw1.2.1 k0_h26
theorem k0_off42_inb : ∀ (i : grid0.Coords) (v38 : BitVec 32) (v44 : BitVec 32) (k0_hw1 : k0_chk1 i v38 v44), ∀ (k0_h27 : k0_cond27 i v44 = 1#1), ∀ a, (k0_off42 i v44) a + S8x256.size a ≤ S32768x256.size a := fun i v38 v44 k0_hw1 k0_h27 => k0_hw1.2.2.1 k0_h27
theorem k0_off43_inb : ∀ (i : grid0.Coords) (v38 : BitVec 32) (v44 : BitVec 32) (k0_hw1 : k0_chk1 i v38 v44), ∀ (k0_h28 : k0_cond28 i v44 = 1#1), ∀ a, (k0_off43 i v44) a + S4x256.size a ≤ S32768x256.size a := fun i v38 v44 k0_hw1 k0_h28 => k0_hw1.2.2.2.1 k0_h28
theorem k0_off44_inb : ∀ (i : grid0.Coords) (v38 : BitVec 32) (v44 : BitVec 32) (k0_hw1 : k0_chk1 i v38 v44), ∀ (k0_h29 : k0_cond29 i v44 = 1#1), ∀ a, (k0_off44 i v44) a + S2x256.size a ≤ S32768x256.size a := fun i v38 v44 k0_hw1 k0_h29 => k0_hw1.2.2.2.2.1 k0_h29
theorem k0_off45_inb : ∀ (i : grid0.Coords) (v38 : BitVec 32) (v44 : BitVec 32) (k0_hw1 : k0_chk1 i v38 v44), ∀ (k0_h30 : k0_cond30 i v44 = 1#1), ∀ a, (k0_off45 i v44) a + S1x256.size a ≤ S32768x256.size a := fun i v38 v44 k0_hw1 k0_h30 => k0_hw1.2.2.2.2.2 k0_h30

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x256 : Shape := ⟨2, ![16384, 256]⟩
abbrev S17 : Shape := ⟨1, ![17]⟩
abbrev S16384 : Shape := ⟨1, ![16384]⟩
abbrev S1x17 : Shape := ⟨2, ![1, 17]⟩
abbrev S16384x1 : Shape := ⟨2, ![16384, 1]⟩
abbrev S16384x17 : Shape := ⟨2, ![16384, 17]⟩
abbrev S_ : Shape := ⟨0, ![]⟩
abbrev S16x2048x256 : Shape := ⟨3, ![16, 2048, 256]⟩
abbrev S16384x2 : Shape := ⟨2, ![16384, 2]⟩
abbrev S16 : Shape := ⟨1, ![16]⟩

abbrev nBuf : Space → Nat
  | .hbm => 55
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S17, .i32⟩
  | .hbm, ⟨2, _⟩ => ⟨S16384, .i32⟩
  | .hbm, ⟨3, _⟩ => ⟨S1x17, .i32⟩
  | .hbm, ⟨4, _⟩ => ⟨S16384x1, .i32⟩
  | .hbm, ⟨5, _⟩ => ⟨S16384x17, .i32⟩
  | .hbm, ⟨6, _⟩ => ⟨S16384x17, .i32⟩
  | .hbm, ⟨7, _⟩ => ⟨S16384x17, .i1⟩
  | .hbm, ⟨8, _⟩ => ⟨S16384x17, .i32⟩
  | .hbm, ⟨9, _⟩ => ⟨S_, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S16384, .i32⟩
  | .hbm, ⟨31, _⟩ => ⟨S16384, .i32⟩
  | .hbm, ⟨32, _⟩ => ⟨S_, .f32⟩
  | .hbm, ⟨33, _⟩ => ⟨S16x2048x256, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S16384x1, .i32⟩
  | .hbm, ⟨50, _⟩ => ⟨S16384x2, .i32⟩
  | .hbm, ⟨51, _⟩ => ⟨S16x2048x256, .f32⟩
  | .hbm, ⟨52, _⟩ => ⟨S16, .i32⟩
  | .hbm, ⟨53, _⟩ => ⟨S16, .i32⟩
  | .hbm, ⟨54, _⟩ => ⟨S16, .i32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Proof.Sched.lean ====
/-
  The kernel's own arithmetic, in natural numbers. Tile `(c, s)` writes rows `1024 * (2 s + c) ‥` of the output: `nd` rows
  copied from the ragged array and `1024 - nd` rows of zeros, in thirty guarded copies. `act nd j` says which of the thirty
  copies run and `pos nd j` at which row of the tile's block copy `j` starts; the words the kernel computes
  (`k0_cond…`, `k0_off…`) are these.
-/
module

public import proofs.«01_k».proof.Proof.Gen.Kernel

@[expose] public section

set_option maxRecDepth 100000

namespace Cert.Proof.Words

open Cert.Kernel Idealize.ShloMosaic

/-! ## The schedule of copies, in natural numbers -/

/-- How many rows copy `j` moves: eight chunks of 128 rows, then 64, 32, 16, 8, 4, 2, 1; the same again for the zeros. -/
def sz (j : ℕ) : ℕ := if j % 15 < 8 then 128 else 128 / 2 ^ (j % 15 - 7)

/-- Whether copy `j` runs, for a tile with `n` rows of data: chunk `t` if `t + 1` whole chunks fit, a smaller copy if its bit is set. -/
def act (n j : ℕ) : Bool :=
  let r := if j < 15 then n else 1024 - n
  if j % 15 < 8 then 128 * (j % 15 + 1) ≤ r else r / sz j % 2 = 1

/-- The rows done before copy `j`. -/
def pos (n : ℕ) : ℕ → ℕ
  | 0 => 0
  | j + 1 => pos n j + if act n j then sz j else 0

/-- Copies 0‥14 move exactly the data, and all thirty fill the block. -/
theorem pos_ends : ∀ n < 1025, pos n 15 = n ∧ pos n 30 = 1024 := by decide +kernel

/-- A copy that runs moves its rows. -/
theorem pos_succ_of_act {n j : ℕ} (h : act n j = true) : pos n (j + 1) = pos n j + sz j := by simp [pos, h]
/-- A copy that does not run moves none. -/
theorem pos_succ_of_not {n j : ℕ} (h : act n j = false) : pos n (j + 1) = pos n j := by simp [pos, h]
/-- The rows done never fall. -/
theorem pos_le_succ (n j : ℕ) : pos n j ≤ pos n (j + 1) := by simp [pos]
/-- The rows done never fall, over any number of copies. -/
theorem pos_mono (n : ℕ) {j k : ℕ} (h : j ≤ k) : pos n j ≤ pos n k := by
  induction h with
  | refl => exact le_rfl
  | step _ ih => exact ih.trans (pos_le_succ n _)

/-! ## The words, in families -/

/-- The guard of copy `j`. -/
def cnd : Fin 30 → grid0.Coords → BitVec 32 → BitVec 1 :=
  ![k0_cond1, k0_cond2, k0_cond3, k0_cond4, k0_cond5, k0_cond6, k0_cond7, k0_cond8, k0_cond9, k0_cond10, k0_cond11, k0_cond12, k0_cond13, k0_cond14, k0_cond15, k0_cond16, k0_cond17, k0_cond18, k0_cond19, k0_cond20, k0_cond21, k0_cond22, k0_cond23, k0_cond24, k0_cond25, k0_cond26, k0_cond27, k0_cond28, k0_cond29, k0_cond30]

/-- Where data copy `j` reads in the ragged array. -/
def srcOff : Fin 15 → grid0.Coords → BitVec 32 → BitVec 32 → Fin 2 → ℕ :=
  ![fun i v _ => k0_off1 i v, fun i v _ => k0_off3 i v, fun i v _ => k0_off5 i v, fun i v _ => k0_off7 i v, fun i v _ => k0_off9 i v, fun i v _ => k0_off11 i v, fun i v _ => k0_off13 i v, fun i v _ => k0_off15 i v, k0_off17, k0_off19, k0_off21, k0_off23, k0_off25, k0_off27, k0_off29]

/-- Where copy `j` writes in the output. -/
def dstOff : Fin 30 → grid0.Coords → BitVec 32 → Fin 2 → ℕ :=
  ![fun i _ => k0_off2 i, fun i _ => k0_off4 i, fun i _ => k0_off6 i, fun i _ => k0_off8 i, fun i _ => k0_off10 i, fun i _ => k0_off12 i, fun i _ => k0_off14 i, fun i _ => k0_off16 i, k0_off18, k0_off20, k0_off22, k0_off24, k0_off26, k0_off28, k0_off30, k0_off31, k0_off32, k0_off33, k0_off34, k0_off35, k0_off36, k0_off37, k0_off38, k0_off39, k0_off40, k0_off41, k0_off42, k0_off43, k0_off44, k0_off45]

/-- The tile at coordinates `(0, 0)`. -/
def i0 : grid0.Coords := fun | 0 => ⟨0, by decide⟩ | 1 => ⟨0, by decide⟩ | ⟨_ + 2, h⟩ => absurd h (Nat.not_lt.2 (Nat.le_add_left _ _))

end Cert.Proof.Words

end
-- ==== Proof.Words.lean ====
/-
  The kernel's guards and offsets at any tile, in natural numbers.
-/
module

public import proofs.«01_k».proof.Proof.Sched

@[expose] public section

set_option maxRecDepth 100000

namespace Cert.Proof.Words

open Cert.Kernel Idealize.ShloMosaic

/-! ### At any tile: the words depend on the tile's length only through its count of rows -/

/-- The tile's first position in its row of the batch, `1024 * (wid % 2)`, as the kernel computes it. -/
def startW (i : grid0.Coords) : BitVec 32 :=
  let v1 : BitVec 32 := Scalar.addi (Scalar.muli (BitVec.ofNat 32 (i 1).val) 2#32) (BitVec.ofNat 32 (i 0).val)
  let v20 : BitVec 32 := Scalar.select (Scalar.cmpi .eq 2#32 0#32) 1#32 2#32
  let v21 : BitVec 32 := Scalar.remsi v1 v20
  let v26 : BitVec 1 := Scalar.andi (Scalar.xori (Scalar.cmpi .slt v21 0#32) (Scalar.cmpi .slt v20 0#32)) (Scalar.cmpi .ne v21 0#32)
  Scalar.muli (Scalar.select v26 (Scalar.addi v21 v20) v21) 1024#32

/-- The first row of the tile's block of the output, `1024 * wid`, as the kernel computes it. -/
def baseW (i : grid0.Coords) : BitVec 32 :=
  Scalar.muli (Scalar.addi (Scalar.muli (BitVec.ofNat 32 (i 1).val) 2#32) (BitVec.ofNat 32 (i 0).val)) 1024#32

/-- The tile's count of data rows, the length past its start clipped to `0 ‥ 1024`, as the kernel computes it. -/
def countW (i : grid0.Coords) (v44 : BitVec 32) : BitVec 32 :=
  Scalar.minsi 1024#32 (Scalar.maxsi 0#32 (Scalar.subi v44 (startW i)))

/-- The tile's first position, as a number. -/
theorem startW_eq : ∀ i : grid0.Coords, startW i = BitVec.ofNat 32 (1024 * (i 0).val) := by decide +kernel
/-- The tile's first row of the output, as a number. -/
theorem baseW_eq : ∀ i : grid0.Coords, baseW i = BitVec.ofNat 32 (1024 * (2 * (i 1).val + (i 0).val)) := by decide +kernel
/-- At tile `(0, 0)` the count of data rows is the length. -/
theorem countW_i0 : ∀ n < 1025, countW i0 (BitVec.ofNat 32 n) = BitVec.ofNat 32 n := by decide +kernel

/-- Two tiles with the same count of data rows take the same guards. -/
theorem cnd_link (j : Fin 30) (i : grid0.Coords) (v44 : BitVec 32) (n : ℕ) (h : countW i v44 = BitVec.ofNat 32 n)
    (h0 : countW i0 (BitVec.ofNat 32 n) = BitVec.ofNat 32 n) : cnd j i v44 = cnd j i0 (BitVec.ofNat 32 n) := by
  simp only [countW, startW] at h h0
  fin_cases j <;> simp only [cnd, Fin.reduceFinMk, Matrix.cons_val] <;> simp only [k0_cond1, k0_cond2, k0_cond3, k0_cond4, k0_cond5, k0_cond6, k0_cond7, k0_cond8, k0_cond9, k0_cond10, k0_cond11, k0_cond12, k0_cond13, k0_cond14, k0_cond15, k0_cond16, k0_cond17, k0_cond18, k0_cond19, k0_cond20, k0_cond21, k0_cond22, k0_cond23, k0_cond24, k0_cond25, k0_cond26, k0_cond27, k0_cond28, k0_cond29, k0_cond30, h, h0]

/-- A data copy reads at `cu + start`, plus an offset that depends on the tile's count of rows alone. -/
theorem srcOff_link (j : Fin 15) (i : grid0.Coords) (v38 v44 : BitVec 32) (n : ℕ) (h : countW i v44 = BitVec.ofNat 32 n)
    (h0 : countW i0 (BitVec.ofNat 32 n) = BitVec.ofNat 32 n) :
    ∃ x : BitVec 32, srcOff j i v38 v44 = ![(v38 + (startW i + x)).toNat, 0]
      ∧ srcOff j i0 0#32 (BitVec.ofNat 32 n) = ![(0#32 + (startW i0 + x)).toNat, 0] := by
  simp only [countW, startW] at h h0
  fin_cases j <;> simp only [srcOff, Fin.reduceFinMk, Matrix.cons_val] <;>
    simp only [k0_off1, k0_off3, k0_off5, k0_off7, k0_off9, k0_off11, k0_off13, k0_off15, k0_off17, k0_off19, k0_off21, k0_off23, k0_off25, k0_off27, k0_off29, h, h0, startW] <;> simp only [Scalar.addi, IntOp.addi, BitVec.add_assoc] <;> exact ⟨_, rfl, rfl⟩

/-- A copy writes at the tile's block, plus an offset that depends on the tile's count of rows alone. -/
theorem dstOff_link (j : Fin 30) (i : grid0.Coords) (v44 : BitVec 32) (n : ℕ) (h : countW i v44 = BitVec.ofNat 32 n)
    (h0 : countW i0 (BitVec.ofNat 32 n) = BitVec.ofNat 32 n) :
    ∃ x : BitVec 32, dstOff j i v44 = ![(baseW i + x).toNat, 0]
      ∧ dstOff j i0 (BitVec.ofNat 32 n) = ![(baseW i0 + x).toNat, 0] := by
  simp only [countW, startW] at h h0
  fin_cases j <;> simp only [dstOff, Fin.reduceFinMk, Matrix.cons_val] <;>
    simp only [k0_off2, k0_off4, k0_off6, k0_off8, k0_off10, k0_off12, k0_off14, k0_off16, k0_off18, k0_off20, k0_off22, k0_off24, k0_off26, k0_off28, k0_off30, k0_off31, k0_off32, k0_off33, k0_off34, k0_off35, k0_off36, k0_off37, k0_off38, k0_off39, k0_off40, k0_off41, k0_off42, k0_off43, k0_off44, k0_off45, h, h0, baseW] <;> simp only [Scalar.addi, IntOp.addi, BitVec.add_assoc] <;> exact ⟨_, rfl, rfl⟩

end Cert.Proof.Words

end
-- ==== Proof.EvalCnd.lean ====
/-
  The guards of the thirty copies at the tile `(0, 0)`, evaluated for every count of rows.
-/
module

public import proofs.«01_k».proof.Proof.Sched

@[expose] public section

set_option maxRecDepth 100000

namespace Cert.Proof.Words

open Cert.Kernel Idealize.ShloMosaic

/-- At tile `(0, 0)` with `n` rows of data, guard `j` is on exactly when copy `j` runs. -/
theorem cnd_i0 (j : Fin 30) : ∀ n < 1025, cnd j i0 (BitVec.ofNat 32 n) = BitVec.ofBool (act n j) := by
  revert j; decide +kernel

end Cert.Proof.Words

end
-- ==== Proof.EvalSrc.lean ====
/-
  The rows the fifteen data copies read, at the tile `(0, 0)`, evaluated for every count of rows.
-/
module

public import proofs.«01_k».proof.Proof.Sched

@[expose] public section

set_option maxRecDepth 100000

namespace Cert.Proof.Words

open Cert.Kernel Idealize.ShloMosaic

/-- At tile `(0, 0)` with `n` rows of data starting at row 0, data copy `j` reads from row `pos n j`. -/
theorem srcOff_i0 (j : Fin 15) : ∀ n < 1025, act n j = true → srcOff j i0 0#32 (BitVec.ofNat 32 n) 0 = pos n j := by
  revert j; decide +kernel

end Cert.Proof.Words

end
-- ==== Proof.EvalDst.lean ====
/-
  The rows the thirty copies write, at the tile `(0, 0)`, evaluated for every count of rows.
-/
module

public import proofs.«01_k».proof.Proof.Sched

@[expose] public section

set_option maxRecDepth 100000

namespace Cert.Proof.Words

open Cert.Kernel Idealize.ShloMosaic

/-- At tile `(0, 0)` with `n` rows of data, copy `j` writes from row `pos n j`. -/
theorem dstOff_i0 (j : Fin 30) : ∀ n < 1025, act n j = true → dstOff j i0 (BitVec.ofNat 32 n) 0 = pos n j := by
  revert j; decide +kernel

end Cert.Proof.Words

end
-- ==== Proof.Sites.lean ====
/-
  The kernel's guards and offsets at any tile whose start and length are known: copy `j` runs exactly if the schedule says
  so, reads at the batch's start plus the rows done, and writes at the tile's block plus the rows done.
-/
module

public import proofs.«01_k».proof.Proof.Words
public import proofs.«01_k».proof.Proof.EvalCnd
public import proofs.«01_k».proof.Proof.EvalSrc
public import proofs.«01_k».proof.Proof.EvalDst

@[expose] public section

set_option maxRecDepth 100000

namespace Cert.Proof.Words

open Cert.Kernel Idealize.ShloMosaic

/-- The tile's first position in its row of the batch. -/
def p0 (i : grid0.Coords) : ℕ := 1024 * (i 0).val
/-- The first row of the tile's block of the padded array. -/
def base (i : grid0.Coords) : ℕ := 1024 * (2 * (i 1).val + (i 0).val)
/-- How many rows of the tile's block are data, of a batch of length `ln`. -/
def rows (i : grid0.Coords) (ln : ℕ) : ℕ := min 1024 (ln - p0 i)

/-- There are two SparseCores. -/
theorem i0_lt (i : grid0.Coords) : (i 0).val < 2 := (i 0).isLt
/-- There are sixteen tiles on each. -/
theorem i1_lt (i : grid0.Coords) : (i 1).val < 16 := (i 1).isLt
/-- A tile has at most 1024 rows of data. -/
theorem rows_lt (i : grid0.Coords) (ln : ℕ) : rows i ln < 1025 := by unfold rows; omega

/-- The kernel's count of data rows is that. -/
theorem countW_rows (i : grid0.Coords) {ln : ℕ} (h : ln ≤ 16384) : countW i (BitVec.ofNat 32 ln) = BitVec.ofNat 32 (rows i ln) := by
  have h0 := i0_lt i
  unfold countW rows p0
  rw [startW_eq]
  simp only [Scalar.minsi, Scalar.maxsi, Scalar.subi, IntOp.minsi, IntOp.maxsi, IntOp.subi]
  apply BitVec.eq_of_toNat_eq
  rcases (show (i 0).val = 0 ∨ (i 0).val = 1 by omega) with e | e <;> rw [e] <;>
    simp only [BitVec.slt_eq_decide, BitVec.toInt_eq_toNat_cond, decide_eq_true_eq] <;> split_ifs <;>
      simp only [BitVec.toNat_ofNat, BitVec.toNat_sub] at * <;> omega

section
variable (i : grid0.Coords) {v38 v44 : BitVec 32} {cu ln : ℕ}

/-- At any tile, guard `j` is on exactly when copy `j` runs. -/
theorem cnd_eq (h : ln ≤ 16384) (j : Fin 30) : cnd j i (BitVec.ofNat 32 ln) = BitVec.ofBool (act (rows i ln) j) := by
  rw [cnd_link j i _ (rows i ln) (countW_rows i h) (countW_i0 _ (rows_lt i ln))]
  exact cnd_i0 j _ (rows_lt i ln)

/-- Copy `j` runs exactly if the schedule says so. -/
theorem cnd_iff (h : ln ≤ 16384) (j : Fin 30) : cnd j i (BitVec.ofNat 32 ln) = 1#1 ↔ act (rows i ln) j = true := by
  rw [cnd_eq i h]; cases act (rows i ln) j <;> decide

/-- Data copy `j` reads at the batch's start plus the tile's first position plus the rows done. -/
theorem src_eq (h : cu + ln ≤ 16384) (j : Fin 15) (ha : act (rows i ln) j = true) (hp : p0 i + pos (rows i ln) j ≤ ln) :
    srcOff j i (BitVec.ofNat 32 cu) (BitVec.ofNat 32 ln) = ![cu + p0 i + pos (rows i ln) j, 0] := by
  obtain ⟨x, e, e0⟩ := srcOff_link j i (BitVec.ofNat 32 cu) (BitVec.ofNat 32 ln) (rows i ln) (countW_rows i (by omega)) (countW_i0 _ (rows_lt i ln))
  have hx := srcOff_i0 j _ (rows_lt i ln) ha
  rw [e0, startW_eq] at hx
  rw [e, startW_eq]
  have h0 : 1024 * (i0 0).val = 0 := rfl
  have hx' : (0#32 + (BitVec.ofNat 32 (1024 * (i0 0).val) + x)).toNat = pos (rows i ln) j := hx
  rw [h0] at hx'
  have hi := i0_lt i
  unfold p0 at *
  congr 1
  simp only [BitVec.toNat_add, BitVec.toNat_ofNat] at hx' ⊢
  omega

/-- Copy `j` writes at the tile's block plus the rows done. -/
theorem dst_eq (h : ln ≤ 16384) (j : Fin 30) (ha : act (rows i ln) j = true) (hp : pos (rows i ln) j ≤ 1024) :
    dstOff j i (BitVec.ofNat 32 ln) = ![base i + pos (rows i ln) j, 0] := by
  obtain ⟨x, e, e0⟩ := dstOff_link j i (BitVec.ofNat 32 ln) (rows i ln) (countW_rows i h) (countW_i0 _ (rows_lt i ln))
  have hx := dstOff_i0 j _ (rows_lt i ln) ha
  rw [e0, baseW_eq] at hx
  rw [e, baseW_eq]
  have h0 : 1024 * (2 * (i0 1).val + (i0 0).val) = 0 := rfl
  have hx' : (BitVec.ofNat 32 (1024 * (2 * (i0 1).val + (i0 0).val)) + x).toNat = pos (rows i ln) j := hx
  rw [h0] at hx'
  have hi := i0_lt i
  have hi1 := i1_lt i
  unfold base
  congr 1
  simp only [BitVec.toNat_add, BitVec.toNat_ofNat] at hx' ⊢
  omega

/-- A data copy stays within the tile's data. -/
theorem data_le (j : Fin 15) (ha : act (rows i ln) j = true) : pos (rows i ln) j + sz j ≤ rows i ln := by
  rw [← pos_succ_of_act ha]
  exact (pos_mono _ (by omega)).trans_eq (pos_ends _ (rows_lt i ln)).1

/-- Every copy stays within the tile's block. -/
theorem all_le (j : Fin 30) (ha : act (rows i ln) j = true) : pos (rows i ln) j + sz j ≤ 1024 := by
  rw [← pos_succ_of_act ha]
  exact (pos_mono _ (by omega)).trans_eq (pos_ends _ (rows_lt i ln)).2

/-- A zero copy starts past the tile's data. -/
theorem zero_ge {j : ℕ} (hj : 15 ≤ j) : rows i ln ≤ pos (rows i ln) j :=
  (pos_ends _ (rows_lt i ln)).1.symm.trans_le (pos_mono _ hj)

/-- A data copy that runs reads rows of the tile's batch. -/
theorem src_pos (j : Fin 15) (ha : act (rows i ln) j = true) : p0 i + pos (rows i ln) j + sz j ≤ ln := by
  have h := data_le i j ha
  have hs : 0 < sz j := (show ∀ j : Fin 15, 0 < sz j by decide) j
  unfold rows at *; omega

/-- Every data copy reads within the ragged array. -/
theorem inS (h : cu + ln ≤ 16384) (j : Fin 15) (hj : cnd ⟨j, by omega⟩ i (BitVec.ofNat 32 ln) = 1#1) :
    ∀ a, srcOff j i (BitVec.ofNat 32 cu) (BitVec.ofNat 32 ln) a + (⟨2, ![sz j, 256]⟩ : Shape).size a ≤ S16384x256.size a := by
  have ha := (cnd_iff i (by omega) _).mp hj
  have hp := src_pos i j ha
  rw [src_eq i h j ha (by omega)]
  intro a
  match a with
  | 0 => show cu + p0 i + pos (rows i ln) j + sz j ≤ 16384; omega
  | 1 => show 0 + 256 ≤ 256; omega

/-- Every copy writes within the padded array. -/
theorem inD (h : ln ≤ 16384) (j : Fin 30) (hj : cnd j i (BitVec.ofNat 32 ln) = 1#1) :
    ∀ a, dstOff j i (BitVec.ofNat 32 ln) a + (⟨2, ![sz j, 256]⟩ : Shape).size a ≤ S32768x256.size a := by
  have ha := (cnd_iff i h _).mp hj
  have hp := all_le i j ha
  rw [dst_eq i h j ha (by omega)]
  have hi := i0_lt i
  have hi1 := i1_lt i
  intro a
  match a with
  | 0 => show base i + pos (rows i ln) j + sz j ≤ 32768; unfold base; omega
  | 1 => show 0 + 256 ≤ 256; omega

end

/-- The kernel's own check of its offsets passes. -/
theorem chk_of (i : grid0.Coords) {cu ln : ℕ} (h : cu + ln ≤ 16384) : k0_chk1 i (BitVec.ofNat 32 cu) (BitVec.ofNat 32 ln) := by
  have hs := inS i h
  have hd := inD i (show ln ≤ 16384 by omega)
  exact ⟨⟨hs 0, hs 1, hs 2, hs 3, hs 4, hs 5, hs 6, hs 7, hs 8, hd 8, hs 9, hd 9, hs 10, hd 10, hs 11, hd 11, hs 12, hd 12, hs 13, hd 13, hs 14, hd 14,
    hd 15, hd 16, hd 17, hd 18, hd 19, hd 20, hd 21, hd 22, hd 23, hd 24⟩, hd 25, hd 26, hd 27, hd 28, hd 29⟩

end Cert.Proof.Words

end
-- ==== Proof.IdealBase.lean ====
/-
  What the proof of the SparseCore kernel speaks of: the program as the launch theorem sees it, the resource algebra, and
  the buffers the tiles name.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Main
public import proofs.«01_k».proof.Proof.Gen.KernelIdeal
public import proofs.«01_k».proof.Proof.Gen.KernelIdeal.Skeleton

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The program's call labels. -/
abbrev ΛP : Labels := Pipeline.Sig Λ₀ (Fin 0) fun p => (pcfgs (F := F) p).Adm
/-- The SparseCore configuration. -/
abbrev K : SparseCore.Cfg τ sig (ΛP (F := F)) 1 := sc (F := F)
/-- Call 0 runs on sixteen tiles of a SparseCore. -/
theorem nSub_zero : (K (F := F)).nSub 0 = 16 := rfl
/-- Call 0 runs on two SparseCores. -/
theorem nCore_zero : (K (F := F)).nCore 0 = 2 := rfl
/-- The program's definitions. -/
abbrev D [FloatOps F] : Defs nD τ sig (Elt F) (ΛP (F := F)) := Pipeline.defs pcfgs defs₀
/-- No loop needs a variant. -/
abbrev 𝒱₀ : Variants := Variants.none
/-- The same, with the calls. -/
abbrev 𝒱 : Variants := 𝒱₀.lift
/-- The variant at the start. -/
abbrev v₀ : 𝒱.V := Sum.inl none

/-- The launch's semaphores are four, none of them a kernel's own, and the processors share no memory of their own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state. -/
abbrev UH : Type := URounds (GSem nD τ sig) ℕ
/-- With the counters beside it. -/
abbrev UU : Type := UH × Counters
/-- Where the handshakes' part lies. -/
abbrev EH : Emb UH (MT nD τ sig (HIx 1) (Elt F) ℕ UU ℕ) := embL

/-- The buffers in the chip's memory a tile reads and writes: the ragged array, the starts, the lengths, the zeros, the
    padded array. -/
abbrev aLoc (d : Dev nD) : Loc nD τ sig := (SparseCore.T d).loc main_arg0
/-- The starts. -/
abbrev cLoc (d : Dev nD) : Loc nD τ sig := (SparseCore.T d).loc main_v0
/-- The lengths. -/
abbrev lLoc (d : Dev nD) : Loc nD τ sig := (SparseCore.T d).loc main_v3
/-- The zeros. -/
abbrev zLoc (d : Dev nD) : Loc nD τ sig := (SparseCore.T d).loc main_v4
/-- The padded array, as rows. -/
abbrev oLoc (d : Dev nD) : Loc nD τ sig := (SparseCore.T d).loc main_v5

abbrev aV : Memref sig Kind.scVector Space.hbm S16384x256 EltTy.f32 := Memref.whole main_arg0_scv
abbrev cV : Memref sig Kind.scVector Space.hbm S16 EltTy.i32 := Memref.whole main_v0_scv
abbrev lV : Memref sig Kind.scVector Space.hbm S16 EltTy.i32 := Memref.whole main_v3_scv
abbrev zV : Memref sig Kind.scVector Space.hbm S128x256 EltTy.f32 := Memref.whole main_v4_scv
abbrev oV : Memref sig Kind.scVector Space.hbm S32768x256 EltTy.f32 := Memref.whole main_v5_scv
abbrev b0V : Memref sig Kind.scVector Space.vmem S128x256 EltTy.f32 := Memref.whole cc0_scratch0
abbrev b1V : Memref sig Kind.scVector Space.vmem S128x256 EltTy.f32 := Memref.whole cc0_scratch1
abbrev bzV : Memref sig Kind.scVector Space.vmem S128x256 EltTy.f32 := Memref.whole cc0_scratch2
abbrev bcV : Memref sig Kind.scVector Space.vmem S16 EltTy.i32 := Memref.whole cc0_scratch3
abbrev blV : Memref sig Kind.scVector Space.vmem S16 EltTy.i32 := Memref.whole cc0_scratch4

/-- Every DMA semaphore is a tile's own. -/
theorem dma_own (d : Dev nD) (c : Fin τ.nSC) (j : Fin τ.nSub) (k : DmaSem sig) :
    ((V d c j, .dma k) : GSem nD τ sig) ∈ ownCells (V d c j) :=
  mem_ownCells.mpr ⟨rfl, (show ∀ k : DmaSem sig, (SemLoc.dma k : SemLoc sig).isScoped .scVector = true by decide) k⟩

end Cert.Proof.KernIdeal

end

end
-- ==== Proof.IdealCopy.lean ====
/-
  One copy of the kernel. A data copy takes rows of the ragged array through a tile's buffer to the padded array; a zero
  copy takes rows of the buffer of zeros to it. Each extends by its rows the part of the tile's block that holds what it
  should.
-/
module

public import proofs.«01_k».proof.Proof.IdealBase

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Where a slice of whole rows lies -/

/-- Rows `o ‥ o + n` of an array of `R` rows and 256 columns. -/
abbrev rowsR {R : ℕ} (n : ℕ) (off : Fin 2 → ℕ) (h : ∀ a, off a + (⟨2, ![n, 256]⟩ : Shape).size a ≤ (⟨2, ![R, 256]⟩ : Shape).size a) :
    Rect (⟨2, ![R, 256]⟩ : Shape) := Rect.unit (s := (⟨2, ![R, 256]⟩ : Shape)) off (⟨2, ![n, 256]⟩ : Shape).size h

/-- Row `y` of a slice of rows is row `off + y` of the array. -/
theorem rowsR_emb {R n : ℕ} {off : Fin 2 → ℕ} (h : ∀ a, off a + (⟨2, ![n, 256]⟩ : Shape).size a ≤ (⟨2, ![R, 256]⟩ : Shape).size a)
    (y : (rowsR n off h).shape.Idx) (a : Fin 2) : ((rowsR n off h).emb y a).val = off a + (y a).val := by
  show off a + 1 * (y a).val = _
  rw [Nat.one_mul]

/-- The block of 1024 rows from row `b` on. -/
def blk (b : ℕ) : Finset S32768x256.Idx := Finset.univ.filter fun i => b ≤ (i 0).val ∧ (i 0).val < b + 1024
/-- What lies in a block. -/
theorem mem_blk {b : ℕ} {i : S32768x256.Idx} : i ∈ blk b ↔ b ≤ (i 0).val ∧ (i 0).val < b + 1024 := by simp [blk]

section Write
variable {n : ℕ} {off : Fin 2 → ℕ} (h : ∀ a, off a + (⟨2, ![n, 256]⟩ : Shape).size a ≤ S32768x256.size a)

/-- The slice of the padded array a copy of `n` rows writes. -/
abbrev oS : Memref sig .scVector .hbm ⟨2, ![n, 256]⟩ .f32 := (oV).slice (rowsR n off h) (fun _ => rfl)
/-- The slice of the ragged array it reads. -/
abbrev aS (h : ∀ a, off a + (⟨2, ![n, 256]⟩ : Shape).size a ≤ S16384x256.size a) : Memref sig .scVector .hbm ⟨2, ![n, 256]⟩ .f32 :=
  (aV).slice (rowsR n off h) (fun _ => rfl)

/-- A copy whose rows lie within a block writes inside it. -/
theorem oS_subset {b k : ℕ} (ho : off = ![b + k, 0]) (hk : k + n ≤ 1024) : (oS h).view.set ⊆ blk b := by
  subst ho; intro i hi
  obtain ⟨y, -, rfl⟩ := Finset.mem_map.mp hi
  rw [mem_blk]
  have e : (((oS h).view.emb y) 0).val = b + k + (y 0).val := rowsR_emb h y 0
  have := (y 0).isLt
  have hy : (y 0).val < n := this
  omega

/-- After the copy, the rows before it and its own rows hold what they should. -/
theorem write_done {X : S32768x256.Idx → Elt F .f32} {b k : ℕ} (ho : off = ![b + k, 0])
    (f : S32768x256.Idx → Elt F .f32) (w : (⟨2, ![n, 256]⟩ : Shape).Idx → Elt F .f32)
    (hf : ∀ i, b ≤ (i 0).val → (i 0).val < b + k → f i = X i)
    (hw : ∀ (i : S32768x256.Idx) (y : (⟨2, ![n, 256]⟩ : Shape).Idx), (i 0).val = b + k + (y 0).val → (i 1).val = (y 1).val → w y = X i) :
    ∀ i, b ≤ (i 0).val → (i 0).val < b + (k + n) → (oS h).view.write (Elt F) f w Finset.univ i = X i := by
  subst ho; intro i h1 h2
  by_cases hi : (i 0).val < b + k
  · rw [View.write_of_not_mem]
    · exact hf i h1 hi
    · rw [View.setOn_univ]; intro hm
      obtain ⟨y, -, rfl⟩ := Finset.mem_map.mp hm
      have e : (((oS h).view.emb y) 0).val = b + k + (y 0).val := rowsR_emb h y 0
      omega
  · have hi1 : (i 1).val < 256 := (i 1).isLt
    let y : (⟨2, ![n, 256]⟩ : Shape).Idx := Fin.cons ⟨(i 0).val - (b + k), by show _ < n; omega⟩ (Fin.cons ⟨(i 1).val, hi1⟩ finZeroElim)
    have y0 : (y 0).val = (i 0).val - (b + k) := rfl
    have y1 : (y 1).val = (i 1).val := rfl
    have e0 : (((oS h).view.emb y) 0).val = b + k + (y 0).val := rowsR_emb h y 0
    have e1 : (((oS h).view.emb y) 1).val = 0 + (y 1).val := rowsR_emb h y 1
    have e : (oS h).view.emb y = i := by
      funext a
      match a with
      | 0 => exact Fin.ext (by rw [e0]; omega)
      | 1 => exact Fin.ext (by rw [e1]; omega)
    rw [← e, View.write_emb_of_mem _ _ (Finset.mem_univ _), cast_eq]
    exact hw _ y e0 (by rw [e1]; omega)

/-- What a read of the slice of the ragged array gives. -/
theorem aS_read (h : ∀ a, off a + (⟨2, ![n, 256]⟩ : Shape).size a ≤ S16384x256.size a) {o : ℕ} (ho : off = ![o, 0])
    (A : S16384x256.Idx → Elt F .f32) (y : (⟨2, ![n, 256]⟩ : Shape).Idx) :
    ∃ x : S16384x256.Idx, (x 0).val = o + (y 0).val ∧ (x 1).val = (y 1).val ∧ (aS h).view.read (Elt F) A y = A x := by
  subst ho
  refine ⟨(aS h).view.emb y, rowsR_emb h y 0, (rowsR_emb h y 1).trans (Nat.zero_add _), ?_⟩
  rw [View.read_apply, cast_eq]

end Write

/-! ## The copies -/

variable [FloatOps F]

section Copies
variable (d : Dev nD) (c : Fin τ.nSC) (j : Fin τ.nSub)
variable (q : PosShare TreeShare) (A : Buf (Elt F) (aLoc d)) (X : S32768x256.Idx → Elt F .f32) (b : ℕ)
variable (O : CellTallies nD τ sig (HIx 1)) (W : Waits sig (HIx 1))

/-- The first `k` rows of the tile's block hold what they should. -/
def Out (k : ℕ) : sProp 𝕄 :=
  iprop(∃ f, ⌜∀ i : S32768x256.Idx, b ≤ (i 0).val → (i 0).val < b + k → f i = X i⌝ ∗ oLoc d ↦[blk b]{fullShare} f)

/-- What the tile owes, having waited on its own transfers alone. -/
def Owe : sProp 𝕄 := iprop(∃ W', ⌜∀ p ∈ W', p ∈ W ∨ p.2 = none⌝ ∗ owes (V d c j) O W')

/-- What a copy needs and gives back beside the buffer it goes through: `k` rows done. -/
def Core (k : ℕ) : sProp 𝕄 :=
  iprop(Transfers.MayWaits (V d c j) (default : HIx 1) O ∗ (aLoc d ↦{q} A) ∗ Out (F := F) d X b k ∗ ownSems0 (V d c j) ∗ Owe (F := F) d c j O W)

/-- A wait at no cell added to the record leaves it as the record should be. -/
theorem owe_insert {W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

/-- One local transfer and its wait on one of the tile's own semaphores: the destination's elements hold the source's. -/
theorem hop {sp sp' : Space} {s : Shape} {e : EltTy} {src : Memref sig .scVector sp s e} {dst : Memref sig .scVector sp' s e}
    {srcw : Memref sig .scVector sp s e} {dstw : Memref sig .scVector sp' s e}
    {sem : DmaSem sig} {w1 w2 w3 w4 w5} {q' : PosShare TreeShare} {fs : Buf (Elt F) (src.view.loc (V d c j))} {fd : Buf (Elt F) (dst.view.loc (V d c j))}
    {Sd : Finset (Idx (dst.view.loc (V d c j)))} {α : Type} {k : PUnit → Prog (TpuEff nD τ sig (Elt F) Λ₀ (.scVector c j)) α} {Q : α → sProp 𝕄}
    (hs : 0 < s.numel) (hSd : dst.view.set ⊆ Sd) (hw : dstw.view.dmaCredit = dst.view.dmaCredit) :
    iprop(Transfers.MayWaits (V d c j) (default : HIx 1) O ∗ (src.view.loc (V d c j) ↦[src.view.set]{q'} fs) ∗ (dst.view.loc (V d c j) ↦[Sd]{fullShare} fd)
        ∗ ownSems0 (V d c j) ∗ Owe (F := F) d c j O W)
      ⊢ iprop((iprop((dst.view.loc (V d c j) ↦[Sd]{fullShare} dst.view.write (Elt F) fd (src.view.read (Elt F) fs) Finset.univ)
          ∗ (src.view.loc (V d c j) ↦[src.view.set]{q'} fs) ∗ ownSems0 (V d c j) ∗ Owe (F := F) d c j O W)
            -∗ wp frame (wpE (defs₀ (F := F)) 𝒱₀ (V d c j) none) Set.univ (k ⟨⟩) Q)
          -∗ wp frame (wpE (defs₀ (F := F)) 𝒱₀ (V d c j) none) Set.univ
              (.op (.enqueueDma src (.here dst) (.dma sem) w1 w2 w3) fun _ => .op (.waitDma2 sem srcw dstw w4 w5) k) Q) := by
  unfold Owe SparseCore.Cfg.ownSems0
  rw [SparseCore.bigSep_erase' (dma_own d c j sem)]
  iintro ⟨Hmw, Hs, Hd, ⟨Hsem, Hsems⟩, %W', %hW', HO⟩ Hk
  iapply (Transfers.wp_dmaLocal countersEmb 𝒱₀ (V d c j) none (default : HIx 1) dst.view.dmaCredit rfl (View.dmaCredit_pos _ hs) hSd) $$ [Hs Hd Hsem]
  · isplitl [Hs]; · iexact Hs
    isplitl [Hd]; · iexact Hd
    iexact Hsem
  iintro Hfl
  iapply (Transfers.wp_waitLocalO countersEmb 𝒱₀ (V d c j) none (default : HIx 1) hw) $$ [Hfl HO Hmw]
  · isplitl [Hfl]; · iexact Hfl
    isplitl [HO]; · iexact HO
    iapply (Transfers.MayWaits.elim (SemLoc.dma sem)) $$ Hmw
  iintro ⟨⟨Hd, Hs⟩, Hsem, HO⟩
  iapply Hk
  isplitl [Hd]; · iexact Hd
  isplitl [Hs]; · iexact Hs
  isplitl [Hsem Hsems]
  · isplitl [Hsem]; · iexact Hsem
    iexact Hsems
  iexists _; isplitr
  swap; · iexact HO
  ipureintro; exact owe_insert W hW'

/-- A data copy: rows `cp + k ‥ cp + k + n` of the ragged array go through the buffer to rows `b + k ‥` of the padded array. -/
theorem data_copy {n : ℕ} (hn : 0 < n) {nd cp k : ℕ} (hnd : nd ≤ 1024)
    (hX : ∀ (i : S32768x256.Idx) (y : S16384x256.Idx), b ≤ (i 0).val → (i 0).val < b + nd → (y 0).val + b = cp + (i 0).val → (y 1).val = (i 1).val → A y = X i)
    {offS offD : Fin 2 → ℕ} {hS : ∀ a, offS a + (⟨2, ![n, 256]⟩ : Shape).size a ≤ S16384x256.size a}
    {hD : ∀ a, offD a + (⟨2, ![n, 256]⟩ : Shape).size a ≤ S32768x256.size a}
    (eS : offS = ![cp + k, 0]) (eD : offD = ![b + k, 0]) (hk : k + n ≤ nd)
    {bb : Memref sig .scVector .vmem ⟨2, ![n, 256]⟩ .f32} {s1 s2 : DmaSem sig} {w1 w2 w3 w4 w5 w6 w7 w8 w9 w10} :
    iprop((∃ g, bb.view.loc (V d c j) ↦{fullShare} g) ∗ Core (F := F) d c j q A X b O W k)
      ⊢ wp frame (wpE (defs₀ (F := F)) 𝒱₀ (V d c j) none) Set.univ
          (.op (.enqueueDma (aS hS) (.here bb) (.dma s1) w1 w2 w3) fun _ => .op (.waitDma2 s1 (aS hS) bb w4 w5) fun _ =>
            .op (.enqueueDma bb (.here (oS hD)) (.dma s2) w6 w7 w8) fun _ => .op (.waitDma2 s2 bb (oS hD) w9 w10) fun _ =>
              (.ret ⟨⟩ : Prog (TpuEff nD τ sig (Elt F) Λ₀ (.scVector c j)) PUnit))
          fun _ => iprop((∃ g, bb.view.loc (V d c j) ↦{fullShare} g) ∗ Core (F := F) d c j q A X b O W (k + n)) := by
  have hs : 0 < (⟨2, ![n, 256]⟩ : Shape).numel := by
    show 0 < ∏ a, (![n, 256] : Fin 2 → ℕ) a
    rw [Fin.prod_univ_two]; exact Nat.mul_pos hn (show 0 < 256 by decide)
  unfold Core Out
  iintro ⟨⟨%g, Hb⟩, #Hmw, HA, ⟨%f, %hf, Ho⟩, Hsems, HO⟩
  ihave HA' := (pointsTo_split_subset (ℓ := (aS hS).view.loc (V d c j)) (q := q) (f := A) (S := Finset.univ) (Finset.subset_univ (aS hS).view.set)).1 $$ HA
  icases HA' with ⟨HAs, HAr⟩
  iapply (hop d c j O W (src := aS hS) (dst := bb) (Sd := Finset.univ) (fs := A) (fd := g) (q' := q) hs (Finset.subset_univ _) rfl) $$ [HAs Hb Hsems HO]
  · isplitr; · iexact Hmw
    isplitl [HAs]; · iexact HAs
    isplitl [Hb]; · iexact Hb
    isplitl [Hsems]; · iexact Hsems
    iexact HO
  iintro ⟨Hb, HAs, Hsems, HO⟩
  ihave Hb' := (pointsTo_split_subset (ℓ := bb.view.loc (V d c j)) (q := fullShare) (S := Finset.univ) (Finset.subset_univ bb.view.set)).1 $$ Hb
  icases Hb' with ⟨Hb, Hbr⟩
  iapply (hop d c j O W (src := bb) (dst := oS hD) (Sd := blk b) (fd := f) (q' := fullShare) hs (oS_subset hD eD (by omega)) rfl) $$ [Hb Ho Hsems HO]
  · isplitr; · iexact Hmw
    isplitl [Hb]; · iexact Hb
    isplitl [Ho]; · iexact Ho
    isplitl [Hsems]; · iexact Hsems
    iexact HO
  iintro ⟨Ho, Hb, Hsems, HO⟩
  ihave Hb := (pointsTo_split_subset (ℓ := bb.view.loc (V d c j)) (q := fullShare) (S := Finset.univ) (Finset.subset_univ bb.view.set)).2 $$ [Hb Hbr]; · isplitl [Hb] <;> iassumption
  ihave HA := (pointsTo_split_subset (ℓ := (aS hS).view.loc (V d c j)) (q := q) (f := A) (S := Finset.univ) (Finset.subset_univ (aS hS).view.set)).2 $$ [HAs HAr]; · isplitl [HAs] <;> iassumption
  rw [wp_ret]; imodintro
  isplitl [Hb]; · iexists _; iexact Hb
  isplitr; · iexact Hmw
  isplitl [HA]; · iexact HA
  isplitl [Ho]
  · iexists _; isplitr
    swap; · iexact Ho
    ipureintro
    refine write_done hD eD f _ hf fun i y h0 h1 => ?_
    rw [View.read_write_univ]
    obtain ⟨x, x0, x1, e⟩ := aS_read hS eS A y
    rw [e]
    have hy : (y 0).val < n := (y 0).isLt
    exact hX i x (by omega) (by omega) (by omega) (by omega)
  isplitl [Hsems]; · iexact Hsems
  iexact HO

/-- A zero copy: `n` rows of a buffer that reads `z` everywhere go to rows `b + k ‥` of the padded array. -/
theorem zero_copy {n : ℕ} (hn : 0 < n) {nd k : ℕ} {z : Elt F .f32}
    (hX : ∀ (i : S32768x256.Idx), b + nd ≤ (i 0).val → (i 0).val < b + 1024 → z = X i)
    {offD : Fin 2 → ℕ} {hD : ∀ a, offD a + (⟨2, ![n, 256]⟩ : Shape).size a ≤ S32768x256.size a}
    (eD : offD = ![b + k, 0]) (hk : nd ≤ k) (hk' : k + n ≤ 1024)
    {bb : Memref sig .scVector .vmem ⟨2, ![n, 256]⟩ .f32} (Z : Buf (Elt F) (bb.view.loc (V d c j))) (hZ : ∀ y, bb.view.read (Elt F) Z y = z)
    {s1 : DmaSem sig} {w1 w2 w3 w4 w5} :
    iprop((bb.view.loc (V d c j) ↦{fullShare} Z) ∗ Core (F := F) d c j q A X b O W k)
      ⊢ wp frame (wpE (defs₀ (F := F)) 𝒱₀ (V d c j) none) Set.univ
          (.op (.enqueueDma bb (.here (oS hD)) (.dma s1) w1 w2 w3) fun _ => .op (.waitDma2 s1 bb (oS hD) w4 w5) fun _ =>
              (.ret ⟨⟩ : Prog (TpuEff nD τ sig (Elt F) Λ₀ (.scVector c j)) PUnit))
          fun _ => iprop((bb.view.loc (V d c j) ↦{fullShare} Z) ∗ Core (F := F) d c j q A X b O W (k + n)) := by
  have hs : 0 < (⟨2, ![n, 256]⟩ : Shape).numel := by
    show 0 < ∏ a, (![n, 256] : Fin 2 → ℕ) a
    rw [Fin.prod_univ_two]; exact Nat.mul_pos hn (show 0 < 256 by decide)
  unfold Core Out
  iintro ⟨Hb, #Hmw, HA, ⟨%f, %hf, Ho⟩, Hsems, HO⟩
  ihave Hb' := (pointsTo_split_subset (ℓ := bb.view.loc (V d c j)) (q := fullShare) (S := Finset.univ) (Finset.subset_univ bb.view.set)).1 $$ Hb
  icases Hb' with ⟨Hb, Hbr⟩
  iapply (hop d c j O W (src := bb) (dst := oS hD) (Sd := blk b) (fd := f) (q' := fullShare) hs (oS_subset hD eD (by omega)) rfl) $$ [Hb Ho Hsems HO]
  · isplitr; · iexact Hmw
    isplitl [Hb]; · iexact Hb
    isplitl [Ho]; · iexact Ho
    isplitl [Hsems]; · iexact Hsems
    iexact HO
  iintro ⟨Ho, Hb, Hsems, HO⟩
  ihave Hb := (pointsTo_split_subset (ℓ := bb.view.loc (V d c j)) (q := fullShare) (S := Finset.univ) (Finset.subset_univ bb.view.set)).2 $$ [Hb Hbr]; · isplitl [Hb] <;> iassumption
  rw [wp_ret]; imodintro
  isplitl [Hb]; · iexact Hb
  isplitr; · iexact Hmw
  isplitl [HA]; · iexact HA
  isplitl [Ho]
  · iexists _; isplitr
    swap; · iexact Ho
    ipureintro
    refine write_done hD eD f _ hf fun i y h0 h1 => ?_
    rw [hZ]
    have hy : (y 0).val < n := (y 0).isLt
    exact hX i (by omega) (by omega)
  isplitl [Hsems]; · iexact Hsems
  iexact HO

end Copies

end Cert.Proof.KernIdeal

end

end
-- ==== Proof.IdealSteps.lean ====
/-
  The kernel's thirty guarded copies as steps on a tile's state: before copy `j` the first `pos n j` rows of the tile's
  block hold what they should, after it the first `pos n (j + 1)`.
-/
module

public import proofs.«01_k».proof.Proof.IdealCopy

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Words

/-- The tile's SparseCore. -/
abbrev cT (L : grid0.Coords) : Fin τ.nSC := (L 0).castLE hcore0
/-- The tile's number there. -/
abbrev jT (L : grid0.Coords) : Fin τ.nSub := (L 1).castLE hsub0

/-- What the padded array should hold in a tile's block, of a batch that starts at row `cu` of the ragged array and has
    `ln` rows: the batch's rows, then `z`. -/
structure Should (L : grid0.Coords) (cu ln : ℕ) (A : S16384x256.Idx → Elt F .f32) (z : Elt F .f32) (X : S32768x256.Idx → Elt F .f32) : Prop where
  fits : cu + ln ≤ 16384
  data : ∀ (i : S32768x256.Idx) (y : S16384x256.Idx), base L ≤ (i 0).val → (i 0).val < base L + rows L ln →
    (y 0).val + base L = cu + p0 L + (i 0).val → (y 1).val = (i 1).val → A y = X i
  zero : ∀ i : S32768x256.Idx, base L + rows L ln ≤ (i 0).val → (i 0).val < base L + 1024 → z = X i

variable [FloatOps F]

section Steps
variable (d : Dev nD) (L : grid0.Coords)
variable (q : PosShare TreeShare) (A : Buf (Elt F) (aLoc d)) (z : Elt F .f32) (X : S32768x256.Idx → Elt F .f32)
variable (O : CellTallies nD τ sig (HIx 1)) (W : Waits sig (HIx 1))

/-- The tile's thread. -/
abbrev thr : Thread nD τ := V d (cT L) (jT L)
/-- The buffer of zeros, holding `z` everywhere. -/
def zBuf : Buf (Elt F) ((bzV).view.loc (thr d L)) := fun _ => z
/-- The first buffer, at some contents. -/
def B0 : sProp 𝕄 := iprop(∃ g : Buf (Elt F) ((b0V).view.loc (thr d L)), (b0V).view.loc (thr d L) ↦{fullShare} g)
/-- The second buffer, at some contents. -/
def B1 : sProp 𝕄 := iprop(∃ g : Buf (Elt F) ((b1V).view.loc (thr d L)), (b1V).view.loc (thr d L) ↦{fullShare} g)
/-- The buffer of zeros. -/
def BZ : sProp 𝕄 := iprop((bzV).view.loc (thr d L) ↦{fullShare} zBuf (F := F) d L z)

/-- The tile's state between copies, `k` rows of its block done. -/
def St (k : ℕ) : sProp 𝕄 :=
  iprop(B0 (F := F) d L ∗ B1 (F := F) d L ∗ BZ (F := F) d L z ∗ Core (F := F) d (cT L) (jT L) q A X (base L) O W k)

variable {d L q A z X O W}
variable {cu ln : ℕ} {α : Type}

/-- A guarded copy: run if its guard is on, and the state moves to the next position either way. -/
theorem guarded {jj : Fin 30} (hl : ln ≤ 16384) {cB : BitVec 1} (hc : cB = cnd jj L (BitVec.ofNat 32 ln))
    {p : cB = 1#1 → Prog (TpuEff nD τ sig (Elt F) Λ₀ (.scVector (cT L) (jT L))) α} {kk : Prog (TpuEff nD τ sig (Elt F) Λ₀ (.scVector (cT L) (jT L))) α}
    {Q : α → sProp 𝕄}
    (hp : ∀ h : cB = 1#1, act (rows L ln) jj = true → (St (F := F) d L q A z X O W (pos (rows L ln) jj + sz jj) ⊢ wp frame (wpE (defs₀ (F := F)) 𝒱₀ (thr d L) none) Set.univ kk Q) →
      (St (F := F) d L q A z X O W (pos (rows L ln) jj) ⊢ wp frame (wpE (defs₀ (F := F)) 𝒱₀ (thr d L) none) Set.univ (p h) Q))
    (hk : St (F := F) d L q A z X O W (pos (rows L ln) (jj + 1)) ⊢ wp frame (wpE (defs₀ (F := F)) 𝒱₀ (thr d L) none) Set.univ kk Q) :
    St (F := F) d L q A z X O W (pos (rows L ln) jj)
      ⊢ wp frame (wpE (defs₀ (F := F)) 𝒱₀ (thr d L) none) Set.univ (dite (cB = 1#1) p fun _ => kk) Q := by
  by_cases h : cB = 1#1
  · rw [dif_pos h]
    have ha := (cnd_iff L hl jj).mp (hc ▸ h)
    rw [pos_succ_of_act ha] at hk
    exact hp h ha hk
  · rw [dif_neg h]
    have ha : act (rows L ln) jj = false := Bool.eq_false_iff.mpr fun ha => h (hc ▸ (cnd_iff L hl jj).mpr ha)
    rwa [pos_succ_of_not ha] at hk

/-- A program that ends returns in its state. -/
theorem done {a : α} {k : ℕ} : St (F := F) d L q A z X O W k
    ⊢ wp frame (wpE (defs₀ (F := F)) 𝒱₀ (thr d L) none) Set.univ (pure a : Prog (TpuEff nD τ sig (Elt F) Λ₀ (.scVector (cT L) (jT L))) α)
        fun _ => St (F := F) d L q A z X O W k := by
  rw [wp_pure]; iintro H; imodintro; iexact H

/-! The state is the buffer a copy goes through with what the copy needs, and the other buffers. -/

/-- The first buffer taken out of the state. -/
theorem split0 (k : ℕ) : St (F := F) d L q A z X O W k
    ⊢ iprop((B0 (F := F) d L ∗ Core (F := F) d (cT L) (jT L) q A X (base L) O W k) ∗ (B1 (F := F) d L ∗ BZ (F := F) d L z)) := by
  unfold St; iintro ⟨H0, H1, HZ, HC⟩; isplitl [H0 HC]; · (isplitl [H0] <;> iassumption)
  isplitl [H1] <;> iassumption
/-- The first buffer put back. -/
theorem join0 (k : ℕ) : iprop((B0 (F := F) d L ∗ Core (F := F) d (cT L) (jT L) q A X (base L) O W k) ∗ (B1 (F := F) d L ∗ BZ (F := F) d L z))
    ⊢ St (F := F) d L q A z X O W k := by
  unfold St; iintro ⟨⟨H0, HC⟩, H1, HZ⟩
  isplitl [H0]; · iexact H0
  isplitl [H1]; · iexact H1
  isplitl [HZ] <;> iassumption
/-- The second buffer taken out of the state. -/
theorem split1 (k : ℕ) : St (F := F) d L q A z X O W k
    ⊢ iprop((B1 (F := F) d L ∗ Core (F := F) d (cT L) (jT L) q A X (base L) O W k) ∗ (B0 (F := F) d L ∗ BZ (F := F) d L z)) := by
  unfold St; iintro ⟨H0, H1, HZ, HC⟩; isplitl [H1 HC]; · (isplitl [H1] <;> iassumption)
  isplitl [H0] <;> iassumption
/-- The second buffer put back. -/
theorem join1 (k : ℕ) : iprop((B1 (F := F) d L ∗ Core (F := F) d (cT L) (jT L) q A X (base L) O W k) ∗ (B0 (F := F) d L ∗ BZ (F := F) d L z))
    ⊢ St (F := F) d L q A z X O W k := by
  unfold St; iintro ⟨⟨H1, HC⟩, H0, HZ⟩
  isplitl [H0]; · iexact H0
  isplitl [H1]; · iexact H1
  isplitl [HZ] <;> iassumption

/-- The buffer of zeros taken out of the state. -/
theorem splitZ (k : ℕ) : St (F := F) d L q A z X O W k
    ⊢ iprop((BZ (F := F) d L z ∗ Core (F := F) d (cT L) (jT L) q A X (base L) O W k) ∗ (B0 (F := F) d L ∗ B1 (F := F) d L)) := by
  unfold St; iintro ⟨H0, H1, HZ, HC⟩; isplitl [HZ HC]; · (isplitl [HZ] <;> iassumption)
  isplitl [H0] <;> iassumption
/-- The buffer of zeros put back. -/
theorem joinZ (k : ℕ) : iprop((BZ (F := F) d L z ∗ Core (F := F) d (cT L) (jT L) q A X (base L) O W k) ∗ (B0 (F := F) d L ∗ B1 (F := F) d L))
    ⊢ St (F := F) d L q A z X O W k := by
  unfold St; iintro ⟨⟨HZ, HC⟩, H0, H1⟩
  isplitl [H0]; · iexact H0
  isplitl [H1]; · iexact H1
  isplitl [HZ] <;> iassumption

/-- Data copy `j`, through the buffer whose points-to is `B`. -/
theorem data_step {B R : sProp 𝕄} (hB1 : ∀ k, St (F := F) d L q A z X O W k ⊢ iprop((B ∗ Core (F := F) d (cT L) (jT L) q A X (base L) O W k) ∗ R))
    (hB2 : ∀ k, iprop((B ∗ Core (F := F) d (cT L) (jT L) q A X (base L) O W k) ∗ R) ⊢ St (F := F) d L q A z X O W k)
    (ok : Should (F := F) L cu ln A z X) (jj : Fin 15) {n : ℕ} {cB : BitVec 1} {offS offD : Fin 2 → ℕ}
    {hS : cB = 1#1 → ∀ a, offS a + (⟨2, ![n, 256]⟩ : Shape).size a ≤ S16384x256.size a}
    {hD : cB = 1#1 → ∀ a, offD a + (⟨2, ![n, 256]⟩ : Shape).size a ≤ S32768x256.size a}
    {bb : Memref sig .scVector .vmem ⟨2, ![n, 256]⟩ .f32} {s1 s2 : DmaSem sig}
    {w1 w4 : ∀ h : cB = 1#1, (aS (hS h)).view.WordExact} {w2 w5 w6 w9 : cB = 1#1 → bb.view.WordExact} {w7 w10 : ∀ h : cB = 1#1, (oS (hD h)).view.WordExact}
    {w3 : cB = 1#1 → DmaTarget.Typed (nD := nD) .hbm (.dma s1) (.here (p := Proc.scVector (cT L) (jT L)) bb)} {w8 : ∀ h : cB = 1#1, DmaTarget.Typed (nD := nD) .vmem (.dma s2) (.here (p := Proc.scVector (cT L) (jT L)) (oS (hD h)))}
    {kk : Prog (TpuEff nD τ sig (Elt F) Λ₀ (.scVector (cT L) (jT L))) α} {Q : α → sProp 𝕄}
    (hk : St (F := F) d L q A z X O W (pos (rows L ln) (jj + 1)) ⊢ wp frame (wpE (defs₀ (F := F)) 𝒱₀ (thr d L) none) Set.univ kk Q)
    (hn : sz jj = n := by rfl) (hc : cB = cnd (jj.castLE (by omega)) L (BitVec.ofNat 32 ln) := by rfl)
    (eS : offS = srcOff jj L (BitVec.ofNat 32 cu) (BitVec.ofNat 32 ln) := by rfl)
    (eD : offD = dstOff (jj.castLE (by omega)) L (BitVec.ofNat 32 ln) := by rfl)
    (eB : iprop(∃ g, bb.view.loc (thr d L) ↦{fullShare} g) = B := by rfl) :
    St (F := F) d L q A z X O W (pos (rows L ln) jj)
      ⊢ wp frame (wpE (defs₀ (F := F)) 𝒱₀ (thr d L) none) Set.univ (dite (cB = 1#1)
          (fun h => .op (.enqueueDma (aS (hS h)) (.here bb) (.dma s1) (w1 h) (w2 h) (w3 h)) fun _ => .op (.waitDma2 s1 (aS (hS h)) bb (w4 h) (w5 h)) fun _ =>
            .op (.enqueueDma bb (.here (oS (hD h))) (.dma s2) (w6 h) (w7 h) (w8 h)) fun _ => .op (.waitDma2 s2 bb (oS (hD h)) (w9 h) (w10 h)) fun _ => kk)
          fun _ => kk) Q := by
  have hf := ok.fits
  refine guarded (jj := jj.castLE (by omega)) (by omega) hc (fun h ha hk' => ?_) hk
  subst hn
  have hs : 0 < sz jj := (show ∀ j : Fin 15, 0 < sz j by decide) jj
  have hle := data_le L jj ha
  have hps := src_pos L jj ha
  refine (hB1 _).trans ?_
  rw [← eB]
  refine (sep_mono_left (data_copy d (cT L) (jT L) q A X (base L) O W hs (nd := rows L ln) (cp := cu + p0 L) (k := pos (rows L ln) jj)
    (by have := rows_lt L ln; omega) ok.data (hS := hS h) (hD := hD h) (eS.trans (src_eq L hf jj ha (by omega)))
    (eD.trans (dst_eq L (by omega) _ ha (by have := rows_lt L ln; show pos (rows L ln) jj ≤ 1024; omega))) hle
    (bb := bb) (s1 := s1) (s2 := s2) (w1 := w1 h) (w2 := w2 h) (w3 := w3 h) (w4 := w4 h) (w5 := w5 h) (w6 := w6 h) (w7 := w7 h) (w8 := w8 h) (w9 := w9 h) (w10 := w10 h))).trans ?_
  refine (wp_frame_r frame _ _).trans ?_
  refine BI.Entails.trans (wp_mono frame _ _ (Q' := fun _ => wp frame (wpE (defs₀ (F := F)) 𝒱₀ (thr d L) none) Set.univ kk Q) fun _ => ?_) ?_
  · rw [eB]; exact (hB2 _).trans hk'
  · exact Entails.of_eq (wp_bind frame _ _ _ (fun _ => kk) Q).symm

/-- Zero copy `j`, from the buffer of zeros. -/
theorem zero_step (ok : Should (F := F) L cu ln A z X) (jj : Fin 30) {n : ℕ} {cB : BitVec 1} {offD : Fin 2 → ℕ}
    {hD : cB = 1#1 → ∀ a, offD a + (⟨2, ![n, 256]⟩ : Shape).size a ≤ S32768x256.size a}
    {bb : Memref sig .scVector .vmem ⟨2, ![n, 256]⟩ .f32} {s1 : DmaSem sig} {Z : Buf (Elt F) (bb.view.loc (thr d L))}
    {w1 w4 : cB = 1#1 → bb.view.WordExact} {w2 w5 : ∀ h : cB = 1#1, (oS (hD h)).view.WordExact}
    {w3 : ∀ h : cB = 1#1, DmaTarget.Typed (nD := nD) .vmem (.dma s1) (.here (p := Proc.scVector (cT L) (jT L)) (oS (hD h)))}
    {kk : Prog (TpuEff nD τ sig (Elt F) Λ₀ (.scVector (cT L) (jT L))) α} {Q : α → sProp 𝕄}
    (hk : St (F := F) d L q A z X O W (pos (rows L ln) (jj + 1)) ⊢ wp frame (wpE (defs₀ (F := F)) 𝒱₀ (thr d L) none) Set.univ kk Q)
    (hj : 15 ≤ jj.val := by decide)
    (hn : sz jj = n := by rfl) (hc : cB = cnd jj L (BitVec.ofNat 32 ln) := by rfl)
    (eD : offD = dstOff jj L (BitVec.ofNat 32 ln) := by rfl)
    (eB : iprop(bb.view.loc (thr d L) ↦{fullShare} Z) = BZ (F := F) d L z := by rfl)
    (hZ : ∀ y, bb.view.read (Elt F) Z y = z := by intro y; rfl) :
    St (F := F) d L q A z X O W (pos (rows L ln) jj)
      ⊢ wp frame (wpE (defs₀ (F := F)) 𝒱₀ (thr d L) none) Set.univ (dite (cB = 1#1)
          (fun h => .op (.enqueueDma bb (.here (oS (hD h))) (.dma s1) (w1 h) (w2 h) (w3 h)) fun _ => .op (.waitDma2 s1 bb (oS (hD h)) (w4 h) (w5 h)) fun _ => kk)
          fun _ => kk) Q := by
  have hf := ok.fits
  refine guarded (jj := jj) (by omega) hc (fun h ha hk' => ?_) hk
  subst hn
  have hs : 0 < sz jj := (show ∀ j : Fin 30, 0 < sz j by decide) jj
  have hle := all_le L jj ha
  refine (splitZ _).trans ?_
  rw [← eB]
  refine (sep_mono_left (zero_copy d (cT L) (jT L) q A X (base L) O W hs (nd := rows L ln) (k := pos (rows L ln) jj)
    ok.zero (hD := hD h) (eD.trans (dst_eq L (by omega) _ ha (by omega))) (zero_ge L hj) hle
    (bb := bb) Z hZ (s1 := s1) (w1 := w1 h) (w2 := w2 h) (w3 := w3 h) (w4 := w4 h) (w5 := w5 h))).trans ?_
  refine (wp_frame_r frame _ _).trans ?_
  refine BI.Entails.trans (wp_mono frame _ _ (Q' := fun _ => wp frame (wpE (defs₀ (F := F)) 𝒱₀ (thr d L) none) Set.univ kk Q) fun _ => ?_) ?_
  · rw [eB]; exact (joinZ _).trans hk'
  · exact Entails.of_eq (wp_bind frame _ _ _ (fun _ => kk) Q).symm

end Steps

end Cert.Proof.KernIdeal

end

end
-- ==== Proof.IdealLane.lean ====
/-
  The kernel reads its batch's start and length by masking a vector of sixteen words to its lane, summing along it and
  taking the last lane: the word at its lane.
-/
module

public import proofs.«01_k».proof.Proof.IdealSteps
public import proofs.«01_k».proof.Proof.Gen.KernelIdeal.Skeleton

@[expose] public section

set_option maxRecDepth 100000

namespace Cert.Proof.KernIdeal

open Cert.KernelIdeal Cert.KernelIdeal.Gen Idealize.ShloMosaic

/-- Lane `s` of a vector of sixteen. -/
abbrev lane (s : Fin 16) : S16.Idx := Shape.ofLane (d := ![16]) s

/-- A tile's mask is on at the lane of its batch alone. -/
theorem mask_eq : ∀ (i : grid0.Coords) (k : Fin 16), k0_pay1 i (lane k) = if k.val = (i 1).val then 1#1 else 0#1 := by
  decide +kernel

/-- The running sum's last lane, of a vector that is zero but at one lane, is that lane. -/
theorem scan_pick (x : IVec S16 32) (s : Fin 16) (h : ∀ k : Fin 16, k ≠ s → x (lane k) = 0#32) :
    extractAt ![15] (scan .sum x) inpos_S16_p15 = x (lane s) := by
  have hl : ((List.finRange 16).filter fun k : Fin 16 => decide (0 < k.val ∧ k.val ≤ (15 : Fin 16).val)) = (List.finRange 16).tail := by decide
  show ((List.finRange 16).filter fun k : Fin 16 => decide (0 < k.val ∧ k.val ≤ (15 : Fin 16).val)).foldl
      (fun r k => r + x (lane k)) (x (lane 0)) = x (lane s)
  rw [hl]
  have hs (k : Fin 16) : x (lane k) = if k = s then x (lane s) else 0#32 := by
    split_ifs with e
    · rw [e]
    · exact h k e
  have hx : (fun (r : BitVec 32) (k : Fin 16) => r + x (lane k)) = fun r k => r + if k = s then x (lane s) else 0#32 := by
    funext r k; rw [hs k]
  rw [hx, hs 0]
  generalize x (lane s) = y
  revert y; revert s
  intro s _ _ _
  fin_cases s <;> intro y <;> simp [List.finRange, List.ofFn, Fin.foldr, Fin.foldr.loop]

/-- The word the kernel picks out of a vector is the one at its batch's lane. -/
theorem lane_pick (i : grid0.Coords) (s : Fin 16) (hs : s.val = (i 1).val) (v : IVec S16 32) :
    extractAt ![15] (scan .sum (select (k0_pay1 i) v (broadcast S16 0#32))) inpos_S16_p15 = v (lane s) := by
  rw [scan_pick _ s]
  · show (if k0_pay1 i (lane s) = 1#1 then v (lane s) else 0#32) = _
    rw [mask_eq, if_pos hs, if_pos rfl]
  · intro k hk
    show (if k0_pay1 i (lane k) = 1#1 then v (lane k) else 0#32) = _
    have hk' : ¬ k.val = (i 1).val := fun e => hk (Fin.ext (e.trans hs.symm))
    rw [mask_eq, if_neg hk']; rfl

end Cert.Proof.KernIdeal

end
-- ==== Proof.IdealTile.lean ====
/-
  The body of the kernel on one tile: the starts, the lengths and the zeros are fetched, the tile's batch's words are read,
  and the thirty guarded copies fill the tile's block of the padded array.
-/
module

public import proofs.«01_k».proof.Proof.IdealSteps
public import proofs.«01_k».proof.Proof.IdealLane

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Words

variable [FloatOps F]

/-! ## Sequencing -/

section Seq
variable {thr : Thread nD τ} {α β : Type}

/-- A program run up to a state from which the rest runs is run. -/
theorem seq {A B : sProp 𝕄} {p : Prog (TpuEff nD τ sig (Elt F) Λ₀ thr.2) α} {k : α → Prog (TpuEff nD τ sig (Elt F) Λ₀ thr.2) β} {Q : β → sProp 𝕄}
    (h1 : A ⊢ wp frame (wpE (defs₀ (F := F)) 𝒱₀ thr none) Set.univ p fun _ => B) (h2 : ∀ a, B ⊢ wp frame (wpE (defs₀ (F := F)) 𝒱₀ thr none) Set.univ (k a) Q) :
    A ⊢ wp frame (wpE (defs₀ (F := F)) 𝒱₀ thr none) Set.univ (p >>= k) Q := by
  rw [wp_bind]; exact h1.trans (wp_mono frame _ _ h2)

/-- The first program's result, known to be as `φ` says, goes on to the second. -/
theorem seqP {A B : sProp 𝕄} {φ : α → Prop} {p : Prog (TpuEff nD τ sig (Elt F) Λ₀ thr.2) α} {k : α → Prog (TpuEff nD τ sig (Elt F) Λ₀ thr.2) β} {Q : β → sProp 𝕄}
    (h1 : A ⊢ wp frame (wpE (defs₀ (F := F)) 𝒱₀ thr none) Set.univ p fun a => iprop(⌜φ a⌝ ∗ B))
    (h2 : ∀ a, φ a → (B ⊢ wp frame (wpE (defs₀ (F := F)) 𝒱₀ thr none) Set.univ (k a) Q)) :
    A ⊢ wp frame (wpE (defs₀ (F := F)) 𝒱₀ thr none) Set.univ (p >>= k) Q := by
  rw [wp_bind]; refine h1.trans (wp_mono frame _ _ fun a => ?_)
  iintro ⟨%h, HB⟩; iapply (h2 a h); iexact HB

/-- What a program does not touch stays beside. -/
theorem beside {A R : sProp 𝕄} {p : Prog (TpuEff nD τ sig (Elt F) Λ₀ thr.2) α} {Q : α → sProp 𝕄} (h1 : A ⊢ wp frame (wpE (defs₀ (F := F)) 𝒱₀ thr none) Set.univ p Q) :
    iprop(A ∗ R) ⊢ wp frame (wpE (defs₀ (F := F)) 𝒱₀ thr none) Set.univ p (fun a => iprop(Q a ∗ R)) := by
  exact BI.Entails.trans (sep_mono_left h1) (wp_frame_r frame _ _)

/-- As `beside`, the result's fact kept in front. -/
theorem besideP {A B R : sProp 𝕄} {φ : α → Prop} {p : Prog (TpuEff nD τ sig (Elt F) Λ₀ thr.2) α} (h1 : A ⊢ wp frame (wpE (defs₀ (F := F)) 𝒱₀ thr none) Set.univ p fun a => iprop(⌜φ a⌝ ∗ B)) :
    iprop(A ∗ R) ⊢ wp frame (wpE (defs₀ (F := F)) 𝒱₀ thr none) Set.univ p fun a => iprop(⌜φ a⌝ ∗ (B ∗ R)) := by
  refine (beside h1).trans (wp_mono frame _ _ fun a => ?_)
  iintro ⟨⟨%h, HB⟩, HR⟩; isplitr; · (ipureintro; exact h)
  isplitl [HB] <;> iassumption

end Seq

/-! ## The fetches and the words -/

/-- A fetch of all of a buffer: its wait leaves the destination holding what the source holds. -/
theorem fetch (d : Dev nD) (c : Fin τ.nSC) (j : Fin τ.nSub) (O : CellTallies nD τ sig (HIx 1)) (W : Waits sig (HIx 1))
    {sp sp' : Space} {s : Shape} {e : EltTy} {src : Memref sig .scVector sp s e} {dst : Memref sig .scVector sp' s e}
    {sem : DmaSem sig} {w1 w2 w3 w4 w5} {q' : PosShare TreeShare} {fs : Buf (Elt F) (src.view.loc (V d c j))} {g : Buf (Elt F) (dst.view.loc (V d c j))}
    {α : Type} {k : PUnit → Prog (TpuEff nD τ sig (Elt F) Λ₀ (.scVector c j)) α} {Q : α → sProp 𝕄}
    (hs : 0 < s.numel) (hsrc : src.view.set = Finset.univ) (hw : dst.view.dmaCredit = dst.view.dmaCredit)
    (hr : ∀ fd : Buf (Elt F) (dst.view.loc (V d c j)), dst.view.write (Elt F) fd (src.view.read (Elt F) fs) Finset.univ = g) :
    iprop(Transfers.MayWaits (V d c j) (default : HIx 1) O ∗ (src.view.loc (V d c j) ↦{q'} fs) ∗ (∃ fd, dst.view.loc (V d c j) ↦{fullShare} fd)
        ∗ ownSems0 (V d c j) ∗ Owe (F := F) d c j O W)
      ⊢ iprop((iprop((dst.view.loc (V d c j) ↦{fullShare} g) ∗ (src.view.loc (V d c j) ↦{q'} fs) ∗ ownSems0 (V d c j) ∗ Owe (F := F) d c j O W)
            -∗ wp frame (wpE (defs₀ (F := F)) 𝒱₀ (V d c j) none) Set.univ (k ⟨⟩) Q)
          -∗ wp frame (wpE (defs₀ (F := F)) 𝒱₀ (V d c j) none) Set.univ
              (.op (.enqueueDma src (.here dst) (.dma sem) w1 w2 w3) fun _ => .op (.waitDma2 sem src dst w4 w5) k) Q) := by
  iintro ⟨Hmw, Hs, ⟨%fd, Hd⟩, Hsems, HO⟩ Hk
  have e : (src.view.loc (V d c j) ↦[src.view.set]{q'} fs : sProp 𝕄) = (src.view.loc (V d c j) ↦{q'} fs) := by rw [hsrc]
  iapply (hop (F := F) d c j O W (src := src) (dst := dst) (sem := sem) (Sd := Finset.univ) (fs := fs) (fd := fd) (q' := q') hs (Finset.subset_univ _) hw) $$ [Hmw Hs Hd Hsems HO]
  · rw [e]
    isplitl [Hmw]; · iexact Hmw
    isplitl [Hs]; · iexact Hs
    isplitl [Hd]; · iexact Hd
    isplitl [Hsems]; · iexact Hsems
    iexact HO
  rw [e, hr]
  iexact Hk

section Tile
variable (d : Dev nD) (L : grid0.Coords)
variable (q qc ql qz : PosShare TreeShare) (A : Buf (Elt F) (aLoc d)) (C : Buf (Elt F) (cLoc d)) (Ln : Buf (Elt F) (lLoc d)) (z : Elt F .f32)
variable (X : S32768x256.Idx → Elt F .f32)
variable (O : CellTallies nD τ sig (HIx 1)) (W : Waits sig (HIx 1))

/-- The tile's shares of the starts, the lengths and the zeros. -/
def Side : sProp 𝕄 := iprop((cLoc d ↦{qc} C) ∗ (lLoc d ↦{ql} Ln) ∗ (zLoc d ↦{qz} fun _ => z))
/-- The tile's vector of lengths. -/
def BL (f : S16.Idx → BitVec 32) : sProp 𝕄 := iprop((thr d L).loc cc0_scratch4 ↦{fullShare} (f : Buf (Elt F) ((thr d L).loc cc0_scratch4)))
/-- The tile's vector of starts, at some contents. -/
def BC : sProp 𝕄 := iprop(∃ f, (thr d L).loc cc0_scratch3 ↦{fullShare} (f : Buf (Elt F) ((thr d L).loc cc0_scratch3)))

/-- What the tile starts from. -/
def Init : sProp 𝕄 :=
  iprop(B0 (F := F) d L ∗ B1 (F := F) d L ∗ (∃ f, (thr d L).loc cc0_scratch2 ↦{fullShare} (f : Buf (Elt F) ((thr d L).loc cc0_scratch2)))
    ∗ BC (F := F) d L ∗ (∃ f, BL (F := F) d L f) ∗ Side (F := F) d qc ql qz C Ln z ∗ Core (F := F) d (cT L) (jT L) q A X (base L) O W 0)

/-- The three fetches, and the load of the starts. -/
theorem part1_run :
    Init (F := F) d L q qc ql qz A C Ln z X O W
      ⊢ wp frame (wpE (defs₀ (F := F)) 𝒱₀ (thr d L) none) Set.univ (k0_part1 (F := F) L aV (Memref.isWhole_whole _) cV (Memref.isWhole_whole _) lV (Memref.isWhole_whole _) zV (Memref.isWhole_whole _) oV (Memref.isWhole_whole _) b0V (Memref.isWhole_whole _) b1V (Memref.isWhole_whole _) bzV (Memref.isWhole_whole _) bcV (Memref.isWhole_whole _) blV (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47)
          fun r => iprop(⌜r.2.2.1 = k0_pay1 L ∧ r.2.2.2.1 = C ∧ r.2.2.2.2 = broadcast S16 0#32⌝
            ∗ (St (F := F) d L q A z X O W 0 ∗ BL (F := F) d L Ln ∗ BC (F := F) d L ∗ Side (F := F) d qc ql qz C Ln z)) := by
  rw [k0_part1_eq_skeleton]; unfold k0_part1_skel Init Core BC BL Side
  iintro ⟨H0, H1, Hz, Hc, ⟨%fl, Hl⟩, ⟨HC, HL, HZ⟩, #Hmw, HA, HOut, Hsems, HO⟩
  iapply (fetch (F := F) d (cT L) (jT L) O W (src := cV) (dst := bcV) (sem := cc0_scoped0.sem) (fs := C) (g := C) (q' := qc) (by decide) (View.set_whole _) rfl fun _ => View.write_whole_univ _ _ _) $$ [HC Hc Hsems HO]
  · isplitr; · iexact Hmw
    isplitl [HC]; · iexact HC
    isplitl [Hc]; · iexact Hc
    isplitl [Hsems]; · iexact Hsems
    iexact HO
  iintro ⟨Hc, HC, Hsems, HO⟩
  iapply (fetch (F := F) d (cT L) (jT L) O W (src := lV) (dst := blV) (sem := cc0_scoped1.sem) (fs := Ln) (g := Ln) (q' := ql) (by decide) (View.set_whole _) rfl fun _ => View.write_whole_univ _ _ _) $$ [HL Hl Hsems HO]
  · isplitr; · iexact Hmw
    isplitl [HL]; · iexact HL
    isplitl [Hl]; · (iexists _; iexact Hl)
    isplitl [Hsems]; · iexact Hsems
    iexact HO
  iintro ⟨Hl, HL, Hsems, HO⟩
  iapply (fetch (F := F) d (cT L) (jT L) O W (src := zV) (dst := bzV) (sem := cc0_scoped2.sem) (fs := fun _ => z) (g := fun _ => z) (q' := qz) (by decide) (View.set_whole _) rfl fun _ => View.write_whole_univ _ _ _) $$ [HZ Hz Hsems HO]
  · isplitr; · iexact Hmw
    isplitl [HZ]; · iexact HZ
    isplitl [Hz]; · iexact Hz
    isplitl [Hsems]; · iexact Hsems
    iexact HO
  iintro ⟨Hz, HZ, Hsems, HO⟩
  iapply (wp_load 𝒱₀ (thr d L) none Set.univ (m := bcV) (S := Finset.univ) (Finset.subset_univ _)) $$ [Hc]; · iexact Hc
  iintro Hc
  simp only [Prog.bind]
  sl_step
  isplitr
  · ipureintro
    exact ⟨rfl, Memref.readAt_unit_zero (Elt F) cc0_scratch3 (off := ![0]) (by decide) _ _, rfl⟩
  isplitl [H0 H1 Hz HA HOut Hsems HO]
  · unfold St Core BZ
    isplitl [H0]; · iexact H0
    isplitl [H1]; · iexact H1
    isplitl [Hz]; · iexact Hz
    isplitr; · iexact Hmw
    isplitl [HA]; · iexact HA
    isplitl [HOut]; · iexact HOut
    isplitl [Hsems]; · iexact Hsems
    iexact HO
  isplitl [Hl]; · iexact Hl
  isplitl [Hc]; · (iexists _; iexact Hc)
  isplitl [HC]; · iexact HC
  isplitl [HL]; · iexact HL
  iexact HZ

variable {q A z X O W}
variable {cu ln : ℕ}

/-- A program that ends returns what it returns. -/
theorem doneP {α : Type} {φ : α → Prop} {a : α} (h : φ a) {k : ℕ} : St (F := F) d L q A z X O W k
    ⊢ wp frame (wpE (defs₀ (F := F)) 𝒱₀ (thr d L) none) Set.univ (pure a : Prog (TpuEff nD τ sig (Elt F) Λ₀ (.scVector (cT L) (jT L))) α)
        fun r => iprop(⌜φ r⌝ ∗ St (F := F) d L q A z X O W k) := by
  rw [wp_pure]; iintro H; imodintro; isplitr; · (ipureintro; exact h)
  iexact H

/-- The batch's start and length are picked out of the two vectors, the bounds check passes, and the first copy runs. -/
theorem part2_run (s : Fin 16) (hs : s.val = (L 1).val) (ok : Should (F := F) L cu ln A z X)
    (hcu : C (lane s) = BitVec.ofNat 32 cu) (hln : Ln (lane s) = BitVec.ofNat 32 ln) (v1 v29 : BitVec 32) :
    iprop(St (F := F) d L q A z X O W 0 ∗ BL (F := F) d L Ln)
      ⊢ wp frame (wpE (defs₀ (F := F)) 𝒱₀ (thr d L) none) Set.univ (k0_part2 (F := F) L aV (Memref.isWhole_whole _) cV (Memref.isWhole_whole _) lV (Memref.isWhole_whole _) zV (Memref.isWhole_whole _) oV (Memref.isWhole_whole _) b0V (Memref.isWhole_whole _) b1V (Memref.isWhole_whole _) bzV (Memref.isWhole_whole _) bcV (Memref.isWhole_whole _) blV (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 v1 v29 (k0_pay1 L) C (broadcast S16 0#32))
          fun r => iprop(⌜r.1 = BitVec.ofNat 32 cu ∧ r.2.1 = BitVec.ofNat 32 ln⌝ ∗ (St (F := F) d L q A z X O W (pos (rows L ln) 1) ∗ BL (F := F) d L Ln)) := by
  have e1 : extractAt ![15] (k0_pay3 (F := F) (k0_pay1 L) C (broadcast S16 0#32)) inpos_S16_p15 = BitVec.ofNat 32 cu := (lane_pick L s hs C).trans hcu
  have e2 : extractAt ![15] (k0_pay4 (F := F) (k0_pay1 L) ((blV).view.readAt (Elt F) (Rect.unit (s := S16) ![0] S16.size inb_S16_S16_0).toLoadRect Ln)) inpos_S16_p15
      = BitVec.ofNat 32 ln := by
    rw [show (blV).view.readAt (Elt F) (Rect.unit (s := S16) ![0] S16.size inb_S16_S16_0).toLoadRect Ln = Ln from Memref.readAt_unit_zero _ _ (by decide) _ _]
    exact (lane_pick L s hs Ln).trans hln
  rw [k0_part2_eq_skeleton]; unfold k0_part2_skel
  iintro ⟨HS, HB⟩
  unfold BL
  iapply (wp_load 𝒱₀ (thr d L) none Set.univ (m := blV) (S := Finset.univ) (Finset.subset_univ _)) $$ [HB]; · iexact HB
  iintro HB
  iapply (wp_assume 𝒱₀ (thr d L) none Set.univ (by rw [e1, e2]; exact chk_of L ok.fits))
  iapply (besideP (F := F) (thr := thr d L) (A := St (F := F) d L q A z X O W 0) (data_step (cu := cu) (ln := ln) split0 join0 ok 0 (doneP (F := F) d L ⟨e1, e2⟩)
    rfl (congrArg (fun w => k0_cond1 L w) e2) (congrArg (fun w => k0_off1 L w) e1)))
  isplitl [HS] <;> iassumption

/-- Four parts bracketed in pairs. -/
theorem side_assoc {P Q R S : sProp 𝕄} : iprop(P ∗ Q ∗ R ∗ S) ⊢ iprop((P ∗ Q) ∗ (R ∗ S)) := by
  iintro ⟨HP, HQ, HR, HS⟩
  isplitl [HP HQ]; · isplitl [HP] <;> iassumption
  isplitl [HR] <;> iassumption
/-- And back. -/
theorem side_assoc' {P Q R S : sProp 𝕄} : iprop((P ∗ Q) ∗ (R ∗ S)) ⊢ iprop(P ∗ Q ∗ R ∗ S) := by
  iintro ⟨⟨HP, HQ⟩, HR, HS⟩
  isplitl [HP]; · iexact HP
  isplitl [HQ]; · iexact HQ
  isplitl [HR] <;> iassumption

set_option maxHeartbeats 4000000 in
/-- The parts before the last copy, in turn. -/
theorem part16_run (s : Fin 16) (hs : s.val = (L 1).val) (ok : Should (F := F) L cu ln A z X)
    (hcu : C (lane s) = BitVec.ofNat 32 cu) (hln : Ln (lane s) = BitVec.ofNat 32 ln) :
    Init (F := F) d L q qc ql qz A C Ln z X O W
      ⊢ wp frame (wpE (defs₀ (F := F)) 𝒱₀ (thr d L) none) Set.univ (k0_part16 (F := F) L aV (Memref.isWhole_whole _) cV (Memref.isWhole_whole _) lV (Memref.isWhole_whole _) zV (Memref.isWhole_whole _) oV (Memref.isWhole_whole _) b0V (Memref.isWhole_whole _) b1V (Memref.isWhole_whole _) bzV (Memref.isWhole_whole _) bcV (Memref.isWhole_whole _) blV (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47)
          fun r => iprop(⌜r.1 = BitVec.ofNat 32 cu ∧ r.2.1 = BitVec.ofNat 32 ln⌝
            ∗ (St (F := F) d L q A z X O W (pos (rows L ln) 29) ∗ (BL (F := F) d L Ln ∗ (BC (F := F) d L ∗ Side (F := F) d qc ql qz C Ln z)))) := by
  rw [k0_part16_eq_skeleton]; unfold k0_part16_skel
  refine seqP (F := F) (thr := thr d L) (part1_run (F := F) d L q qc ql qz A C Ln z X O W) fun ⟨v1, v29, v32, v33, v34⟩ h => ?_
  obtain ⟨h1, h2, h3⟩ := h
  dsimp only at h1 h2 h3
  subst h1 h2 h3
  refine seqP (F := F) (thr := thr d L) (B := iprop(St (F := F) d L q A z X O W (pos (rows L ln) 1) ∗ (BL (F := F) d L Ln ∗ (BC (F := F) d L ∗ Side (F := F) d qc ql qz v33 Ln z))))
    (side_assoc.trans ((besideP (F := F) (thr := thr d L) (part2_run d L v33 Ln s hs ok hcu hln v1 v29)).trans (wp_mono frame _ _ fun _ => sep_mono_right side_assoc'))) fun ⟨v38, v44, hw, v47, v48, v49, v50, v67⟩ h => ?_
  obtain ⟨h1, h2⟩ := h
  dsimp only at h1 h2
  subst h1 h2
  refine besideP (F := F) (thr := thr d L) (A := St (F := F) d L q A z X O W (pos (rows L ln) 1)) ?_
  refine seq (F := F) (thr := thr d L) (B := St (F := F) d L q A z X O W (pos (rows L ln) 8))
    (by rw [k0_part3_eq_skeleton]; unfold k0_part3_skel; exact data_step split1 join1 ok 1 <| data_step split0 join0 ok 2 <| data_step split1 join1 ok 3 <| data_step split0 join0 ok 4 <| data_step split1 join1 ok 5 <| data_step split0 join0 ok 6 <| data_step split1 join1 ok 7 <| done) fun ⟨_, _, _, _, _⟩ => ?_
  refine seq (F := F) (thr := thr d L) (B := St (F := F) d L q A z X O W (pos (rows L ln) 9))
    (by rw [k0_part4_eq_skeleton]; unfold k0_part4_skel; exact data_step split0 join0 ok 8 <| done) fun ⟨_, _, _, _, _⟩ => ?_
  refine seq (F := F) (thr := thr d L) (B := St (F := F) d L q A z X O W (pos (rows L ln) 10))
    (by rw [k0_part5_eq_skeleton]; unfold k0_part5_skel; exact data_step split0 join0 ok 9 <| done) fun ⟨_, _, _, _⟩ => ?_
  refine seq (F := F) (thr := thr d L) (B := St (F := F) d L q A z X O W (pos (rows L ln) 11))
    (by rw [k0_part6_eq_skeleton]; unfold k0_part6_skel; exact data_step split0 join0 ok 10 <| done) fun ⟨_, _, _, _⟩ => ?_
  refine seq (F := F) (thr := thr d L) (B := St (F := F) d L q A z X O W (pos (rows L ln) 13))
    (by rw [k0_part7_eq_skeleton]; unfold k0_part7_skel; exact data_step split0 join0 ok 11 <| data_step split0 join0 ok 12 <| done) fun _ => ?_
  refine seq (F := F) (thr := thr d L) (B := St (F := F) d L q A z X O W (pos (rows L ln) 14))
    (by rw [k0_part8_eq_skeleton]; unfold k0_part8_skel; exact data_step split0 join0 ok 13 <| done) fun ⟨_, _, _, _, _⟩ => ?_
  refine seq (F := F) (thr := thr d L) (B := St (F := F) d L q A z X O W (pos (rows L ln) 15))
    (by rw [k0_part9_eq_skeleton]; unfold k0_part9_skel; exact data_step split0 join0 ok 14 <| done) fun ⟨_, _, _⟩ => ?_
  refine seq (F := F) (thr := thr d L) (B := St (F := F) d L q A z X O W (pos (rows L ln) 23))
    (by rw [k0_part10_eq_skeleton]; unfold k0_part10_skel; exact zero_step ok 15 <| zero_step ok 16 <| zero_step ok 17 <| zero_step ok 18 <| zero_step ok 19 <| zero_step ok 20 <| zero_step ok 21 <| zero_step ok 22 <| done) fun ⟨_, _, _, _, _, _⟩ => ?_
  refine seq (F := F) (thr := thr d L) (B := St (F := F) d L q A z X O W (pos (rows L ln) 24))
    (by rw [k0_part11_eq_skeleton]; unfold k0_part11_skel; exact zero_step ok 23 <| done) fun ⟨_, _, _⟩ => ?_
  refine seq (F := F) (thr := thr d L) (B := St (F := F) d L q A z X O W (pos (rows L ln) 25))
    (by rw [k0_part12_eq_skeleton]; unfold k0_part12_skel; exact zero_step ok 24 <| done) fun ⟨_, _, _, _, _⟩ => ?_
  refine seq (F := F) (thr := thr d L) (B := St (F := F) d L q A z X O W (pos (rows L ln) 26))
    (by rw [k0_part13_eq_skeleton]; unfold k0_part13_skel; exact zero_step ok 25 <| done) fun ⟨_, _, _, _⟩ => ?_
  refine seq (F := F) (thr := thr d L) (B := St (F := F) d L q A z X O W (pos (rows L ln) 27))
    (by rw [k0_part14_eq_skeleton]; unfold k0_part14_skel; exact zero_step ok 26 <| done) fun ⟨_, _, _, _, _⟩ => ?_
  refine seq (F := F) (thr := thr d L) (B := St (F := F) d L q A z X O W (pos (rows L ln) 28))
    (by rw [k0_part15_eq_skeleton]; unfold k0_part15_skel; exact zero_step ok 27 <| done) fun ⟨_, _⟩ => ?_
  exact zero_step ok 28 (doneP (F := F) d L ⟨rfl, rfl⟩)

/-- The body on one tile: from what the tile starts from, its whole block holds what it should. -/
theorem tile_run (s : Fin 16) (hs : s.val = (L 1).val) (ok : Should (F := F) L cu ln A z X)
    (hcu : C (lane s) = BitVec.ofNat 32 cu) (hln : Ln (lane s) = BitVec.ofNat 32 ln) :
    Init (F := F) d L q qc ql qz A C Ln z X O W
      ⊢ wp frame (wpE (defs₀ (F := F)) 𝒱₀ (thr d L) none) Set.univ (cc0__pad_kernel (F := F) L aV (Memref.isWhole_whole _) cV (Memref.isWhole_whole _) lV (Memref.isWhole_whole _) zV (Memref.isWhole_whole _) oV (Memref.isWhole_whole _) b0V (Memref.isWhole_whole _) b1V (Memref.isWhole_whole _) bzV (Memref.isWhole_whole _) bcV (Memref.isWhole_whole _) blV (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47)
          fun _ => iprop(St (F := F) d L q A z X O W 1024 ∗ (BL (F := F) d L Ln ∗ (BC (F := F) d L ∗ Side (F := F) d qc ql qz C Ln z))) := by
  rw [cc0__pad_kernel_eq_skeleton]; unfold cc0__pad_kernel_skel
  refine seqP (F := F) (thr := thr d L) (part16_run (F := F) d L qc ql qz C Ln s hs ok hcu hln) fun ⟨v38, v44, hw, _, _, _⟩ h => ?_
  obtain ⟨h1, h2⟩ := h
  dsimp only at h1 h2
  subst h1 h2
  have e : pos (rows L ln) 30 = 1024 := (pos_ends _ (by have := rows_lt L ln; omega)).2
  refine beside (F := F) (thr := thr d L) (A := St (F := F) d L q A z X O W (pos (rows L ln) 29)) ?_
  rw [← e]
  exact zero_step ok 29 done

end Tile

end Cert.Proof.KernIdeal

end

end
-- ==== Proof.IdealLaunch.lean ====
/-
  The launch: the arrays dealt to the thirty-two tiles and gathered again, the tiles' obligations, the program on the
  TensorCore around the call, and the run of the whole program.
-/
module

public import proofs.«01_k».proof.Proof.IdealTile
public import Idealize.ShloMosaic.Lib.ShareLeaves

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.ShareLeaves (leaf pointsTo_leaves)

variable {F : FTy → Type}

local notation "𝕄" => MT nD τ sig (HIx 1) (Elt F) ℕ UU ℕ

open Cert.Proof.Words

variable (m : (ℓ : Loc nD τ sig) → Buf (Elt F) ℓ) (ρ : Dev nD → PrngReg)

/-! ## What the arrays hold -/

/-- The offsets, and the batches' starts and lengths they give. -/
abbrev csLoc (d : Dev nD) : Loc nD τ sig := (SparseCore.T d).loc main_arg1
/-- The first result. -/
abbrev rLoc (d : Dev nD) : Loc nD τ sig := (SparseCore.T d).loc main_v6
/-- The starts of the sixteen batches. -/
def starts (d : Dev nD) : S16.Idx → BitVec 32 := extractStridedSlice S16 ![0] (m (csLoc d) : S17.Idx → BitVec 32) slices_S17_S16_0
/-- The lengths of the sixteen batches. -/
def lens (d : Dev nD) : S16.Idx → BitVec 32 :=
  subi (extractStridedSlice S16 ![1] (m (csLoc d) : S17.Idx → BitVec 32) slices_S17_S16_1) (extractStridedSlice S16 ![0] (m (csLoc d) : S17.Idx → BitVec 32) slices_S17_S16_0)

/-- An index of the ragged array. -/
def rowAt (r : ℕ) (h : r < 16384) (k : Fin 256) : S16384x256.Idx := Fin.cons (⟨r, h⟩ : Fin 16384) (Fin.cons k finZeroElim)

/-- Row `p` of batch `s`, padded: the batch's row if it has one, else `z`. -/
def padRow (cs ls : S16.Idx → BitVec 32) (A : S16384x256.Idx → Elt F .f32) (z : Elt F .f32) (s : Fin 16) (p : ℕ) (k : Fin 256) : Elt F .f32 :=
  if h : p < (ls (lane s)).toNat ∧ (cs (lane s)).toNat + p < 16384 then A (rowAt ((cs (lane s)).toNat + p) h.2 k) else z

/-- The padded array as the tiles write it: the batches' blocks of 2048 rows, one after another. -/
def padded (cs ls : S16.Idx → BitVec 32) (A : S16384x256.Idx → Elt F .f32) (z : Elt F .f32) : S32768x256.Idx → Elt F .f32 := fun i =>
  padRow cs ls A z ⟨(i 0).val / 2048, Nat.div_lt_of_lt_mul (show (i 0).val < 2048 * 16 from (i 0).isLt)⟩ ((i 0).val % 2048) (i 1)

/-- What the proof asks of the launch memory: every batch lies within the ragged array. -/
def PreOK : Prop := ∀ (d : Dev nD) (s : Fin 16), (starts m d (lane s)).toNat + (lens m d (lane s)).toNat ≤ 16384

/-- The tile of coordinates `L` should find and leave its block so. -/
theorem should_of_pre (cs ls : S16.Idx → BitVec 32) (A : S16384x256.Idx → Elt F .f32) (z : Elt F .f32) (L : grid0.Coords) (s : Fin 16) (hs : s.val = (L 1).val)
    (h : (cs (lane s)).toNat + (ls (lane s)).toNat ≤ 16384) :
    Should (F := F) L (cs (lane s)).toNat (ls (lane s)).toNat A z (padded cs ls A z) := by
  have hc : (L 0).val < 2 := (L 0).isLt
  have hb : base L = 2048 * s.val + p0 L := by unfold base p0; omega
  have hp : p0 L = 1024 * (L 0).val := rfl
  have hr : rows L (ls (lane s)).toNat = min 1024 ((ls (lane s)).toNat - p0 L) := rfl
  have hblk (i : S32768x256.Idx) (p : ℕ) (hi : (i 0).val = 2048 * s.val + p) (hp : p < 2048) :
      padded cs ls A z i = padRow cs ls A z s p (i 1) := by
    unfold padded
    have e1 : (⟨(i 0).val / 2048, Nat.div_lt_of_lt_mul (show (i 0).val < 2048 * 16 from (i 0).isLt)⟩ : Fin 16) = s := Fin.ext (by show (i 0).val / 2048 = _; omega)
    have e2 : (i 0).val % 2048 = p := by omega
    rw [e1, e2]
  refine ⟨h, fun i y h0 h1 hy0 hy1 => ?_, fun i h0 h1 => ?_⟩
  · rw [hblk i ((i 0).val - 2048 * s.val) (by omega) (by omega)]
    unfold padRow
    rw [dif_pos ⟨by omega, by omega⟩]
    congr 1
    funext a
    match a with
    | 0 => exact Fin.ext (show (y 0).val = (cs (lane s)).toNat + ((i 0).val - 2048 * s.val) by omega)
    | 1 => exact Fin.ext hy1
  · rw [hblk i ((i 0).val - 2048 * s.val) (by omega) (by omega)]
    unfold padRow
    rw [dif_neg (fun h => by have := h.1; omega)]

/-! ## What the handshakes carry -/

section Pay
variable [FloatOps F]

/-- The zero word's float. -/
abbrev zf : Elt F .f32 := (constant S_ .f32 0x00000000#32 : Vec F S_ .f32) (fun a => a.elim0)
/-- The padded array of the launch memory's batches. -/
def X (d : Dev nD) : S32768x256.Idx → Elt F .f32 := padded (starts m d) (lens m d) (m (aLoc d)) zf

/-- Tile `w`'s share of a read array. -/
abbrev wq (w : Fin 32) : PosShare TreeShare := leaf 5 fullShare w
/-- Tile `w`'s shares of what it reads, and its block of the padded array at `f`. -/
def tilePts (d : Dev nD) (w : Fin 32) (f : Buf (Elt F) (oLoc d)) : sProp 𝕄 :=
  iprop((aLoc d ↦{wq w} m (aLoc d)) ∗ (cLoc d ↦{wq w} (starts m d : Buf (Elt F) (cLoc d))) ∗ (lLoc d ↦{wq w} (lens m d : Buf (Elt F) (lLoc d)))
    ∗ (zLoc d ↦{wq w} (fun _ => zf : Buf (Elt F) (zLoc d))) ∗ oLoc d ↦[blk (1024 * w.val)]{fullShare} f)
/-- All tiles' at once. -/
def allPts (d : Dev nD) (f : Buf (Elt F) (oLoc d)) : sProp 𝕄 :=
  iprop((aLoc d ↦{fullShare} m (aLoc d)) ∗ (cLoc d ↦{fullShare} (starts m d : Buf (Elt F) (cLoc d))) ∗ (lLoc d ↦{fullShare} (lens m d : Buf (Elt F) (lLoc d)))
    ∗ (zLoc d ↦{fullShare} (fun _ => zf : Buf (Elt F) (zLoc d))) ∗ oLoc d ↦{fullShare} f)

/-- A tile's shares can be stored in a handshake. -/
instance tilePts_storable (d : Dev nD) (w : Fin 32) (f : Buf (Elt F) (oLoc d)) : BI.Storable (upEmb : UEmb _ 𝕄) (tilePts m d w f) := by
  unfold tilePts; infer_instance

/-- The number of subcore `i` of core `c`: its block's. -/
def wid (c : Fin 2) (i : Fin 16) : Fin 32 := ⟨2 * i.val + c.val, by omega⟩

/-- The blocks are apart and cover the padded array. -/
theorem blk_disjoint : ∀ i ∈ (Finset.univ : Finset (Fin 32)), ∀ j ∈ (Finset.univ : Finset (Fin 32)), i ≠ j → Disjoint (blk (1024 * i.val)) (blk (1024 * j.val)) := by
  intro i _ j _ h
  rw [Finset.disjoint_left]; intro x hi hj
  rw [mem_blk] at hi hj
  exact h (Fin.ext (by omega))
/-- The thirty-two blocks cover the padded array. -/
theorem blk_cover : (Finset.univ : Finset (Fin 32)).biUnion (fun i => blk (1024 * i.val)) = Finset.univ := by
  ext x
  have hx : (x 0).val < 32768 := (x 0).isLt
  simp only [Finset.mem_biUnion, Finset.mem_univ, true_and, iff_true, mem_blk]
  exact ⟨⟨(x 0).val / 1024, by omega⟩, by show 1024 * ((x 0).val / 1024) ≤ _; omega, by show _ < 1024 * ((x 0).val / 1024) + 1024; omega⟩

/-- The padded array held whole is its thirty-two blocks held one by one. -/
theorem out_rows (d : Dev nD) (f : Buf (Elt F) (oLoc d)) :
    (oLoc d ↦{fullShare} f : sProp 𝕄) = bigSep Finset.univ fun w : Fin 32 => oLoc d ↦[blk (1024 * w.val)]{fullShare} f := by
  rw [← pointsTo_biUnion Finset.univ (ℓ := oLoc d) (fun w : Fin 32 => blk (1024 * w.val)) blk_disjoint, blk_cover]

/-- A read array is its thirty-two shares at once. -/
theorem shares (ℓ : Loc nD τ sig) (f : Buf (Elt F) ℓ) : (ℓ ↦{fullShare} f : sProp 𝕄) = bigSep Finset.univ fun w : Fin 32 => ℓ ↦{wq w} f :=
  pointsTo_leaves Finset.univ f 5 fullShare

/-- The arrays dealt to the tiles, and gathered. -/
theorem allPts_tiles (d : Dev nD) (f : Buf (Elt F) (oLoc d)) : allPts m d f = bigSep Finset.univ fun w : Fin 32 => tilePts m d w f := by
  unfold allPts tilePts
  rw [shares (F := F) (aLoc d), shares (F := F) (cLoc d), shares (F := F) (lLoc d), shares (F := F) (zLoc d), out_rows,
    bigSep_sep', bigSep_sep', bigSep_sep', bigSep_sep']

/-- The tiles, core by core. -/
def widEquiv : Fin 16 ⊕ Fin 16 ≃ Fin 32 where
  toFun x := match x with | .inl i => wid 0 i | .inr i => wid 1 i
  invFun w := if w.val % 2 = 0 then .inl ⟨w.val / 2, by omega⟩ else .inr ⟨w.val / 2, by omega⟩
  left_inv x := by revert x; decide
  right_inv w := by revert w; decide

/-- A product over the tiles' numbers is one over SparseCores and tiles. -/
theorem bigSep_wid (Φ : Fin 32 → sProp 𝕄) :
    bigSep Finset.univ Φ = bigSep Finset.univ fun c : Fin 2 => bigSep Finset.univ fun i : Fin 16 => Φ (wid c i) := by
  rw [bigSep_univ_equiv widEquiv, bigSep_univ_sum, bigSep_fin_two]
  rfl

/-- The one call deals every tile its shares and its block, and gathers them with the block filled. -/
def P : (K (F := F)).Pay (nD := nD) (Val := Elt F) (Name := ℕ) (U := UU) where
  st := fun q d c => match q with | 0 => bigSep Finset.univ fun i : Fin 16 => tilePts m d (wid (Fin.cast nCore_zero c) i) (m (oLoc d))
  dn := fun q d c => match q with | 0 => bigSep Finset.univ fun i : Fin 16 => tilePts m d (wid (Fin.cast nCore_zero c) i) (X m d)
  go := fun q d c i => match q with | 0 => tilePts m d (wid (Fin.cast nCore_zero c) (Fin.cast nSub_zero i)) (m (oLoc d))
  td := fun q d c i => match q with | 0 => tilePts m d (wid (Fin.cast nCore_zero c) (Fin.cast nSub_zero i)) (X m d)
  x := fun _ _ => iprop(emp)

/-- What the handshakes carry can be stored. -/
instance P_storable : (P (F := F) m).IsStorable where
  st q d c := match q with
    | 0 => (inferInstance : BI.Storable (upEmb : UEmb _ 𝕄) (bigSep Finset.univ fun i : Fin 16 => tilePts m d (wid (Fin.cast nCore_zero c) i) (m (oLoc d))))
  dn q d c := match q with
    | 0 => (inferInstance : BI.Storable (upEmb : UEmb _ 𝕄) (bigSep Finset.univ fun i : Fin 16 => tilePts m d (wid (Fin.cast nCore_zero c) i) (X m d)))
  go q d c i := match q with | 0 => tilePts_storable m d _ _
  td q d c i := match q with | 0 => tilePts_storable m d _ _

/-- A SparseCore's share of the arrays is its tiles' shares, before and after. -/
theorem vecSplit : (K (F := F)).VecSplit' (P m) 0 := by
  intro d c
  show (bigSep Finset.univ fun i : Fin 16 => tilePts m d (wid (Fin.cast nCore_zero c) i) (m (oLoc d))) ⊢ |={Set.univ}=> iprop(
      (bigSep Finset.univ fun i : Fin ((K (F := F)).nSub 0) => tilePts m d (wid (Fin.cast nCore_zero c) (Fin.cast nSub_zero i)) (m (oLoc d)))
      ∗ ((bigSep Finset.univ fun i : Fin ((K (F := F)).nSub 0) => tilePts m d (wid (Fin.cast nCore_zero c) (Fin.cast nSub_zero i)) (X m d))
          -∗ bigSep Finset.univ fun i : Fin 16 => tilePts m d (wid (Fin.cast nCore_zero c) i) (X m d)))
  iintro H; imodintro
  isplitl [H]; · iexact H
  iintro H; iexact H

/-! ## The task -/

section Tile
variable (d : Dev nD) (L : grid0.Coords)

/-- The subcore's own buffers other than the five scratch buffers. -/
def restBufs : sProp 𝕄 :=
  bigSep ((((((ownRefs (τ := τ) (.scVector (cT L) (jT L))).erase ((Proc.scVector (cT L) (jT L)).devRef cc0_scratch0)).erase ((Proc.scVector (cT L) (jT L)).devRef cc0_scratch1)).erase ((Proc.scVector (cT L) (jT L)).devRef cc0_scratch2)).erase ((Proc.scVector (cT L) (jT L)).devRef cc0_scratch3)).erase ((Proc.scVector (cT L) (jT L)).devRef cc0_scratch4))
    fun b => iprop(∃ f, ((d, b) : Loc nD τ sig) ↦{fullShare} f)

/-- The five scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f) ∗ restBufs (F := F) d L) := by
  unfold restBufs
  have ne {a b : Ref sig .scVector} (h : a ≠ b) : (Proc.scVector (cT L) (jT L)).devRef a ≠ (Proc.scVector (cT L) (jT L)).devRef b :=
    fun e => absurd (Proc.devRef_injective _ e) h
  unfold SparseCore.Cfg.ownBufs
  refine (SparseCore.bigSep_erase' (SparseCore.Cfg.mem_ownRefs_of_owner (p := Proc.scVector (cT L) (jT L)) (b := (Proc.scVector (cT L) (jT L)).devRef cc0_scratch0) rfl)).trans ?_
  have m1 := Finset.mem_erase.mpr ⟨ne (show (cc0_scratch1 : Ref sig .scVector) ≠ cc0_scratch0 by decide),
    SparseCore.Cfg.mem_ownRefs_of_owner (p := Proc.scVector (cT L) (jT L)) (b := (Proc.scVector (cT L) (jT L)).devRef cc0_scratch1) rfl⟩
  have m2 := Finset.mem_erase.mpr ⟨ne (show (cc0_scratch2 : Ref sig .scVector) ≠ cc0_scratch1 by decide), Finset.mem_erase.mpr ⟨ne (show (cc0_scratch2 : Ref sig .scVector) ≠ cc0_scratch0 by decide),
    SparseCore.Cfg.mem_ownRefs_of_owner (p := Proc.scVector (cT L) (jT L)) (b := (Proc.scVector (cT L) (jT L)).devRef cc0_scratch2) rfl⟩⟩
  have m3 := Finset.mem_erase.mpr ⟨ne (show (cc0_scratch3 : Ref sig .scVector) ≠ cc0_scratch2 by decide), Finset.mem_erase.mpr ⟨ne (show (cc0_scratch3 : Ref sig .scVector) ≠ cc0_scratch1 by decide),
    Finset.mem_erase.mpr ⟨ne (show (cc0_scratch3 : Ref sig .scVector) ≠ cc0_scratch0 by decide),
    SparseCore.Cfg.mem_ownRefs_of_owner (p := Proc.scVector (cT L) (jT L)) (b := (Proc.scVector (cT L) (jT L)).devRef cc0_scratch3) rfl⟩⟩⟩
  have m4 := Finset.mem_erase.mpr ⟨ne (show (cc0_scratch4 : Ref sig .scVector) ≠ cc0_scratch3 by decide), Finset.mem_erase.mpr ⟨ne (show (cc0_scratch4 : Ref sig .scVector) ≠ cc0_scratch2 by decide),
    Finset.mem_erase.mpr ⟨ne (show (cc0_scratch4 : Ref sig .scVector) ≠ cc0_scratch1 by decide), Finset.mem_erase.mpr ⟨ne (show (cc0_scratch4 : Ref sig .scVector) ≠ cc0_scratch0 by decide),
    SparseCore.Cfg.mem_ownRefs_of_owner (p := Proc.scVector (cT L) (jT L)) (b := (Proc.scVector (cT L) (jT L)).devRef cc0_scratch4) rfl⟩⟩⟩⟩
  rw [SparseCore.bigSep_erase' m1, SparseCore.bigSep_erase' m2, SparseCore.bigSep_erase' m3, SparseCore.bigSep_erase' m4]

/-- What the task starts from, as its handshake hands it over. -/
theorem tile_pre (hF : (K (F := F)).Facts) (c : Fin 2) (s : Fin 16) (hb : base L = 1024 * (wid c s).val)
    (O : CellTallies nD τ sig (HIx 1)) (W : Waits sig (HIx 1)) (hO : ∀ g, O g none = 0) :
    iprop(levAts (K (F := F)).L (K (F := F)).lev ∗ emp ∗ tilePts m d (wid c s) (m (oLoc d))
        ∗ scopedBufs (thr d L) ∗ scopedSems0 (thr d L) ∗ owes (thr d L) O W)
      ⊢ iprop(Init d L (wq (wid c s)) (wq (wid c s)) (wq (wid c s)) (wq (wid c s)) (m (aLoc d)) (starts m d) (lens m d) zf (X m d) O W ∗ restBufs (F := F) d L) := by
  rw [(K (F := F)).scopedBufs_V hF d (cT L) (jT L), SparseCore.Cfg.scopedSems0_V (Val := Elt F) d (cT L) (jT L), ownBufs_V (F := F) d L]
  unfold Init Core Out Owe Side BC BL B0 B1 tilePts
  rw [← hb]
  iintro ⟨#Hlv, -, ⟨HA, HC, HL, HZ, HOut⟩, ⟨H0, H1, H2, H3, ⟨%f4, H4⟩, HR⟩, Hsems, HO⟩
  ihave Hmw := (show levAts (K (F := F)).L (K (F := F)).lev ⊢ Transfers.MayWaits (V d (cT L) (jT L)) (default : HIx 1) O from
    (K (F := F)).mayWaits_none (thr := V d (cT L) (jT L)) hO) $$ Hlv
  isplitr [HR]
  swap; · iexact HR
  isplitl [H0]; · iexact H0
  isplitl [H1]; · iexact H1
  isplitl [H2]; · iexact H2
  isplitl [H3]; · iexact H3
  isplitl [H4]; · (iexists f4; iexact H4)
  isplitl [HC HL HZ]
  · isplitl [HC]; · iexact HC
    isplitl [HL]; · iexact HL
    iexact HZ
  isplitl [Hmw]; · iexact Hmw
  isplitl [HA]; · iexact HA
  isplitl [HOut]
  · iexists (m (oLoc d)); isplitr
    · ipureintro; intro i h0 h1; omega
    iexact HOut
  isplitl [Hsems]; · iexact Hsems
  iexists W; isplitr
  · ipureintro; exact fun p hp => .inl hp
  iexact HO

/-- What the task ends with, as its handshake hands it back. -/
theorem tile_post (hF : (K (F := F)).Facts) (c : Fin 2) (s : Fin 16) (hb : base L = 1024 * (wid c s).val)
    (O : CellTallies nD τ sig (HIx 1)) (W : Waits sig (HIx 1)) :
    iprop((St d L (wq (wid c s)) (m (aLoc d)) zf (X m d) O W 1024 ∗ (BL d L (lens m d) ∗ (BC d L ∗ Side d (wq (wid c s)) (wq (wid c s)) (wq (wid c s)) (starts m d) (lens m d) zf)))
        ∗ restBufs (F := F) d L)
      ⊢ iprop(tilePts m d (wid c s) (X m d) ∗ scopedBufs (thr d L) ∗ scopedSems0 (thr d L)
            ∗ ∃ W', ⌜∀ p ∈ W', p ∈ W ∨ p.2 = none⌝ ∗ owes (thr d L) O W') := by
  rw [(K (F := F)).scopedBufs_V hF d (cT L) (jT L), SparseCore.Cfg.scopedSems0_V (Val := Elt F) d (cT L) (jT L), ownBufs_V (F := F) d L]
  unfold St Core Out Owe Side BC BL B0 B1 BZ tilePts
  rw [← hb]
  iintro ⟨⟨⟨H0, H1, H2, -, HA, ⟨%f, %hf, HOut⟩, Hsems, HO⟩, H4, H3, HC, HL, HZ⟩, HR⟩
  ihave HOut' := (Entails.of_eq (pointsTo_congr (ℓ := oLoc d) (I := blk (base L)) (q := fullShare) (f := f) (g := X m d) fun i hi => hf i (mem_blk.mp hi).1 (mem_blk.mp hi).2)) $$ HOut
  isplitl [HA HC HL HZ HOut']
  · isplitl [HA]; · iexact HA
    isplitl [HC]; · iexact HC
    isplitl [HL]; · iexact HL
    isplitl [HZ]; · iexact HZ
    iexact HOut'
  isplitl [H0 H1 H2 H3 H4 HR]
  · isplitl [H0]; · iexact H0
    isplitl [H1]; · iexact H1
    isplitl [H2]; · (iexists _; iexact H2)
    isplitl [H3]; · iexact H3
    isplitl [H4]; · (iexists _; iexact H4)
    iexact HR
  isplitl [Hsems]; · iexact Hsems
  iexact HO

/-- The task on vector subcore `(L 0, L 1)` of device `d`: from its shares and its block, the block filled. -/
theorem tile_body (hF : (K (F := F)).Facts) (hpre : PreOK m) (c : Fin 2) (s : Fin 16) (hc : c.val = (L 0).val) (hs : s.val = (L 1).val)
    (O : CellTallies nD τ sig (HIx 1)) (W : Waits sig (HIx 1)) (hO : ∀ g, O g none = 0) :
    iprop(levAts (K (F := F)).L (K (F := F)).lev ∗ emp ∗ tilePts m d (wid c s) (m (oLoc d))
        ∗ scopedBufs (thr d L) ∗ scopedSems0 (thr d L) ∗ owes (thr d L) O W)
      ⊢ wp frame (wpE (defs₀ (F := F)) 𝒱₀ (thr d L) none) Set.univ (cc0__pad_kernel (F := F) L aV (Memref.isWhole_whole _) cV (Memref.isWhole_whole _) lV (Memref.isWhole_whole _) zV (Memref.isWhole_whole _) oV (Memref.isWhole_whole _) b0V (Memref.isWhole_whole _) b1V (Memref.isWhole_whole _) bzV (Memref.isWhole_whole _) bcV (Memref.isWhole_whole _) blV (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47)
          fun _ => iprop(tilePts m d (wid c s) (X m d) ∗ scopedBufs (thr d L) ∗ scopedSems0 (thr d L)
            ∗ ∃ W', ⌜∀ p ∈ W', p ∈ W ∨ p.2 = none⌝ ∗ owes (thr d L) O W') := by
  have hb : base L = 1024 * (wid c s).val := by show 1024 * (2 * (L 1).val + (L 0).val) = 1024 * (2 * s.val + c.val); omega
  have ok := should_of_pre (F := F) (starts m d) (lens m d) (m (aLoc d)) zf L s hs (hpre d s)
  have w (v : BitVec 32) : v = BitVec.ofNat 32 v.toNat := by rw [BitVec.ofNat_toNat, BitVec.setWidth_eq]
  exact (tile_pre m d L hF c s hb O W hO).trans ((beside (F := F) (thr := thr d L) (tile_run (F := F) d L (wq (wid c s)) (wq (wid c s)) (wq (wid c s)) (starts m d) (lens m d)
    s hs ok (w _) (w _))).trans (wp_mono frame _ _ fun _ => tile_post m d L hF c s hb O W))

end Tile

end Pay

end Cert.Proof.KernIdeal

end

end
-- ==== Proof.IdealMain.lean ====
/-
  The program around the call: the tiles' obligations, the operations on the TensorCore before and after the call, and
  the run of the whole program.
-/
module

public import proofs.«01_k».proof.Proof.IdealLaunch

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.ShareLeaves (leaf pointsTo_leaves)

variable {F : FTy → Type}

local notation "𝕄" => MT nD τ sig (HIx 1) (Elt F) ℕ UU ℕ

open Cert.Proof.Words

variable (m : (ℓ : Loc nD τ sig) → Buf (Elt F) ℓ) (ρ : Dev nD → PrngReg)

section Pay
variable [FloatOps F]

/-! ## The obligation -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs. -/
theorem defs₀_vector (c : Fin τ.nSC) (s : Fin τ.nSub) :
    defs₀ (F := F) (.scVector c s) 0 ()
      = SparseCore.onTile hcore0 hsub0 (fun c s => cc0__pad_kernel (coordsV c s) aV (Memref.isWhole_whole _) cV (Memref.isWhole_whole _) lV (Memref.isWhole_whole _) zV (Memref.isWhole_whole _) oV (Memref.isWhole_whole _) b0V (Memref.isWhole_whole _) b1V (Memref.isWhole_whole _) bzV (Memref.isWhole_whole _) bcV (Memref.isWhole_whole _) blV (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47) ⟨⟩ c s := rfl

/-- A task's waits, as the launch asks for them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task from what its handshake hands it, and hands back its block filled. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre (Fin.cast nCore_zero c) (Fin.cast nSub_zero i) rfl rfl O W hO).trans (wp_mono frame _ _ fun _ => obl_post)

/-! ## The launch's ghost state -/

/-- The ghost state at launch. -/
def u₀ : UU := (initOf (K (F := F)).hsCells (K (F := F)).hsToks, 1)

/-- A product of nothing is nothing. -/
theorem bigSep_nothing {I : Type} (s : Finset I) : (bigSep s fun _ => iprop(emp)) = (iprop(emp) : sProp 𝕄) := bigSep_emp_const s

/-- The ghost state at launch gives each handshake its cells. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The operations on the TensorCore -/

abbrev rA : DevRef τ sig := Proc.devRef .tc (main_arg0 : Ref sig .tc)
abbrev rC : DevRef τ sig := Proc.devRef .tc (main_arg1 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev rZ : DevRef τ sig := Proc.devRef .tc (main_cst : Ref sig .tc)
abbrev r4 : DevRef τ sig := Proc.devRef .tc (main_v4 : Ref sig .tc)
abbrev r5 : DevRef τ sig := Proc.devRef .tc (main_v5 : Ref sig .tc)
abbrev r6 : DevRef τ sig := Proc.devRef .tc (main_v6 : Ref sig .tc)

/-- The TensorCore's arrays. -/
abbrev S10 : Finset (DevRef τ sig) := {rA, rC, r0, r1, r2, r3, rZ, r4, r5, r6}

abbrev op0 : HloOp τ sig (Elt F) := StableHlo.unary main_arg1 main_v0 ((extractStridedSlice S16 ![0] · slices_S17_S16_0) : (⟨S17, .i32⟩ : BufTy).Contents (Elt F) → (⟨S16, .i32⟩ : BufTy).Contents (Elt F))
abbrev op1 : HloOp τ sig (Elt F) := StableHlo.unary main_arg1 main_v1 ((extractStridedSlice S16 ![1] · slices_S17_S16_1) : (⟨S17, .i32⟩ : BufTy).Contents (Elt F) → (⟨S16, .i32⟩ : BufTy).Contents (Elt F))
abbrev op2 : HloOp τ sig (Elt F) := StableHlo.unary main_arg1 main_v2 ((extractStridedSlice S16 ![0] · slices_S17_S16_0) : (⟨S17, .i32⟩ : BufTy).Contents (Elt F) → (⟨S16, .i32⟩ : BufTy).Contents (Elt F))
abbrev op3 : HloOp τ sig (Elt F) := StableHlo.binary main_v1 main_v2 main_v3 (subi : (⟨S16, .i32⟩ : BufTy).Contents (Elt F) → (⟨S16, .i32⟩ : BufTy).Contents (Elt F) → (⟨S16, .i32⟩ : BufTy).Contents (Elt F))
abbrev opZ : HloOp τ sig (Elt F) := StableHlo.nullary main_cst (constant S_ .f32 0x00000000#32)
abbrev op4 : HloOp τ sig (Elt F) := StableHlo.unary main_cst main_v4 (broadcastInDim S128x256 ![] bcast_S_S128x256 : (⟨S_, .f32⟩ : BufTy).Contents (Elt F) → (⟨S128x256, .f32⟩ : BufTy).Contents (Elt F))
abbrev op6 : HloOp τ sig (Elt F) := StableHlo.reshape main_v5 main_v6 (rfl : (.f32 : EltTy) = .f32) shapeCasts_S32768x256_S16x2048x256

/-- Each host operation touches the ten buffers only: the first slice. -/
theorem h0 : (op0 (F := F)).bufs ⊆ S10 := show ({rC, r0} : Finset (DevRef τ sig)) ⊆ S10 by decide
/-- The second slice. -/
theorem h1 : (op1 (F := F)).bufs ⊆ S10 := show ({rC, r1} : Finset (DevRef τ sig)) ⊆ S10 by decide
/-- The third slice. -/
theorem h2 : (op2 (F := F)).bufs ⊆ S10 := show ({rC, r2} : Finset (DevRef τ sig)) ⊆ S10 by decide
/-- The difference. -/
theorem h3 : (op3 (F := F)).bufs ⊆ S10 := show ({r1, r2, r3} : Finset (DevRef τ sig)) ⊆ S10 by decide
/-- The constant. -/
theorem hZ : (opZ (F := F)).bufs ⊆ S10 := show ({rZ} : Finset (DevRef τ sig)) ⊆ S10 by decide
/-- The zeros. -/
theorem h4 : (op4 (F := F)).bufs ⊆ S10 := show ({rZ, r4} : Finset (DevRef τ sig)) ⊆ S10 by decide
/-- The reshape. -/
theorem h6 : (op6 (F := F)).bufs ⊆ S10 := show ({r5, r6} : Finset (DevRef τ sig)) ⊆ S10 by decide

/-- The arrays not named elsewhere, at some contents a valuation gives them. -/
def others (d : Dev nD) (W : Valuation τ sig (Elt F)) : sProp 𝕄 :=
  iprop(((SparseCore.T d).loc main_v1 ↦{fullShare} W r1) ∗ ((SparseCore.T d).loc main_v2 ↦{fullShare} W r2) ∗ ((SparseCore.T d).loc main_cst ↦{fullShare} W rZ))

/-- The ten buffers held together are the ten held one by one. -/
theorem held_S10 (d : Dev nD) (W : Valuation τ sig (Elt F)) :
    (held (T d) S10 W : sProp 𝕄)
      = iprop((aLoc d ↦{fullShare} W rA) ∗ (csLoc d ↦{fullShare} W rC) ∗ (cLoc d ↦{fullShare} W r0) ∗ ((SparseCore.T d).loc main_v1 ↦{fullShare} W r1)
          ∗ ((SparseCore.T d).loc main_v2 ↦{fullShare} W r2) ∗ (lLoc d ↦{fullShare} W r3) ∗ ((SparseCore.T d).loc main_cst ↦{fullShare} W rZ)
          ∗ (zLoc d ↦{fullShare} W r4) ∗ (oLoc d ↦{fullShare} W r5) ∗ rLoc d ↦{fullShare} W r6) := by
  unfold held S10
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The TensorCore's buffers at launch are those ten, one by one. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (csLoc d ↦{fullShare} W main_arg1) ∗ (cLoc d ↦{fullShare} W main_v0) ∗ ((SparseCore.T d).loc main_v1 ↦{fullShare} W main_v1)
          ∗ ((SparseCore.T d).loc main_v2 ↦{fullShare} W main_v2) ∗ (lLoc d ↦{fullShare} W main_v3) ∗ ((SparseCore.T d).loc main_cst ↦{fullShare} W main_cst)
          ∗ (zLoc d ↦{fullShare} W main_v4) ∗ (oLoc d ↦{fullShare} W main_v5) ∗ rLoc d ↦{fullShare} W main_v6) := by
  unfold unscopedBufs
  rw [show (Finset.univ.filter fun b : Ref sig .tc => ¬ b.isScoped) = {main_arg0, main_arg1, main_v0, main_v1, main_v2, main_v3, main_cst, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The launch valuation, and after each operation before the call. -/
def V0 (d : Dev nD) : Valuation τ sig (Elt F) := fun b => m (d, b)
/-- The buffers after the first slice. -/
def V1 (d : Dev nD) : Valuation τ sig (Elt F) := (op0 (F := F)).result (V0 m d)
/-- After the second slice. -/
def V2 (d : Dev nD) : Valuation τ sig (Elt F) := (op1 (F := F)).result (V1 m d)
/-- After the third slice. -/
def V3 (d : Dev nD) : Valuation τ sig (Elt F) := (op2 (F := F)).result (V2 m d)
/-- After the difference. -/
def V4 (d : Dev nD) : Valuation τ sig (Elt F) := (op3 (F := F)).result (V3 m d)
/-- After the constant. -/
def V5 (d : Dev nD) : Valuation τ sig (Elt F) := (opZ (F := F)).result (V4 m d)
/-- After the zeros: as the call finds them. -/
def V6 (d : Dev nD) : Valuation τ sig (Elt F) := (op4 (F := F)).result (V5 m d)
/-- After the call: the padded array filled. -/
def V7 (d : Dev nD) : Valuation τ sig (Elt F) := Function.update (V6 m d) r5 (X m d)
/-- After the reshape. -/
def V8 (d : Dev nD) : Valuation τ sig (Elt F) := (op6 (F := F)).result (V7 m d)

/-- The TensorCore's buffers at launch are held at the launch memory. -/
theorem unscoped_held (d : Dev nD) : (unscopedBufs d (fun b => m ((SparseCore.T d).loc b)) : sProp 𝕄) = held (T d) S10 (V0 m d) := by
  rw [unscopedBufs_eq, held_S10]; rfl

/-- What no operation before the call writes is as launched. -/
theorem V6_of (d : Dev nD) {b : DevRef τ sig} (e0 : b ∉ ({r0} : Finset (DevRef τ sig))) (e1 : b ∉ ({r1} : Finset (DevRef τ sig))) (e2 : b ∉ ({r2} : Finset (DevRef τ sig)))
    (e3 : b ∉ ({r3} : Finset (DevRef τ sig))) (eZ : b ∉ ({rZ} : Finset (DevRef τ sig))) (e4 : b ∉ ({r4} : Finset (DevRef τ sig))) : V6 m d b = m (d, b) :=
  ((op4 (F := F)).result_of_not_mem _ e4).trans <| ((opZ (F := F)).result_of_not_mem _ eZ).trans <| ((op3 (F := F)).result_of_not_mem _ e3).trans <|
    ((op2 (F := F)).result_of_not_mem _ e2).trans <| ((op1 (F := F)).result_of_not_mem _ e1).trans <| (op0 (F := F)).result_of_not_mem _ e0
/-- At the call the ragged array is as it was. -/
theorem V6_A (d : Dev nD) : V6 m d rA = m (aLoc d) := V6_of m d (by decide) (by decide) (by decide) (by decide) (by decide) (by decide)
/-- At the call the offsets are as they were. -/
theorem V6_C (d : Dev nD) : V6 m d rC = m (csLoc d) := V6_of m d (by decide) (by decide) (by decide) (by decide) (by decide) (by decide)
/-- At the call the padded array is as it was. -/
theorem V6_5 (d : Dev nD) : V6 m d r5 = m (oLoc d) := V6_of m d (by decide) (by decide) (by decide) (by decide) (by decide) (by decide)
/-- The starts, the lengths and the zeros the call reads. -/
theorem V6_0 (d : Dev nD) : V6 m d r0 = starts m d :=
  ((op4 (F := F)).result_of_not_mem _ (show r0 ∉ ({r4} : Finset (DevRef τ sig)) by decide)).trans <| ((opZ (F := F)).result_of_not_mem _ (show r0 ∉ ({rZ} : Finset (DevRef τ sig)) by decide)).trans <|
    ((op3 (F := F)).result_of_not_mem _ (show r0 ∉ ({r3} : Finset (DevRef τ sig)) by decide)).trans <| ((op2 (F := F)).result_of_not_mem _ (show r0 ∉ ({r2} : Finset (DevRef τ sig)) by decide)).trans <|
    ((op1 (F := F)).result_of_not_mem _ (show r0 ∉ ({r1} : Finset (DevRef τ sig)) by decide)).trans (StableHlo.unary_result _ _ _ _ _ _)
/-- The first slice leaves the offsets. -/
theorem V1_C (d : Dev nD) : V1 m d rC = m (csLoc d) := (op0 (F := F)).result_of_not_mem _ (show rC ∉ ({r0} : Finset (DevRef τ sig)) by decide)
/-- So does the second. -/
theorem V2_C (d : Dev nD) : V2 m d rC = m (csLoc d) := ((op1 (F := F)).result_of_not_mem _ (show rC ∉ ({r1} : Finset (DevRef τ sig)) by decide)).trans (V1_C m d)
/-- At the call the lengths are the differences of the offsets. -/
theorem V6_3 (d : Dev nD) : V6 m d r3 = lens m d :=
  ((op4 (F := F)).result_of_not_mem _ (show r3 ∉ ({r4} : Finset (DevRef τ sig)) by decide)).trans <| ((opZ (F := F)).result_of_not_mem _ (show r3 ∉ ({rZ} : Finset (DevRef τ sig)) by decide)).trans <|
    (StableHlo.binary_result _ _ _ _ _ _ _ _).trans (congrArg₂ (subi : (⟨S16, .i32⟩ : BufTy).Contents (Elt F) → (⟨S16, .i32⟩ : BufTy).Contents (Elt F) → (⟨S16, .i32⟩ : BufTy).Contents (Elt F))
      (((op2 (F := F)).result_of_not_mem _ (show r1 ∉ ({r2} : Finset (DevRef τ sig)) by decide)).trans ((StableHlo.unary_result _ _ _ _ _ _).trans
        (congrArg (fun v : S17.Idx → BitVec 32 => extractStridedSlice S16 ![1] v slices_S17_S16_1) (V1_C m d))))
      ((StableHlo.unary_result _ _ _ _ _ _).trans (congrArg (fun v : S17.Idx → BitVec 32 => extractStridedSlice S16 ![0] v slices_S17_S16_0) (V2_C m d))))
/-- At the call the zeros are zeros. -/
theorem V6_4 (d : Dev nD) : V6 m d r4 = (fun _ => zf : Buf (Elt F) (zLoc d)) :=
  (StableHlo.unary_result _ _ _ _ _ _).trans ((congrArg (broadcastInDim S128x256 ![] bcast_S_S128x256 : (⟨S_, .f32⟩ : BufTy).Contents (Elt F) → (⟨S128x256, .f32⟩ : BufTy).Contents (Elt F))
    (StableHlo.nullary_result _ _ _ _)).trans rfl)

/-- The call changes the padded array only. -/
theorem V7_of (d : Dev nD) {b : DevRef τ sig} (e : b ≠ r5) : V7 m d b = V6 m d b := Function.update_of_ne e _ _
/-- The call leaves the padded array padded. -/
theorem V7_5 (d : Dev nD) : V7 m d r5 = X m d := Function.update_self _ _ _
/-- The reshape changes its result only. -/
theorem V8_of (d : Dev nD) {b : DevRef τ sig} (e : b ≠ r5) (e6 : b ∉ ({r6} : Finset (DevRef τ sig))) : V8 m d b = V6 m d b :=
  ((op6 (F := F)).result_of_not_mem _ e6).trans (V7_of m d e)

/-- The first result: the padded array, batch by batch. -/
def Rv (d : Dev nD) : S16x2048x256.Idx → Elt F .f32 := shapeCast S16x2048x256 (X m d) shapeCasts_S32768x256_S16x2048x256
/-- The reshape leaves the first result. -/
theorem V8_6 (d : Dev nD) : V8 m d r6 = Rv m d :=
  (StableHlo.reshape_result _ _ _ _ _ _ _).trans (by rw [V7_5]; rfl)

/-- The ten buffers at the call, one by one. -/
theorem held_V6 (d : Dev nD) :
    (held (T d) S10 (V6 m d) : sProp 𝕄)
      = iprop((aLoc d ↦{fullShare} m (aLoc d)) ∗ (csLoc d ↦{fullShare} m (csLoc d)) ∗ (cLoc d ↦{fullShare} (starts m d : Buf (Elt F) (cLoc d))) ∗ ((SparseCore.T d).loc main_v1 ↦{fullShare} V6 m d r1)
          ∗ ((SparseCore.T d).loc main_v2 ↦{fullShare} V6 m d r2) ∗ (lLoc d ↦{fullShare} (lens m d : Buf (Elt F) (lLoc d))) ∗ ((SparseCore.T d).loc main_cst ↦{fullShare} V6 m d rZ)
          ∗ (zLoc d ↦{fullShare} (fun _ => zf : Buf (Elt F) (zLoc d))) ∗ (oLoc d ↦{fullShare} m (oLoc d)) ∗ rLoc d ↦{fullShare} V6 m d r6) := by
  rw [held_S10, V6_A, V6_C, V6_0, V6_3, V6_4, V6_5]
/-- The ten buffers after the call, one by one. -/
theorem held_V7 (d : Dev nD) :
    (held (T d) S10 (V7 m d) : sProp 𝕄)
      = iprop((aLoc d ↦{fullShare} m (aLoc d)) ∗ (csLoc d ↦{fullShare} m (csLoc d)) ∗ (cLoc d ↦{fullShare} (starts m d : Buf (Elt F) (cLoc d))) ∗ ((SparseCore.T d).loc main_v1 ↦{fullShare} V6 m d r1)
          ∗ ((SparseCore.T d).loc main_v2 ↦{fullShare} V6 m d r2) ∗ (lLoc d ↦{fullShare} (lens m d : Buf (Elt F) (lLoc d))) ∗ ((SparseCore.T d).loc main_cst ↦{fullShare} V6 m d rZ)
          ∗ (zLoc d ↦{fullShare} (fun _ => zf : Buf (Elt F) (zLoc d))) ∗ (oLoc d ↦{fullShare} (X m d : Buf (Elt F) (oLoc d))) ∗ rLoc d ↦{fullShare} V6 m d r6) := by
  rw [held_S10, V7_5, V7_of m d (b := rA) (by decide), V7_of m d (b := rC) (by decide), V7_of m d (b := r0) (by decide), V7_of m d (b := r1) (by decide), V7_of m d (b := r2) (by decide),
    V7_of m d (b := r3) (by decide), V7_of m d (b := rZ) (by decide), V7_of m d (b := r4) (by decide), V7_of m d (b := r6) (by decide), V6_A, V6_C, V6_0, V6_3, V6_4]
/-- The ten buffers at the end, one by one. -/
theorem held_V8 (d : Dev nD) :
    (held (T d) S10 (V8 m d) : sProp 𝕄)
      = iprop((aLoc d ↦{fullShare} m (aLoc d)) ∗ (csLoc d ↦{fullShare} m (csLoc d)) ∗ (cLoc d ↦{fullShare} V8 m d r0) ∗ ((SparseCore.T d).loc main_v1 ↦{fullShare} V8 m d r1)
          ∗ ((SparseCore.T d).loc main_v2 ↦{fullShare} V8 m d r2) ∗ (lLoc d ↦{fullShare} (lens m d : Buf (Elt F) (lLoc d))) ∗ ((SparseCore.T d).loc main_cst ↦{fullShare} V8 m d rZ)
          ∗ (zLoc d ↦{fullShare} V8 m d r4) ∗ (oLoc d ↦{fullShare} V8 m d r5) ∗ rLoc d ↦{fullShare} (Rv m d : Buf (Elt F) (rLoc d))) := by
  rw [held_S10, V8_6, V8_of m d (b := rA) (by decide) (by decide), V8_of m d (b := rC) (by decide) (by decide), V8_of m d (b := r3) (by decide) (by decide), V6_A, V6_C, V6_3]

/-- What the call hands the SparseCores is every tile its shares. -/
theorem st0_eq (d : Dev nD) : (bigSep Finset.univ fun c : Fin ((K (F := F)).nCore 0) => (P m).st 0 d c) = allPts m d (m (oLoc d)) := by
  rw [allPts_tiles, bigSep_wid]; rfl
/-- What they hand back is the same with the blocks padded. -/
theorem dn0_eq (d : Dev nD) : (bigSep Finset.univ fun c : Fin ((K (F := F)).nCore 0) => (P m).dn 0 d c) = allPts m d (X m d) := by
  rw [allPts_tiles, bigSep_wid]; rfl

/-- What the program leaves the claims: its arguments at their launch contents, its two results. -/
abbrev FIN (d : Dev nD) : sProp 𝕄 :=
  iprop((aLoc d ↦{fullShare} m (aLoc d)) ∗ (csLoc d ↦{fullShare} m (csLoc d)) ∗ (rLoc d ↦{fullShare} (Rv m d : Buf (Elt F) (rLoc d))) ∗ (lLoc d ↦{fullShare} (lens m d : Buf (Elt F) (lLoc d))))

/-- The program on device `d`'s TensorCore: the operations before the call, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S10) h0 (V := V0 m d)) $$ [Hb Hheld]
  · (isplitl [Hb]; · iexact Hb); iexact Hheld
  iintro ⟨Hb, Hheld⟩
  rw [wp_ret]; imodintro
  iapply (wp_hlo_within 𝒱 (SparseCore.T d) none Set.univ (op := op1) (S := S10) h1 (V := V1 m d)) $$ [Hb Hheld]
  · (isplitl [Hb]; · iexact Hb); iexact Hheld
  iintro ⟨Hb, Hheld⟩
  rw [wp_ret]; imodintro
  iapply (wp_hlo_within 𝒱 (SparseCore.T d) none Set.univ (op := op2) (S := S10) h2 (V := V2 m d)) $$ [Hb Hheld]
  · (isplitl [Hb]; · iexact Hb); iexact Hheld
  iintro ⟨Hb, Hheld⟩
  rw [wp_ret]; imodintro
  iapply (wp_hlo_within 𝒱 (SparseCore.T d) none Set.univ (op := op3) (S := S10) h3 (V := V3 m d)) $$ [Hb Hheld]
  · (isplitl [Hb]; · iexact Hb); iexact Hheld
  iintro ⟨Hb, Hheld⟩
  rw [wp_ret]; imodintro
  iapply (wp_hlo_within 𝒱 (SparseCore.T d) none Set.univ (op := opZ) (S := S10) hZ (V := V4 m d)) $$ [Hb Hheld]
  · (isplitl [Hb]; · iexact Hb); iexact Hheld
  iintro ⟨Hb, Hheld⟩
  rw [wp_ret]; imodintro
  iapply (wp_hlo_within 𝒱 (SparseCore.T d) none Set.univ (op := op4) (S := S10) h4 (V := V5 m d)) $$ [Hb Hheld]
  · (isplitl [Hb]; · iexact Hb); iexact Hheld
  iintro ⟨Hb, Hheld⟩
  rw [wp_ret]; imodintro
  ihave Hh := (Entails.of_eq (show (held (T d) S10 ((op4 (F := F)).result (V5 m d)) : sProp 𝕄) = _ from held_V6 (F := F) m d)) $$ Hheld
  icases Hh with ⟨HA, HC, H0, H1, H2, H3, HZ, H4, H5, H6⟩
  iapply ((K (F := F)).wp_run (D (F := F)) 𝒱 (EH := EH) (P := P m) κ d 0) $$ [Hst HA HC H0 H1 H2 H3 HZ H4 H5 H6 Hb Hts]
  isplitr; · iexact Hctx
  isplitl [Hst]; · iexact Hst
  isplitl [HA H0 H3 H4 H5]
  · rw [st0_eq]; unfold allPts
    isplitl [HA]; · iexact HA
    isplitl [H0]; · iexact H0
    isplitl [H3]; · iexact H3
    isplitl [H4]; · iexact H4
    iexact H5
  iintro ⟨Hst, Hdn⟩
  ihave Hdn' := (Entails.of_eq ((dn0_eq m d).trans (by unfold allPts; rfl))) $$ Hdn
  icases Hdn' with ⟨HA, H0, H3, H4, H5⟩
  iapply (wp_hlo_within 𝒱 (SparseCore.T d) none Set.univ (op := op6) (S := S10) h6 (V := V7 m d)) $$ [Hb HA HC H0 H1 H2 H3 HZ H4 H5 H6]
  · isplitl [Hb]; · iexact Hb
    rw [held_V7]
    isplitl [HA]; · iexact HA
    isplitl [HC]; · iexact HC
    isplitl [H0]; · iexact H0
    isplitl [H1]; · iexact H1
    isplitl [H2]; · iexact H2
    isplitl [H3]; · iexact H3
    isplitl [HZ]; · iexact HZ
    isplitl [H4]; · iexact H4
    isplitl [H5]; · iexact H5
    iexact H6
  iintro ⟨Hb, Hheld⟩
  ihave Hh := (Entails.of_eq (show (held (T d) S10 ((op6 (F := F)).result (V7 m d)) : sProp 𝕄) = _ from held_V8 (F := F) m d)) $$ Hheld
  icases Hh with ⟨HA, HC, -, -, -, H3, -, -, -, H6⟩
  rw [wp_ret]; imodintro; imodintro
  isplitl [Hst]; · iexact Hst
  isplitr [Hb Hts]
  · isplitl [HA]; · iexact HA
    isplitl [HC]; · iexact HC
    isplitl [H6]; · iexact H6
    iexact H3
  isplitl [Hb] <;> iassumption

/-- What the claims read of device `d`'s final state: the two results, and the arguments as launched. -/
def fq (d : Dev nD) (s' : Phys nD τ sig (Elt F)) : Prop :=
  s'.mem.mem (aLoc d) = m (aLoc d) ∧ s'.mem.mem (csLoc d) = m (csLoc d) ∧ s'.mem.mem (rLoc d) = Rv m d ∧ s'.mem.mem (lLoc d) = lens m d

/-- What is held at the end says what memory holds. -/
theorem hfin (d : Dev nD) (s' : Phys nD τ sig (Elt F)) : iprop(FIN m d ∗ SI s') ⊢ (⌜fq m d s'⌝ : sProp 𝕄) := by
  iintro ⟨⟨HA, HC, HR, HL⟩, HSI⟩
  ihave H := (persistent_entails_right (SI_pointsTo_agree (st := s') (ℓ := aLoc d) (I := Finset.univ) (q := fullShare) (f := m (aLoc d)))) $$ [HSI HA]
  · isplitl [HSI] <;> iassumption
  icases H with ⟨%ha, HSI, -⟩
  ihave H := (persistent_entails_right (SI_pointsTo_agree (st := s') (ℓ := csLoc d) (I := Finset.univ) (q := fullShare) (f := m (csLoc d)))) $$ [HSI HC]
  · isplitl [HSI] <;> iassumption
  icases H with ⟨%hc, HSI, -⟩
  ihave H := (persistent_entails_right (SI_pointsTo_agree (st := s') (ℓ := rLoc d) (I := Finset.univ) (q := fullShare) (f := Rv m d))) $$ [HSI HR]
  · isplitl [HSI] <;> iassumption
  icases H with ⟨%hr, HSI, -⟩
  ihave H := (SI_pointsTo_agree (st := s') (ℓ := lLoc d) (I := Finset.univ) (q := fullShare) (f := lens m d)) $$ [HSI HL]
  · isplitl [HSI] <;> iassumption
  icases H with %hl
  ipureintro
  exact ⟨funext fun i => ha i (Finset.mem_univ i), funext fun i => hc i (Finset.mem_univ i), funext fun i => hr i (Finset.mem_univ i), funext fun i => hl i (Finset.mem_univ i)⟩

/-! ## The program's run -/

/-- The end: arguments as they were, the results, and every semaphore at zero. -/
def QC : PUnit × MemSt nD τ sig (Elt F) → Prop := fun r =>
  (∀ c : Dev nD, r.2.mem (aLoc c) = m (aLoc c) ∧ r.2.mem (csLoc c) = m (csLoc c) ∧ r.2.mem (rLoc c) = Rv m c ∧ r.2.mem (lLoc c) = lens m c) ∧ r.2.sem = fun _ => 0

/-- From a launch memory whose batches lie within the ragged array, the program ends with the padded array and the
    lengths in its results, its arguments as they were and no semaphore raised. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Pay

end Cert.Proof.KernIdeal

end

end
-- ==== Proof.Offsets.lean ====
/-
  The offsets of a ragged batch: seventeen words that start at zero, end at 16384 and never decrease. What the claims'
  precondition says of them, and which batch a row of the ragged array belongs to.
-/
module

public import proofs.«01_k».proof.Proof.Gen.Pre_ragged
public import Idealize.ShloMosaic.Lib.ReduceAll
public import Idealize.ShloMosaic.Lib.Routing.OpsSet
public import Idealize.ShloMosaic.Lib.Routing.OpsSearch

@[expose] public section

noncomputable section

namespace Cert.Proof.Offsets

open Idealize.ShloMosaic Idealize.ShloMosaic.ValueIdx Idealize.ShloMosaic.Routing

/-- Offset `n` as a natural number, `n` below 17. -/
def off (cu : (shape1 17).Idx → BitVec 32) (n : ℕ) : ℕ := (cu (ix1 (Fin.ofNat 17 n))).toNat

/-- The offsets start at zero, end at 16384 and never decrease. -/
structure Good (cu : (shape1 17).Idx → BitVec 32) : Prop where
  first : off cu 0 = 0
  last : off cu 16 = 16384
  step : ∀ j, j < 16 → off cu j ≤ off cu (j + 1)

/-- Offset `n` where the place is written as an element of `Fin 17`. -/
theorem off_eq (cu : (shape1 17).Idx → BitVec 32) (n : ℕ) (h : n < 17) : off cu n = (cu (ix1 ⟨n, h⟩)).toNat :=
  congrArg (fun q => (cu (ix1 q)).toNat) (Fin.ext (Nat.mod_eq_of_lt h))

/-- Offsets in order are in order. -/
theorem Good.mono {cu : (shape1 17).Idx → BitVec 32} (g : Good cu) {a b : ℕ} (h : a ≤ b) (hb : b ≤ 16) : off cu a ≤ off cu b := by
  induction b, h using Nat.le_induction with
  | base => exact le_rfl
  | succ n _ ih => exact (ih (by omega)).trans (g.step n (by omega))

/-- No offset passes the ragged array's end. -/
theorem Good.le {cu : (shape1 17).Idx → BitVec 32} (g : Good cu) {a : ℕ} (h : a ≤ 16) : off cu a ≤ 16384 :=
  g.last ▸ g.mono h le_rfl

/-- Integers that start at zero, end at `N` and never decrease lie between the two. -/
theorem between (f : ℕ → ℤ) (N : ℤ) (h0 : f 0 = 0) (hN : f 16 = N) (h : ∀ j, j < 16 → f j ≤ f (j + 1)) (j : ℕ) (hj : j ≤ 16) : 0 ≤ f j ∧ f j ≤ N := by
  have up : ∀ a b, a ≤ b → b ≤ 16 → f a ≤ f b := by
    intro a b hab hb
    induction b, hab using Nat.le_induction with
    | base => exact le_rfl
    | succ n _ ih => exact (ih (by omega)).trans (h n (by omega))
  exact ⟨h0 ▸ up 0 j (by omega) hj, hN ▸ up j 16 hj le_rfl⟩

/-- A word that is not negative as a signed number is the same number unsigned. -/
theorem toNat_of_nonneg (x : BitVec 32) (h : 0 ≤ x.toInt) : (x.toNat : ℤ) = x.toInt := by
  rw [BitVec.toInt_eq_toNat_cond] at h ⊢
  have := x.isLt
  split at h <;> split <;> omega

/-- Words that read, signed, from zero up to 16384 without a decrease are good offsets. -/
theorem good_of_signed (cu : (shape1 17).Idx → BitVec 32) (h0 : (cu (ix1 (Fin.ofNat 17 0))).toInt = 0) (h16 : (cu (ix1 (Fin.ofNat 17 16))).toInt = 16384)
    (h : ∀ j, j < 16 → (cu (ix1 (Fin.ofNat 17 j))).toInt ≤ (cu (ix1 (Fin.ofNat 17 (j + 1)))).toInt) : Good cu := by
  have hb := between (fun j => (cu (ix1 (Fin.ofNat 17 j))).toInt) 16384 h0 h16 h
  have hn : ∀ j, j ≤ 16 → (off cu j : ℤ) = (cu (ix1 (Fin.ofNat 17 j))).toInt := fun j hj => toNat_of_nonneg _ (hb j hj).1
  refine ⟨?_, ?_, fun j hj => ?_⟩
  · have := hn 0 (by omega); omega
  · have := hn 16 (by omega); omega
  · have h1 := hn j (by omega)
    have h2 := hn (j + 1) (by omega)
    have h3 := h j hj
    omega

section Pre
open Cert.Pre_ragged Cert.Pre_ragged.Facts
variable {F : FTy → Type} [FloatOps F]

/-- The claims' precondition says that the offsets are good. -/
theorem good_of_pre (A : FVec F Cert.Pre_ragged.S16384x256 .f32) (cu : IVec Cert.Pre_ragged.S17 32) (h : Cert.Pre_ragged.fn (F := F) A cu = fun _ => 1#1) : Good cu := by
  have e := congrFun h ix0
  obtain ⟨e1, e2⟩ := IntOp.andi_eq_one.1 e
  obtain ⟨e3, e4⟩ := IntOp.andi_eq_one.1 e1
  have c0 := IntOp.cmpi_eq.1 e3
  have c16 := IntOp.cmpi_eq.1 e4
  haveI : Subsingleton Cert.Pre_ragged.S_.Idx := ⟨fun a b => (eq_ix0 a).trans (eq_ix0 b).symm⟩
  have all := Host.reduce_andi_all _ _ _ _ _ e2
  refine good_of_signed cu ?_ ?_ fun j hj => ?_
  · have : cu (ix1 (Fin.ofNat 17 0)) = 0#32 := by
      have e0 : shapeCast Cert.Pre_ragged.S_ (extractStridedSlice Cert.Pre_ragged.S1 ![0] cu slices_S17_S1_0) shapeCasts_S1_S_ ix0 = cu (ix1 (Fin.ofNat 17 0)) :=
        (shapeCast_apply _ _ _ (ix1 (0 : Fin 1)) (by rw [Shape.rowMajor_val_one]; rfl)).trans (Routing.slice1 0 cu slices_S17_S1_0 0 (by decide))
      exact e0.symm.trans c0
    rw [this]; rfl
  · have : cu (ix1 (Fin.ofNat 17 16)) = 16384#32 := by
      have e0 : shapeCast Cert.Pre_ragged.S_ (extractStridedSlice Cert.Pre_ragged.S1 ![16] cu slices_S17_S1_16) shapeCasts_S1_S_ ix0 = cu (ix1 (Fin.ofNat 17 16)) :=
        (shapeCast_apply _ _ _ (ix1 (0 : Fin 1)) (by rw [Shape.rowMajor_val_one]; rfl)).trans (Routing.slice1 16 cu slices_S17_S1_16 0 (by decide))
      exact e0.symm.trans c16
    rw [this]; rfl
  · have a := IntOp.cmpi_sge.1 (all (ix1 ⟨j, hj⟩))
    have q0 : (⟨0 + j, by omega⟩ : Fin 17) = Fin.ofNat 17 j := Fin.ext (by show 0 + j = j % 17; omega)
    have q1 : (⟨1 + j, by omega⟩ : Fin 17) = Fin.ofNat 17 (j + 1) := Fin.ext (by show 1 + j = (j + 1) % 17; omega)
    have s0 := Routing.slice1 0 cu slices_S17_S16_0 ⟨j, hj⟩ (by show 0 + j < 17; omega)
    have s1 := Routing.slice1 1 cu slices_S17_S16_1 ⟨j, hj⟩ (by show 1 + j < 17; omega)
    rw [← q0, ← q1, ← s0, ← s1]
    exact a

end Pre

/-! ## The batch of a row -/

/-- How many of the seventeen offsets row `r` has reached. -/
def reached (cu : (shape1 17).Idx → BitVec 32) (r : ℕ) : ℕ := Nat.count (fun j => off cu j ≤ r) 17

/-- Row `r`'s batch: the last offset it has reached. -/
def seg (cu : (shape1 17).Idx → BitVec 32) (r : ℕ) : ℕ := reached cu r - 1

/-- A row has reached exactly the first of the offsets. -/
theorem reached_iff {cu : (shape1 17).Idx → BitVec 32} (g : Good cu) (r : ℕ) {j : ℕ} (hj : j < 17) : off cu j ≤ r ↔ j < reached cu r :=
  lt_count_iff (Q := fun j => off cu j ≤ r) (fun _ _ hab hb h => (g.mono hab (by omega)).trans h) hj

/-- Every row of the array has reached the first offset and not the last. -/
theorem reached_bounds {cu : (shape1 17).Idx → BitVec 32} (g : Good cu) {r : ℕ} (hr : r < 16384) : 1 ≤ reached cu r ∧ reached cu r ≤ 16 := by
  constructor
  · exact (reached_iff g r (by omega)).1 (g.first.trans_le (Nat.zero_le r))
  · by_contra h
    have := (reached_iff g r (j := 16) (by omega)).2 (by omega)
    rw [g.last] at this
    omega

/-- Every row lies in its batch, and its batch is one of the sixteen. -/
theorem seg_spec {cu : (shape1 17).Idx → BitVec 32} (g : Good cu) {r : ℕ} (hr : r < 16384) :
    seg cu r < 16 ∧ off cu (seg cu r) ≤ r ∧ r < off cu (seg cu r + 1) := by
  have hb := reached_bounds g hr
  have hs : seg cu r + 1 = reached cu r := by unfold seg; omega
  refine ⟨by omega, (reached_iff g r (by omega)).2 (by omega), ?_⟩
  by_contra h
  have := (reached_iff g r (j := seg cu r + 1) (by omega)).1 (by omega)
  omega

/-- A row that lies in batch `b` has no other batch. -/
theorem seg_eq {cu : (shape1 17).Idx → BitVec 32} (g : Good cu) {r b : ℕ} (hb : b < 16) (h1 : off cu b ≤ r) (h2 : r < off cu (b + 1)) : seg cu r = b := by
  have := (reached_iff g r (by omega)).1 h1
  have h : ¬ b + 1 < reached cu r := fun h => by
    have := (reached_iff g r (j := b + 1) (by omega)).2 h
    omega
  unfold seg
  omega

end Cert.Proof.Offsets

end
-- ==== Proof.Land.lean ====
/-
  Where the reference's scatter puts its rows: update `(r, k)` of a scatter of `[16384, 256]` rows into a `[16, 2048, 256]`
  array, each row at a pair of index words.
-/
module

public import proofs.«01_k».proof.Proof.Gen.ReferenceIdeal
public import Idealize.ShloMosaic.Lib.Routing.OpsSet

@[expose] public section

noncomputable section

namespace Cert.Proof.Land

open Idealize.ShloMosaic Idealize.ShloMosaic.ValueIdx Idealize.ShloMosaic.Routing
open Cert.ReferenceIdeal Cert.ReferenceIdeal.Gen

/-- The reference's scatter. -/
abbrev rowScatter : ScatterDims S16x2048x256 S16384x2 S16384x256 := scatter_S16x2048x256_S16384x2_S16384x256_1_01_01_1

variable (idx : IVec S16384x2 32) (r : Fin 16384) (k : Fin 256)

/-- Row `r`'s start on an axis that the index words name is its index word for that axis. -/
theorem start0 : ScatterDims.start rowScatter (ix2 r k : S16384x256.Idx) idx 0 = (idx (ix2 r (0 : Fin 2))).toInt := by
  unfold ScatterDims.start
  rw [dif_pos (by decide)]
  refine congrArg (fun q => (idx q).toInt) (funext fun b => Fin.ext ?_)
  match b with
  | ⟨0, _⟩ => rfl
  | ⟨1, _⟩ => rfl

/-- The same on the second axis. -/
theorem start1 : ScatterDims.start rowScatter (ix2 r k : S16384x256.Idx) idx 1 = (idx (ix2 r (1 : Fin 2))).toInt := by
  unfold ScatterDims.start
  rw [dif_pos (by decide)]
  refine congrArg (fun q => (idx q).toInt) (funext fun b => Fin.ext ?_)
  match b with
  | ⟨0, _⟩ => rfl
  | ⟨1, _⟩ => rfl

/-- Along a row the scatter starts at zero. -/
theorem start2 : ScatterDims.start rowScatter (ix2 r k : S16384x256.Idx) idx 2 = 0 := by
  unfold ScatterDims.start
  rw [dif_neg (by decide)]

/-- The window has no extent on the two axes that the index words name. -/
theorem window0 : ScatterDims.window rowScatter (ix2 r k : S16384x256.Idx) 0 = 0 := by
  unfold ScatterDims.window
  rw [dif_neg (by decide)]

/-- The same on the second axis. -/
theorem window1 : ScatterDims.window rowScatter (ix2 r k : S16384x256.Idx) 1 = 0 := by
  unfold ScatterDims.window
  rw [dif_neg (by decide)]

/-- Along a row the window is the update's column. -/
theorem window2 : ScatterDims.window rowScatter (ix2 r k : S16384x256.Idx) 2 = k.val := by
  unfold ScatterDims.window
  rw [dif_pos (by decide)]
  rfl

/-- Update `(r, k)` lands at `(b, p, q)` exactly when row `r`'s index words, read signed, are `b` and `p`, and `k` is `q`. -/
theorem lands (b : Fin 16) (p : Fin 2048) (q : Fin 256) :
    ScatterDims.resultIdx? rowScatter (ix2 r k : S16384x256.Idx) idx = some (ix3 b p q : S16x2048x256.Idx)
      ↔ (idx (ix2 r (0 : Fin 2))).toInt = b.val ∧ (idx (ix2 r (1 : Fin 2))).toInt = p.val ∧ k = q := by
  rw [resultIdx?_eq_some]
  constructor
  · intro h
    have h0 := h 0
    have h1 := h 1
    have h2 := h 2
    rw [start0, window0] at h0
    rw [start1, window1] at h1
    rw [start2, window2] at h2
    change _ = ((b.val : ℕ) : ℤ) at h0
    change _ = ((p.val : ℕ) : ℤ) at h1
    change _ = ((q.val : ℕ) : ℤ) at h2
    exact ⟨by omega, by omega, Fin.ext (by omega)⟩
  · rintro ⟨h0, h1, rfl⟩ a
    match a with
    | ⟨0, _⟩ => show ScatterDims.start rowScatter _ idx 0 + (ScatterDims.window rowScatter _ 0 : ℤ) = (b.val : ℤ); rw [start0, window0]; omega
    | ⟨1, _⟩ => show ScatterDims.start rowScatter _ idx 1 + (ScatterDims.window rowScatter _ 1 : ℤ) = (p.val : ℤ); rw [start1, window1]; omega
    | ⟨2, _⟩ => show ScatterDims.start rowScatter _ idx 2 + (ScatterDims.window rowScatter _ 2 : ℤ) = (k.val : ℤ); rw [start2, window2]; omega

end Cert.Proof.Land

end
-- ==== Proof.RefValue.lean ====
/-
  What the reference's padded array holds: at `(b, p, k)`, row `p` of batch `b` where the batch has one, and zero elsewhere.
-/
module

public import proofs.«01_k».proof.Proof.Offsets
public import proofs.«01_k».proof.Proof.Land
public import proofs.«01_k».proof.Proof.Gen.ReferenceIdeal.Run
public import Idealize.ShloMosaic.Lib.Pipeline.Value

@[expose] public section

noncomputable section

namespace Cert.Proof.RefValue

open Idealize.ShloMosaic Idealize.ShloMosaic.ValueIdx Idealize.ShloMosaic.Routing Idealize.SL.Sem
open Cert.ReferenceIdeal Cert.ReferenceIdeal.Gen Cert.Proof.Offsets Cert.Proof.Land

variable (cu : IVec S17 32)

/-! ## The words the reference computes -/

/-- Which offsets each row has reached: row against offset. -/
def reachedW : IVec S16384x17 1 :=
  cmpi .sle (broadcastInDim S16384x17 ![0, 1] bcast_S1x17_S16384x17_0_1 (broadcastInDim S1x17 ![1] bcast_S17_S1x17_1 cu))
    (broadcastInDim S16384x17 ![0, 1] bcast_S16384x1_S16384x17_0_1 (broadcastInDim S16384x1 ![0] bcast_S16384_S16384x1_0 (iotaInDim S16384 32 0)))

/-- How many offsets each row has reached. -/
def countW : IVec S16384 32 := Host.reduce IntOp.addi (extui 32 (reachedW cu) natLt_1_32) (constantI S_ 32 0#32) reducesTo_S16384x17_S16384_d1 h_S_

/-- Each row's batch: the count less one, clipped to the sixteen batches. -/
def segW : IVec S16384 32 :=
  minsi (broadcastInDim S16384 ![] bcast_S_S16384 (id (constantI S_ 32 15#32)))
    (maxsi (broadcastInDim S16384 ![] bcast_S_S16384 (id (constantI S_ 32 0#32)))
      (subi (countW cu) (broadcastInDim S16384 ![] bcast_S_S16384 (constantI S_ 32 1#32))))

/-- An index with a negative one counted from the end of `n`. -/
def wrapW (n : BitVec 32) (x : IVec S16384 32) : IVec S16384 32 :=
  select (cmpi .slt x (broadcastInDim S16384 ![] bcast_S_S16384 (constantI S_ 32 0#32))) (addi x (broadcastInDim S16384 ![] bcast_S_S16384 (constantI S_ 32 n))) x

/-- Each row's place in its batch. -/
def posW : IVec S16384 32 :=
  subi (iotaInDim S16384 32 0)
    (Host.gather gather_S17_S16384x1_S16384_n_0_n_n_0_1_1 cu (broadcastInDim S16384x1 ![0] bcast_S16384_S16384x1_0 (wrapW 17#32 (segW cu))))

/-- Where each row goes: its batch and its place there. -/
def idxW : IVec S16384x2 32 :=
  concatenate S16384x2 1 [⟨S16384x1, broadcastInDim S16384x1 ![0] bcast_S16384_S16384x1_0 (wrapW 16#32 (segW cu))⟩,
    ⟨S16384x1, broadcastInDim S16384x1 ![0] bcast_S16384_S16384x1_0 (wrapW 2048#32 (posW cu))⟩] concatenates_S16384x1_S16384x1_S16384x2_d1

section Res
variable {F : FTy → Type} [FloatOps F]

/-- The reference's first result as the scatter of the rows at those places. -/
theorem res_eq (m : (ℓ : Loc nD τ sig) → Buf (Elt F) ℓ) (c : Dev nD) :
    Value.res_main_v33 m c = Host.scatter rowScatter (fun _ b => b)
      (broadcastInDim S16x2048x256 ![] bcast_S_S16x2048x256 (constant S_ .f32 0x00000000#32)) (idxW (m ((c.tc : Thread nD τ).loc main_arg1)))
      (m ((c.tc : Thread nD τ).loc main_arg0)) := rfl

end Res

/-! ## What the words are -/

variable {cu} (g : Good cu)
include g

/-- Bit `(r, j)` says that row `r` has reached offset `j`. -/
theorem reachedW_iff (r : Fin 16384) (j : Fin 17) : reachedW cu (ix2 r j) = 1#1 ↔ off cu j.val ≤ r.val := by
  have h1 : broadcastInDim S16384x17 ![0, 1] bcast_S1x17_S16384x17_0_1 (broadcastInDim S1x17 ![1] bcast_S17_S1x17_1 cu) (ix2 r j) = cu (ix1 j) :=
    bcCols bcast_S17_S1x17_1 bcast_S1x17_S16384x17_0_1 cu r j
  have h2 : broadcastInDim S16384x17 ![0, 1] bcast_S16384x1_S16384x17_0_1 (broadcastInDim S16384x1 ![0] bcast_S16384_S16384x1_0 (iotaInDim S16384 32 0)) (ix2 r j)
      = BitVec.ofNat 32 r.val :=
    bcRows bcast_S16384_S16384x1_0 bcast_S16384x1_S16384x17_0_1 (iotaInDim S16384 32 0) r j
  have e : reachedW cu (ix2 r j) = IntOp.cmpi .sle (cu (ix1 j)) (BitVec.ofNat 32 r.val) := congrArg₂ (IntOp.cmpi .sle) h1 h2
  have hl := g.le (a := j.val) (by omega)
  have hr := r.isLt
  have ho : off cu j.val = (cu (ix1 j)).toNat := off_eq cu j.val j.isLt
  rw [e, IntOp.cmpi_sle, StableHlo.Predicate.toInt_ofNat_small _ (by omega), BitVec.toInt_eq_toNat_of_lt (by omega)]
  omega

/-- Row `r`'s count. -/
theorem countW_at (r : Fin 16384) : countW cu (ix1 r) = BitVec.ofNat 32 (reached cu r.val) :=
  reduce_count (by decide) (reachedW cu) natLt_1_32 reducesTo_S16384x17_S16384_d1 h_S_ r (fun j => off cu j ≤ r.val) fun j => reachedW_iff g r j

omit g in
/-- A constant spread over the rows is that constant. -/
theorem bcConst (x : BitVec 32) (r : Fin 16384) : broadcastInDim S16384 ![] bcast_S_S16384 (constantI S_ 32 x) (ix1 r) = x :=
  bc0 bcast_S_S16384 (constantI S_ 32 x) (ix1 r)

/-- Row `r`'s batch. -/
theorem segW_at (r : Fin 16384) : segW cu (ix1 r) = BitVec.ofNat 32 (seg cu r.val) := by
  have hb := reached_bounds g r.isLt
  have h15 : broadcastInDim S16384 ![] bcast_S_S16384 (id (constantI S_ 32 15#32)) (ix1 r) = 15#32 := bcConst 15#32 r
  have h0 : broadcastInDim S16384 ![] bcast_S_S16384 (id (constantI S_ 32 0#32)) (ix1 r) = 0#32 := bcConst 0#32 r
  have h1 := bcConst 1#32 r
  have e : segW cu (ix1 r) = IntOp.minsi 15#32 (IntOp.maxsi 0#32 (IntOp.subi (countW cu (ix1 r)) 1#32)) := by
    rw [← h15, ← h0, ← h1]
    rfl
  have hs : IntOp.subi (BitVec.ofNat 32 (reached cu r.val)) 1#32 = BitVec.ofNat 32 (reached cu r.val - 1) := by
    apply BitVec.eq_of_toNat_eq
    show (BitVec.ofNat 32 (reached cu r.val) - 1#32).toNat = _
    rw [BitVec.toNat_sub, BitVec.toNat_ofNat, BitVec.toNat_ofNat, BitVec.toNat_ofNat]
    omega
  rw [e, countW_at g, hs]
  refine (clip_word (x := reached cu r.val - 1) (lo := 0) (hi := 15) (by omega) (by omega) (by omega)).trans (congrArg _ ?_)
  unfold seg
  omega

omit g in
/-- A word of a small natural is not wrapped. -/
theorem wrapW_at (n : BitVec 32) (x : IVec S16384 32) (r : Fin 16384) {a : ℕ} (ha : a < 2 ^ 31) (hx : x (ix1 r) = BitVec.ofNat 32 a) :
    wrapW n x (ix1 r) = BitVec.ofNat 32 a := by
  have e : wrapW n x (ix1 r) = Scalar.select (IntOp.cmpi .slt (x (ix1 r)) 0#32) (IntOp.addi (x (ix1 r)) n) (x (ix1 r)) := by
    show Scalar.select (IntOp.cmpi .slt (x (ix1 r)) (broadcastInDim S16384 ![] bcast_S_S16384 (constantI S_ 32 0#32) (ix1 r)))
      (IntOp.addi (x (ix1 r)) (broadcastInDim S16384 ![] bcast_S_S16384 (constantI S_ 32 n) (ix1 r))) (x (ix1 r)) = _
    rw [bcConst, bcConst]
  rw [e, wrap_of_lt _ _ (by rw [hx, BitVec.toNat_ofNat]; omega), hx]

/-- Row `r`'s place in its batch. -/
theorem posW_at (r : Fin 16384) : posW cu (ix1 r) = BitVec.ofNat 32 (r.val - off cu (seg cu r.val)) := by
  obtain ⟨h16, hle, hlt⟩ := seg_spec g r.isLt
  have hr := r.isLt
  have hg : Host.gather gather_S17_S16384x1_S16384_n_0_n_n_0_1_1 cu (broadcastInDim S16384x1 ![0] bcast_S16384_S16384x1_0 (wrapW 17#32 (segW cu))) (ix1 r)
      = cu (ix1 ⟨seg cu r.val, by omega⟩) :=
    take_ap gather_S17_S16384x1_S16384_n_0_n_n_0_1_1 rfl rfl rfl rfl cu _ r (by omega) (by omega)
      ((bcCol bcast_S16384_S16384x1_0 (wrapW 17#32 (segW cu)) r).trans (wrapW_at 17#32 _ r (by omega) (segW_at g r)))
  have e : posW cu (ix1 r) = IntOp.subi (BitVec.ofNat 32 r.val) (cu (ix1 ⟨seg cu r.val, by omega⟩)) := congrArg (IntOp.subi (BitVec.ofNat 32 r.val)) hg
  have ho := off_eq cu (seg cu r.val) (by omega)
  rw [e]
  apply BitVec.eq_of_toNat_eq
  show (BitVec.ofNat 32 r.val - cu (ix1 ⟨seg cu r.val, by omega⟩)).toNat = _
  rw [BitVec.toNat_sub, BitVec.toNat_ofNat, BitVec.toNat_ofNat, ← ho]
  omega

/-- Row `r`'s first index word is its batch. -/
theorem idxW_0 (r : Fin 16384) : (idxW cu (ix2 r (0 : Fin 2))).toInt = (seg cu r.val : ℤ) := by
  obtain ⟨h16, hle, hlt⟩ := seg_spec g r.isLt
  have e : idxW cu (ix2 r (0 : Fin 2)) = broadcastInDim S16384x1 ![0] bcast_S16384_S16384x1_0 (wrapW 16#32 (segW cu)) (ix2 r (0 : Fin 1)) :=
    concatenate_pair_apply_left (t := S16384x2) (s₁ := S16384x1) (s₂ := S16384x1) (1 : Fin 2) _ _ concatenates_S16384x1_S16384x1_S16384x2_d1 _ rfl _ fun b => by
      match b with
      | ⟨0, _⟩ => rfl
      | ⟨1, _⟩ => rfl
  rw [e, bcCol bcast_S16384_S16384x1_0 (wrapW 16#32 (segW cu)) r, wrapW_at 16#32 _ r (by omega) (segW_at g r), StableHlo.Predicate.toInt_ofNat_small _ (by omega)]

/-- Row `r`'s second index word is its place in its batch. -/
theorem idxW_1 (r : Fin 16384) : (idxW cu (ix2 r (1 : Fin 2))).toInt = ((r.val - off cu (seg cu r.val) : ℕ) : ℤ) := by
  have hr := r.isLt
  have e : idxW cu (ix2 r (1 : Fin 2)) = broadcastInDim S16384x1 ![0] bcast_S16384_S16384x1_0 (wrapW 2048#32 (posW cu)) (ix2 r (0 : Fin 1)) :=
    concatenate_pair_apply_right (t := S16384x2) (s₁ := S16384x1) (s₂ := S16384x1) (1 : Fin 2) _ _ concatenates_S16384x1_S16384x1_S16384x2_d1 _ rfl rfl _
      (fun b hb => by
        match b with
        | ⟨0, _⟩ => rfl
        | ⟨1, _⟩ => exact absurd rfl hb) (by rfl)
  rw [e, bcCol bcast_S16384_S16384x1_0 (wrapW 2048#32 (posW cu)) r, wrapW_at 2048#32 _ r (by omega) (posW_at g r), StableHlo.Predicate.toInt_ofNat_small _ (by omega)]

/-! ## The scatter's value -/

/-- Row `r` lands at place `p` of batch `b` exactly when it is that batch's row `p`. -/
theorem lands_iff (r : Fin 16384) (k q : Fin 256) (b : Fin 16) (p : Fin 2048) :
    ScatterDims.resultIdx? rowScatter (ix2 r k : S16384x256.Idx) (idxW cu) = some (ix3 b p q : S16x2048x256.Idx)
      ↔ r.val = off cu b.val + p.val ∧ r.val < off cu (b.val + 1) ∧ k = q := by
  obtain ⟨h16, hle, hlt⟩ := seg_spec g r.isLt
  rw [lands, idxW_0 g, idxW_1 g]
  constructor
  · rintro ⟨h0, h1, h2⟩
    have hs : seg cu r.val = b.val := by omega
    rw [hs] at h1 hle hlt
    exact ⟨by omega, hlt, h2⟩
  · rintro ⟨h0, h1, h2⟩
    have hs : seg cu r.val = b.val := seg_eq g b.isLt (by omega) h1
    rw [hs]
    exact ⟨rfl, by omega, h2⟩

/-- Where batch `b` has a row `p`, the scatter leaves that row. -/
theorem scatter_row {α : Type} (x0 : S16x2048x256.Idx → α) (A : S16384x256.Idx → α) (b : Fin 16) (p : Fin 2048) (q : Fin 256)
    (h : off cu b.val + p.val < off cu (b.val + 1)) (hr : off cu b.val + p.val < 16384) :
    Host.scatter rowScatter (fun _ b => b) x0 (idxW cu) A (ix3 b p q) = A (ix2 ⟨off cu b.val + p.val, hr⟩ q) := by
  refine scatter_set_hit rowScatter x0 (idxW cu) A (ix3 b p q) _ (fun k hk => ?_) (ix2 ⟨off cu b.val + p.val, hr⟩ q) ((lands_iff g _ _ _ _ _).2 ⟨rfl, h, rfl⟩)
  rw [eq_ix2 k] at hk ⊢
  obtain ⟨h0, -, h2⟩ := (lands_iff g _ _ _ _ _).1 hk
  exact congrArg A (congrArg₂ ix2 (Fin.ext h0) h2)

/-- Where it has none, the scatter leaves what was there. -/
theorem scatter_pad {α : Type} (x0 : S16x2048x256.Idx → α) (A : S16384x256.Idx → α) (b : Fin 16) (p : Fin 2048) (q : Fin 256)
    (h : off cu (b.val + 1) ≤ off cu b.val + p.val) :
    Host.scatter rowScatter (fun _ b => b) x0 (idxW cu) A (ix3 b p q) = x0 (ix3 b p q) := by
  refine scatter_set_miss rowScatter x0 (idxW cu) A (ix3 b p q) fun k hk => ?_
  rw [eq_ix2 k] at hk
  obtain ⟨h0, h1, -⟩ := (lands_iff g _ _ _ _ _).1 hk
  omega

end Cert.Proof.RefValue

end
-- ==== Proof.Ends.lean ====
/-
  The two ends meet: the precondition gives the kernel what its run asks for, and the kernel's padded array is the
  reference's.
-/
module

public import proofs.«01_k».proof.Defs
public import proofs.«01_k».proof.Proof.IdealMain
public import proofs.«01_k».proof.Proof.RefValue

@[expose] public section

noncomputable section

namespace Cert.Proof.Ends

open Idealize.ShloMosaic Idealize.ShloMosaic.ValueIdx Idealize.ShloMosaic.Routing Idealize.SL.Sem
open Cert.Proof.Offsets Cert.Proof.Land Cert.Proof.RefValue

/-! ## Starts and lengths -/

/-- The two names of lane `s` of a vector of sixteen. -/
theorem lane_eq (s : Fin 16) : (Shape.ofLane (d := ![16]) s : (shape1 16).Idx) = ix1 s := by
  funext a
  match a with
  | ⟨0, _⟩ => rfl

/-- Batch `s` starts at offset `s`. -/
theorem start_at (cu : (shape1 17).Idx → BitVec 32) (h : (shape1 17).Slices ![0] (shape1 16)) (s : Fin 16) :
    (extractStridedSlice (shape1 16) ![0] cu h (Shape.ofLane (d := ![16]) s)).toNat = off cu s.val := by
  rw [lane_eq, slice1 0 cu h s (by omega), off_eq cu s.val (by omega)]
  exact congrArg (fun q => (cu (ix1 q)).toNat) (Fin.ext (Nat.zero_add _))

/-- Batch `s` reaches from offset `s` to offset `s + 1`. -/
theorem len_at {cu : (shape1 17).Idx → BitVec 32} (g : Good cu) (h1 : (shape1 17).Slices ![1] (shape1 16)) (h0 : (shape1 17).Slices ![0] (shape1 16)) (s : Fin 16) :
    (subi (extractStridedSlice (shape1 16) ![1] cu h1) (extractStridedSlice (shape1 16) ![0] cu h0) (Shape.ofLane (d := ![16]) s)).toNat
      = off cu (s.val + 1) - off cu s.val := by
  have e0 := start_at cu h0 s
  have e1 : (extractStridedSlice (shape1 16) ![1] cu h1 (Shape.ofLane (d := ![16]) s)).toNat = off cu (s.val + 1) := by
    rw [lane_eq, slice1 1 cu h1 s (by omega), off_eq cu (s.val + 1) (by omega)]
    exact congrArg (fun q => (cu (ix1 q)).toNat) (Fin.ext (Nat.add_comm _ _))
  have hs := g.step s.val s.isLt
  have hl := g.le (a := s.val + 1) (by omega)
  show (extractStridedSlice (shape1 16) ![1] cu h1 (Shape.ofLane (d := ![16]) s) - extractStridedSlice (shape1 16) ![0] cu h0 (Shape.ofLane (d := ![16]) s)).toNat = _
  rw [BitVec.toNat_sub, e0, e1]
  omega

/-- A batch between good offsets lies within the ragged array. -/
theorem fits {cu : (shape1 17).Idx → BitVec 32} (g : Good cu) (s : Fin 16) : off cu s.val + (off cu (s.val + 1) - off cu s.val) ≤ 16384 := by
  have hs := g.step s.val s.isLt
  have hl := g.le (a := s.val + 1) (by omega)
  omega

/-! ## What the runs ask for -/

/-- The precondition of the kernel at its bits gives what its run asks for. -/
theorem ok_kernel (m : (ℓ : Loc Cert.Kernel.nD Cert.Kernel.τ Cert.Kernel.sig) → Buf (Elt Bits) ℓ) (h : Pre_Kernel m) : Kern.PreOK m := fun d s => by
  have g := good_of_pre _ _ (h d)
  have e0 := start_at (m (Kern.csLoc d)) Cert.Kernel.Gen.slices_S17_S16_0 s
  have e1 := len_at g Cert.Kernel.Gen.slices_S17_S16_1 Cert.Kernel.Gen.slices_S17_S16_0 s
  exact (congrArg₂ (· + ·) e0 e1).trans_le (fits g s)

/-- The precondition of the kernel at the ideal numbers gives good offsets. -/
theorem good_ideal (m : (ℓ : Loc Cert.KernelIdeal.nD Cert.KernelIdeal.τ Cert.KernelIdeal.sig) → Buf (Elt Ideal) ℓ) (h : Pre_KernelIdeal m)
    (d : Dev Cert.KernelIdeal.nD) : Good (m (KernIdeal.csLoc d)) := good_of_pre _ _ (h d)

/-- The precondition of the kernel at the ideal numbers gives what its run asks for. -/
theorem ok_ideal (m : (ℓ : Loc Cert.KernelIdeal.nD Cert.KernelIdeal.τ Cert.KernelIdeal.sig) → Buf (Elt Ideal) ℓ) (h : Pre_KernelIdeal m) : KernIdeal.PreOK m := fun d s => by
  have g := good_ideal m h d
  have e0 := start_at (m (KernIdeal.csLoc d)) Cert.KernelIdeal.Gen.slices_S17_S16_0 s
  have e1 := len_at g Cert.KernelIdeal.Gen.slices_S17_S16_1 Cert.KernelIdeal.Gen.slices_S17_S16_0 s
  exact (congrArg₂ (· + ·) e0 e1).trans_le (fits g s)

/-! ## The padded arrays are one -/

section Value
variable {F : FTy → Type} [FloatOps F]

/-- Row `p` of batch `b` in the kernel's padded array is row `2048 b + p` of the blocks that the tiles write. -/
theorem cast_at {α : Type} (x : Cert.KernelIdeal.S32768x256.Idx → α) (b : Fin 16) (p : Fin 2048) (q : Fin 256) :
    shapeCast Cert.KernelIdeal.S16x2048x256 x Cert.KernelIdeal.Gen.shapeCasts_S32768x256_S16x2048x256 (ix3 b p q)
      = x (ix2 (⟨2048 * b.val + p.val, by omega⟩ : Fin 32768) q) := by
  refine shapeCast_apply x _ _ _ ?_
  rw [Shape.rowMajor_val_two, Shape.rowMajor_val_three]
  show (2048 * b.val + p.val) * 256 + q.val = (b.val * 2048 + p.val) * 256 + q.val
  omega

/-- The kernel's index of a row is the reference's. -/
theorem rowAt_eq (r : ℕ) (h : r < 16384) (k : Fin 256) : KernIdeal.rowAt r h k = ix2 (⟨r, h⟩ : Fin 16384) k := by
  funext a
  match a with
  | ⟨0, _⟩ => rfl
  | ⟨1, _⟩ => rfl

/-- The blocks that the tiles write, read at row `p` of batch `b`. -/
theorem padded_at (cs ls : Cert.KernelIdeal.S16.Idx → BitVec 32) (A : Cert.KernelIdeal.S16384x256.Idx → Elt F .f32) (z : Elt F .f32) (b : Fin 16) (p : Fin 2048) (q : Fin 256) :
    KernIdeal.padded cs ls A z (ix2 (⟨2048 * b.val + p.val, by omega⟩ : Fin 32768) q) = KernIdeal.padRow cs ls A z b p.val q := by
  have h1 : (2048 * b.val + p.val) / 2048 = b.val := by omega
  have h2 : (2048 * b.val + p.val) % 2048 = p.val := by omega
  have hb : (⟨(2048 * b.val + p.val) / 2048, by omega⟩ : Fin 16) = b := Fin.ext h1
  exact congrArg₂ (fun s n => KernIdeal.padRow cs ls A z s n q) hb h2

/-- From good offsets, the kernel's padded array is the one the reference's scatter makes. -/
theorem value_eq (m : (ℓ : Loc Cert.KernelIdeal.nD Cert.KernelIdeal.τ Cert.KernelIdeal.sig) → Buf (Elt F) ℓ) (d : Dev Cert.KernelIdeal.nD)
    (g : Good (m (KernIdeal.csLoc d))) :
    KernIdeal.Rv m d = Host.scatter rowScatter (fun _ b => b)
      (broadcastInDim Cert.ReferenceIdeal.S16x2048x256 ![] Cert.ReferenceIdeal.Gen.bcast_S_S16x2048x256 (constant (F := F) Cert.ReferenceIdeal.S_ .f32 0x00000000#32))
      (idxW (m (KernIdeal.csLoc d))) (m (KernIdeal.aLoc d)) := by
  funext i
  obtain ⟨b, p, q, rfl⟩ : ∃ (b : Fin 16) (p : Fin 2048) (q : Fin 256), i = ix3 b p q := ⟨i 0, i 1, i 2, eq_ix3 i⟩
  have e0 : (KernIdeal.starts m d (KernIdeal.lane b)).toNat = off (m (KernIdeal.csLoc d)) b.val := start_at (m (KernIdeal.csLoc d)) Cert.KernelIdeal.Gen.slices_S17_S16_0 b
  have e1 : (KernIdeal.lens m d (KernIdeal.lane b)).toNat = off (m (KernIdeal.csLoc d)) (b.val + 1) - off (m (KernIdeal.csLoc d)) b.val :=
    len_at g Cert.KernelIdeal.Gen.slices_S17_S16_1 Cert.KernelIdeal.Gen.slices_S17_S16_0 b
  have hs := g.step b.val b.isLt
  have hl := g.le (a := b.val + 1) (by omega)
  refine (cast_at (KernIdeal.X m d) b p q).trans ((padded_at _ _ _ _ b p q).trans ?_)
  unfold KernIdeal.padRow
  by_cases h : off (m (KernIdeal.csLoc d)) b.val + p.val < off (m (KernIdeal.csLoc d)) (b.val + 1)
  · rw [dif_pos ⟨by omega, by omega⟩, rowAt_eq]
    refine Eq.trans (congrArg (m (KernIdeal.aLoc d)) ?_) (scatter_row g _ (m (KernIdeal.aLoc d)) b p q h (by omega)).symm
    exact congrArg (fun r => (ix2 r q : Cert.KernelIdeal.S16384x256.Idx)) (Fin.ext (congrArg (· + p.val) e0))
  · rw [dif_neg fun hh => h (by omega)]
    refine Eq.trans ?_ (scatter_pad g _ (m (KernIdeal.aLoc d)) b p q (by omega)).symm
    exact (bc0 Cert.ReferenceIdeal.Gen.bcast_S_S16x2048x256 (constant (F := F) Cert.ReferenceIdeal.S_ .f32 0x00000000#32) _).symm

end Value

end Cert.Proof.Ends

end
-- ==== Proof.lean ====
/-
  The proof of `Cert.Claim`: the kernel's run at its bits and at the ideal numbers, the reference's run, and the equality of
  the two results.
-/
module

public import proofs.«01_k».proof.Defs
public import proofs.«01_k».proof.Proof.Ends
public import Idealize.ShloMosaic.Lib.Quiescent

@[expose] public section

noncomputable section

namespace Cert.Proof

open Idealize.ShloMosaic Idealize.SL.Sem

/-- The kernel at its bits runs, leaves its arguments and no semaphore raised. -/
theorem frame_kernel : Cert.quiescent_Kernel := fun m g hpre =>
  (θ_run Cert.Kernel.defs _ _).mono (fun _ h => ⟨fun c => ⟨(h.1 c).1, (h.1 c).2.1⟩, h.2⟩) (Kern.run_main (F := Bits) m g (Ends.ok_kernel m hpre))

/-- The kernel at the ideal numbers runs, leaves its arguments and no semaphore raised. -/
theorem frame_ideal : Cert.quiescent_KernelIdeal := fun m g hpre =>
  (θ_run Cert.KernelIdeal.defs _ _).mono (fun _ h => ⟨fun c => ⟨(h.1 c).1, (h.1 c).2.1⟩, h.2⟩) (KernIdeal.run_main (F := Ideal) m g (Ends.ok_ideal m hpre))

/-- The reference runs, leaves its arguments and no semaphore raised: it has none. -/
theorem frame_reference : Cert.quiescent_ReferenceIdeal := fun m g _ =>
  (θ_run Cert.ReferenceIdeal.defs _ _).mono (fun r h => ⟨fun c => (h c).2.2, sem_eq_zero_of_no_sems rfl r.2⟩)
    (Cert.ReferenceIdeal.Value.run (F := Ideal) m g)

/-- The kernel and the reference end with the same padded array and the same lengths. -/
theorem same : Cert.algebraic_KernelIdeal_ReferenceIdeal := fun m g m' g' hpre hargs => by
  refine ⟨fun c => KernIdeal.Rv m c, fun c => KernIdeal.lens m c, ?_, ?_⟩
  · exact (θ_run Cert.KernelIdeal.defs _ _).mono (fun _ h c => ⟨(h.1 c).2.2.1, (h.1 c).2.2.2, (h.1 c).1, (h.1 c).2.1⟩)
      (KernIdeal.run_main (F := Ideal) m g (Ends.ok_ideal m hpre))
  · refine (θ_run Cert.ReferenceIdeal.defs _ _).mono (fun _ h c => ⟨?_, ?_, (h c).2.2⟩) (Cert.ReferenceIdeal.Value.run (F := Ideal) m' g')
    · refine (h c).1.trans ((RefValue.res_eq m' c).trans ?_)
      rw [(hargs c).1, (hargs c).2]
      exact (Ends.value_eq m c (Ends.good_ideal m hpre c)).symm
    · refine (h c).2.1.trans ?_
      rw [(hargs c).2]
      rfl

/-- Everything that is claimed. -/
theorem claim : Cert.Claim := ⟨Cert.Kernel.Gen.facts, Cert.KernelIdeal.Gen.facts, Cert.ReferenceIdeal.Gen.facts, Cert.Pre_ragged.Gen.facts,
  frame_kernel, frame_ideal, frame_reference, fun m g _ => frame_reference m g trivial, trivial, same⟩

end Cert.Proof

end
